-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def Pre_Ff (m : (ℓ : Loc Cert.Ff.nD Cert.Ff.τ Cert.Ff.sig) → Buf (Elt Bits) ℓ) : Prop :=
  True

def Pre_FfIdeal (m : (ℓ : Loc Cert.FfIdeal.nD Cert.FfIdeal.τ Cert.FfIdeal.sig) → Buf (Elt Ideal) ℓ) : Prop :=
  True

def Pre_FfReferenceIdeal (m : (ℓ : Loc Cert.FfReferenceIdeal.nD Cert.FfReferenceIdeal.τ Cert.FfReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerReferenceIdeal (m : (ℓ : Loc Cert.InnerReferenceIdeal.nD Cert.InnerReferenceIdeal.τ Cert.InnerReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ff [hFf : Cert.Ff.Facts] : Prop :=
  ∀ (m : (ℓ : Loc Cert.Ff.nD Cert.Ff.τ Cert.Ff.sig) → Buf (Elt Bits) ℓ) (g : Dev Cert.Ff.nD → PrngReg), Pre_Ff m →
    θ_run (Cert.Ff.defs (F := Bits)) (onTc (τ := Cert.Ff.τ) (Cert.Ff.main (F := Bits))) ⟨m, fun _ => 0, g⟩ (fun r => (∀ c : Dev Cert.Ff.nD,
      r.2.mem ((c.tc : Thread Cert.Ff.nD Cert.Ff.τ).loc Cert.Ff.main_arg0) = m ((c.tc : Thread Cert.Ff.nD Cert.Ff.τ).loc Cert.Ff.main_arg0)
      ∧ r.2.mem ((c.tc : Thread Cert.Ff.nD Cert.Ff.τ).loc Cert.Ff.main_arg1) = m ((c.tc : Thread Cert.Ff.nD Cert.Ff.τ).loc Cert.Ff.main_arg1)
      ∧ r.2.mem ((c.tc : Thread Cert.Ff.nD Cert.Ff.τ).loc Cert.Ff.main_arg2) = m ((c.tc : Thread Cert.Ff.nD Cert.Ff.τ).loc Cert.Ff.main_arg2)
      ∧ r.2.mem ((c.tc : Thread Cert.Ff.nD Cert.Ff.τ).loc Cert.Ff.main_arg3) = m ((c.tc : Thread Cert.Ff.nD Cert.Ff.τ).loc Cert.Ff.main_arg3)
      ∧ r.2.mem ((c.tc : Thread Cert.Ff.nD Cert.Ff.τ).loc Cert.Ff.main_arg4) = m ((c.tc : Thread Cert.Ff.nD Cert.Ff.τ).loc Cert.Ff.main_arg4))
      ∧ r.2.sem = fun _ => 0)

def quiescent_FfIdeal [hFfIdeal : Cert.FfIdeal.Facts] : Prop :=
  ∀ (m : (ℓ : Loc Cert.FfIdeal.nD Cert.FfIdeal.τ Cert.FfIdeal.sig) → Buf (Elt Ideal) ℓ) (g : Dev Cert.FfIdeal.nD → PrngReg), Pre_FfIdeal m →
    θ_run (Cert.FfIdeal.defs (F := Ideal)) (onTc (τ := Cert.FfIdeal.τ) (Cert.FfIdeal.main (F := Ideal))) ⟨m, fun _ => 0, g⟩ (fun r => (∀ c : Dev Cert.FfIdeal.nD,
      r.2.mem ((c.tc : Thread Cert.FfIdeal.nD Cert.FfIdeal.τ).loc Cert.FfIdeal.main_arg0) = m ((c.tc : Thread Cert.FfIdeal.nD Cert.FfIdeal.τ).loc Cert.FfIdeal.main_arg0)
      ∧ r.2.mem ((c.tc : Thread Cert.FfIdeal.nD Cert.FfIdeal.τ).loc Cert.FfIdeal.main_arg1) = m ((c.tc : Thread Cert.FfIdeal.nD Cert.FfIdeal.τ).loc Cert.FfIdeal.main_arg1)
      ∧ r.2.mem ((c.tc : Thread Cert.FfIdeal.nD Cert.FfIdeal.τ).loc Cert.FfIdeal.main_arg2) = m ((c.tc : Thread Cert.FfIdeal.nD Cert.FfIdeal.τ).loc Cert.FfIdeal.main_arg2)
      ∧ r.2.mem ((c.tc : Thread Cert.FfIdeal.nD Cert.FfIdeal.τ).loc Cert.FfIdeal.main_arg3) = m ((c.tc : Thread Cert.FfIdeal.nD Cert.FfIdeal.τ).loc Cert.FfIdeal.main_arg3)
      ∧ r.2.mem ((c.tc : Thread Cert.FfIdeal.nD Cert.FfIdeal.τ).loc Cert.FfIdeal.main_arg4) = m ((c.tc : Thread Cert.FfIdeal.nD Cert.FfIdeal.τ).loc Cert.FfIdeal.main_arg4))
      ∧ r.2.sem = fun _ => 0)

def quiescent_FfReferenceIdeal [hFfReferenceIdeal : Cert.FfReferenceIdeal.Facts] : Prop :=
  ∀ (m : (ℓ : Loc Cert.FfReferenceIdeal.nD Cert.FfReferenceIdeal.τ Cert.FfReferenceIdeal.sig) → Buf (Elt Ideal) ℓ) (g : Dev Cert.FfReferenceIdeal.nD → PrngReg), Pre_FfReferenceIdeal m →
    θ_run (Cert.FfReferenceIdeal.defs (F := Ideal)) (onTc (τ := Cert.FfReferenceIdeal.τ) (Cert.FfReferenceIdeal.main (F := Ideal))) ⟨m, fun _ => 0, g⟩ (fun r => (∀ c : Dev Cert.FfReferenceIdeal.nD,
      r.2.mem ((c.tc : Thread Cert.FfReferenceIdeal.nD Cert.FfReferenceIdeal.τ).loc Cert.FfReferenceIdeal.main_arg0) = m ((c.tc : Thread Cert.FfReferenceIdeal.nD Cert.FfReferenceIdeal.τ).loc Cert.FfReferenceIdeal.main_arg0)
      ∧ r.2.mem ((c.tc : Thread Cert.FfReferenceIdeal.nD Cert.FfReferenceIdeal.τ).loc Cert.FfReferenceIdeal.main_arg1) = m ((c.tc : Thread Cert.FfReferenceIdeal.nD Cert.FfReferenceIdeal.τ).loc Cert.FfReferenceIdeal.main_arg1)
      ∧ r.2.mem ((c.tc : Thread Cert.FfReferenceIdeal.nD Cert.FfReferenceIdeal.τ).loc Cert.FfReferenceIdeal.main_arg2) = m ((c.tc : Thread Cert.FfReferenceIdeal.nD Cert.FfReferenceIdeal.τ).loc Cert.FfReferenceIdeal.main_arg2)
      ∧ r.2.mem ((c.tc : Thread Cert.FfReferenceIdeal.nD Cert.FfReferenceIdeal.τ).loc Cert.FfReferenceIdeal.main_arg3) = m ((c.tc : Thread Cert.FfReferenceIdeal.nD Cert.FfReferenceIdeal.τ).loc Cert.FfReferenceIdeal.main_arg3)
      ∧ r.2.mem ((c.tc : Thread Cert.FfReferenceIdeal.nD Cert.FfReferenceIdeal.τ).loc Cert.FfReferenceIdeal.main_arg4) = m ((c.tc : Thread Cert.FfReferenceIdeal.nD Cert.FfReferenceIdeal.τ).loc Cert.FfReferenceIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3)
      ∧ r.2.mem ((c.tc : Thread Cert.Inner.nD Cert.Inner.τ).loc Cert.Inner.main_arg4) = m ((c.tc : Thread Cert.Inner.nD Cert.Inner.τ).loc Cert.Inner.main_arg4))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4))
      ∧ r.2.sem = fun _ => 0)

def quiescent_InnerReferenceIdeal [hInnerReferenceIdeal : Cert.InnerReferenceIdeal.Facts] : Prop :=
  ∀ (m : (ℓ : Loc Cert.InnerReferenceIdeal.nD Cert.InnerReferenceIdeal.τ Cert.InnerReferenceIdeal.sig) → Buf (Elt Ideal) ℓ) (g : Dev Cert.InnerReferenceIdeal.nD → PrngReg), Pre_InnerReferenceIdeal m →
    θ_run (Cert.InnerReferenceIdeal.defs (F := Ideal)) (onTc (τ := Cert.InnerReferenceIdeal.τ) (Cert.InnerReferenceIdeal.main (F := Ideal))) ⟨m, fun _ => 0, g⟩ (fun r => (∀ c : Dev Cert.InnerReferenceIdeal.nD,
      r.2.mem ((c.tc : Thread Cert.InnerReferenceIdeal.nD Cert.InnerReferenceIdeal.τ).loc Cert.InnerReferenceIdeal.main_arg0) = m ((c.tc : Thread Cert.InnerReferenceIdeal.nD Cert.InnerReferenceIdeal.τ).loc Cert.InnerReferenceIdeal.main_arg0)
      ∧ r.2.mem ((c.tc : Thread Cert.InnerReferenceIdeal.nD Cert.InnerReferenceIdeal.τ).loc Cert.InnerReferenceIdeal.main_arg1) = m ((c.tc : Thread Cert.InnerReferenceIdeal.nD Cert.InnerReferenceIdeal.τ).loc Cert.InnerReferenceIdeal.main_arg1)
      ∧ r.2.mem ((c.tc : Thread Cert.InnerReferenceIdeal.nD Cert.InnerReferenceIdeal.τ).loc Cert.InnerReferenceIdeal.main_arg2) = m ((c.tc : Thread Cert.InnerReferenceIdeal.nD Cert.InnerReferenceIdeal.τ).loc Cert.InnerReferenceIdeal.main_arg2)
      ∧ r.2.mem ((c.tc : Thread Cert.InnerReferenceIdeal.nD Cert.InnerReferenceIdeal.τ).loc Cert.InnerReferenceIdeal.main_arg3) = m ((c.tc : Thread Cert.InnerReferenceIdeal.nD Cert.InnerReferenceIdeal.τ).loc Cert.InnerReferenceIdeal.main_arg3)
      ∧ r.2.mem ((c.tc : Thread Cert.InnerReferenceIdeal.nD Cert.InnerReferenceIdeal.τ).loc Cert.InnerReferenceIdeal.main_arg4) = m ((c.tc : Thread Cert.InnerReferenceIdeal.nD Cert.InnerReferenceIdeal.τ).loc Cert.InnerReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ff_FfIdeal : Prop :=
  True

def algebraic_FfIdeal_FfReferenceIdeal [hFfIdeal : Cert.FfIdeal.Facts] [hFfReferenceIdeal : Cert.FfReferenceIdeal.Facts] : Prop :=
  ∀ (m : (ℓ : Loc Cert.FfIdeal.nD Cert.FfIdeal.τ Cert.FfIdeal.sig) → Buf (Elt Ideal) ℓ) (g : Dev Cert.FfIdeal.nD → PrngReg)
    (m' : (ℓ : Loc Cert.FfReferenceIdeal.nD Cert.FfReferenceIdeal.τ Cert.FfReferenceIdeal.sig) → Buf (Elt Ideal) ℓ) (g' : Dev Cert.FfReferenceIdeal.nD → PrngReg), Pre_FfIdeal m →
    (∀ c : Dev Cert.FfIdeal.nD,
      m' ((c.tc : Thread Cert.FfReferenceIdeal.nD Cert.FfReferenceIdeal.τ).loc Cert.FfReferenceIdeal.main_arg0) = m ((c.tc : Thread Cert.FfIdeal.nD Cert.FfIdeal.τ).loc Cert.FfIdeal.main_arg0)
      ∧ m' ((c.tc : Thread Cert.FfReferenceIdeal.nD Cert.FfReferenceIdeal.τ).loc Cert.FfReferenceIdeal.main_arg1) = m ((c.tc : Thread Cert.FfIdeal.nD Cert.FfIdeal.τ).loc Cert.FfIdeal.main_arg1)
      ∧ m' ((c.tc : Thread Cert.FfReferenceIdeal.nD Cert.FfReferenceIdeal.τ).loc Cert.FfReferenceIdeal.main_arg2) = m ((c.tc : Thread Cert.FfIdeal.nD Cert.FfIdeal.τ).loc Cert.FfIdeal.main_arg2)
      ∧ m' ((c.tc : Thread Cert.FfReferenceIdeal.nD Cert.FfReferenceIdeal.τ).loc Cert.FfReferenceIdeal.main_arg3) = m ((c.tc : Thread Cert.FfIdeal.nD Cert.FfIdeal.τ).loc Cert.FfIdeal.main_arg3)
      ∧ m' ((c.tc : Thread Cert.FfReferenceIdeal.nD Cert.FfReferenceIdeal.τ).loc Cert.FfReferenceIdeal.main_arg4) = m ((c.tc : Thread Cert.FfIdeal.nD Cert.FfIdeal.τ).loc Cert.FfIdeal.main_arg4)) →
    ∃ (v0 : (c : Dev Cert.FfIdeal.nD) → Buf (Elt Ideal) ((c.tc : Thread Cert.FfIdeal.nD Cert.FfIdeal.τ).loc Cert.FfIdeal.main_v0)),
      θ_run (Cert.FfIdeal.defs (F := Ideal)) (onTc (τ := Cert.FfIdeal.τ) (Cert.FfIdeal.main (F := Ideal))) ⟨m, fun _ => 0, g⟩ (fun r => ∀ c : Dev Cert.FfIdeal.nD,
          r.2.mem ((c.tc : Thread Cert.FfIdeal.nD Cert.FfIdeal.τ).loc Cert.FfIdeal.main_v0) = v0 c
          ∧ r.2.mem ((c.tc : Thread Cert.FfIdeal.nD Cert.FfIdeal.τ).loc Cert.FfIdeal.main_arg0) = m ((c.tc : Thread Cert.FfIdeal.nD Cert.FfIdeal.τ).loc Cert.FfIdeal.main_arg0)
          ∧ r.2.mem ((c.tc : Thread Cert.FfIdeal.nD Cert.FfIdeal.τ).loc Cert.FfIdeal.main_arg1) = m ((c.tc : Thread Cert.FfIdeal.nD Cert.FfIdeal.τ).loc Cert.FfIdeal.main_arg1)
          ∧ r.2.mem ((c.tc : Thread Cert.FfIdeal.nD Cert.FfIdeal.τ).loc Cert.FfIdeal.main_arg2) = m ((c.tc : Thread Cert.FfIdeal.nD Cert.FfIdeal.τ).loc Cert.FfIdeal.main_arg2)
          ∧ r.2.mem ((c.tc : Thread Cert.FfIdeal.nD Cert.FfIdeal.τ).loc Cert.FfIdeal.main_arg3) = m ((c.tc : Thread Cert.FfIdeal.nD Cert.FfIdeal.τ).loc Cert.FfIdeal.main_arg3)
          ∧ r.2.mem ((c.tc : Thread Cert.FfIdeal.nD Cert.FfIdeal.τ).loc Cert.FfIdeal.main_arg4) = m ((c.tc : Thread Cert.FfIdeal.nD Cert.FfIdeal.τ).loc Cert.FfIdeal.main_arg4))
      ∧ θ_run (Cert.FfReferenceIdeal.defs (F := Ideal)) (onTc (τ := Cert.FfReferenceIdeal.τ) (Cert.FfReferenceIdeal.main (F := Ideal))) ⟨m', fun _ => 0, g'⟩ (fun r => ∀ c : Dev Cert.FfReferenceIdeal.nD,
          r.2.mem ((c.tc : Thread Cert.FfReferenceIdeal.nD Cert.FfReferenceIdeal.τ).loc Cert.FfReferenceIdeal.main_v30) = v0 c
          ∧ r.2.mem ((c.tc : Thread Cert.FfReferenceIdeal.nD Cert.FfReferenceIdeal.τ).loc Cert.FfReferenceIdeal.main_arg0) = m' ((c.tc : Thread Cert.FfReferenceIdeal.nD Cert.FfReferenceIdeal.τ).loc Cert.FfReferenceIdeal.main_arg0)
          ∧ r.2.mem ((c.tc : Thread Cert.FfReferenceIdeal.nD Cert.FfReferenceIdeal.τ).loc Cert.FfReferenceIdeal.main_arg1) = m' ((c.tc : Thread Cert.FfReferenceIdeal.nD Cert.FfReferenceIdeal.τ).loc Cert.FfReferenceIdeal.main_arg1)
          ∧ r.2.mem ((c.tc : Thread Cert.FfReferenceIdeal.nD Cert.FfReferenceIdeal.τ).loc Cert.FfReferenceIdeal.main_arg2) = m' ((c.tc : Thread Cert.FfReferenceIdeal.nD Cert.FfReferenceIdeal.τ).loc Cert.FfReferenceIdeal.main_arg2)
          ∧ r.2.mem ((c.tc : Thread Cert.FfReferenceIdeal.nD Cert.FfReferenceIdeal.τ).loc Cert.FfReferenceIdeal.main_arg3) = m' ((c.tc : Thread Cert.FfReferenceIdeal.nD Cert.FfReferenceIdeal.τ).loc Cert.FfReferenceIdeal.main_arg3)
          ∧ r.2.mem ((c.tc : Thread Cert.FfReferenceIdeal.nD Cert.FfReferenceIdeal.τ).loc Cert.FfReferenceIdeal.main_arg4) = m' ((c.tc : Thread Cert.FfReferenceIdeal.nD Cert.FfReferenceIdeal.τ).loc Cert.FfReferenceIdeal.main_arg4))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v0)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v14) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Inner_InnerIdeal : Prop :=
  True

def algebraic_InnerIdeal_InnerReferenceIdeal [hInnerIdeal : Cert.InnerIdeal.Facts] [hInnerReferenceIdeal : Cert.InnerReferenceIdeal.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerReferenceIdeal.nD Cert.InnerReferenceIdeal.τ Cert.InnerReferenceIdeal.sig) → Buf (Elt Ideal) ℓ) (g' : Dev Cert.InnerReferenceIdeal.nD → PrngReg), Pre_InnerIdeal m →
    (∀ c : Dev Cert.InnerIdeal.nD,
      m' ((c.tc : Thread Cert.InnerReferenceIdeal.nD Cert.InnerReferenceIdeal.τ).loc Cert.InnerReferenceIdeal.main_arg0) = m ((c.tc : Thread Cert.InnerIdeal.nD Cert.InnerIdeal.τ).loc Cert.InnerIdeal.main_arg0)
      ∧ m' ((c.tc : Thread Cert.InnerReferenceIdeal.nD Cert.InnerReferenceIdeal.τ).loc Cert.InnerReferenceIdeal.main_arg1) = m ((c.tc : Thread Cert.InnerIdeal.nD Cert.InnerIdeal.τ).loc Cert.InnerIdeal.main_arg1)
      ∧ m' ((c.tc : Thread Cert.InnerReferenceIdeal.nD Cert.InnerReferenceIdeal.τ).loc Cert.InnerReferenceIdeal.main_arg2) = m ((c.tc : Thread Cert.InnerIdeal.nD Cert.InnerIdeal.τ).loc Cert.InnerIdeal.main_arg2)
      ∧ m' ((c.tc : Thread Cert.InnerReferenceIdeal.nD Cert.InnerReferenceIdeal.τ).loc Cert.InnerReferenceIdeal.main_arg3) = m ((c.tc : Thread Cert.InnerIdeal.nD Cert.InnerIdeal.τ).loc Cert.InnerIdeal.main_arg3)
      ∧ m' ((c.tc : Thread Cert.InnerReferenceIdeal.nD Cert.InnerReferenceIdeal.τ).loc Cert.InnerReferenceIdeal.main_arg4) = m ((c.tc : Thread Cert.InnerIdeal.nD Cert.InnerIdeal.τ).loc Cert.InnerIdeal.main_arg4)) →
    ∃ (v0 : (c : Dev Cert.InnerIdeal.nD) → Buf (Elt Ideal) ((c.tc : Thread Cert.InnerIdeal.nD Cert.InnerIdeal.τ).loc Cert.InnerIdeal.main_v0)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v0) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
          ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4))
      ∧ θ_run (Cert.InnerReferenceIdeal.defs (F := Ideal)) (onTc (τ := Cert.InnerReferenceIdeal.τ) (Cert.InnerReferenceIdeal.main (F := Ideal))) ⟨m', fun _ => 0, g'⟩ (fun r => ∀ c : Dev Cert.InnerReferenceIdeal.nD,
          r.2.mem ((c.tc : Thread Cert.InnerReferenceIdeal.nD Cert.InnerReferenceIdeal.τ).loc Cert.InnerReferenceIdeal.main_v18) = v0 c
          ∧ r.2.mem ((c.tc : Thread Cert.InnerReferenceIdeal.nD Cert.InnerReferenceIdeal.τ).loc Cert.InnerReferenceIdeal.main_arg0) = m' ((c.tc : Thread Cert.InnerReferenceIdeal.nD Cert.InnerReferenceIdeal.τ).loc Cert.InnerReferenceIdeal.main_arg0)
          ∧ r.2.mem ((c.tc : Thread Cert.InnerReferenceIdeal.nD Cert.InnerReferenceIdeal.τ).loc Cert.InnerReferenceIdeal.main_arg1) = m' ((c.tc : Thread Cert.InnerReferenceIdeal.nD Cert.InnerReferenceIdeal.τ).loc Cert.InnerReferenceIdeal.main_arg1)
          ∧ r.2.mem ((c.tc : Thread Cert.InnerReferenceIdeal.nD Cert.InnerReferenceIdeal.τ).loc Cert.InnerReferenceIdeal.main_arg2) = m' ((c.tc : Thread Cert.InnerReferenceIdeal.nD Cert.InnerReferenceIdeal.τ).loc Cert.InnerReferenceIdeal.main_arg2)
          ∧ r.2.mem ((c.tc : Thread Cert.InnerReferenceIdeal.nD Cert.InnerReferenceIdeal.τ).loc Cert.InnerReferenceIdeal.main_arg3) = m' ((c.tc : Thread Cert.InnerReferenceIdeal.nD Cert.InnerReferenceIdeal.τ).loc Cert.InnerReferenceIdeal.main_arg3)
          ∧ r.2.mem ((c.tc : Thread Cert.InnerReferenceIdeal.nD Cert.InnerReferenceIdeal.τ).loc Cert.InnerReferenceIdeal.main_arg4) = m' ((c.tc : Thread Cert.InnerReferenceIdeal.nD Cert.InnerReferenceIdeal.τ).loc Cert.InnerReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v57) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_2) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v51) = v0 c
          ∧ r.2.mem ((c.tc : Thread Cert.PrepReferenceIdeal.nD Cert.PrepReferenceIdeal.τ).loc Cert.PrepReferenceIdeal.main_v52) = v1 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4))

def Claim : Prop :=
  ∃ (hKernel : Cert.Kernel.Facts) (hKernelIdeal : Cert.KernelIdeal.Facts) (hReferenceIdeal : Cert.ReferenceIdeal.Facts) (hFf : Cert.Ff.Facts) (hFfIdeal : Cert.FfIdeal.Facts) (hFfReferenceIdeal : Cert.FfReferenceIdeal.Facts) (hInproj : Cert.Inproj.Facts) (hInprojIdeal : Cert.InprojIdeal.Facts) (hInprojReferenceIdeal : Cert.InprojReferenceIdeal.Facts) (hInner : Cert.Inner.Facts) (hInnerIdeal : Cert.InnerIdeal.Facts) (hInnerReferenceIdeal : Cert.InnerReferenceIdeal.Facts) (hMix : Cert.Mix.Facts) (hMixIdeal : Cert.MixIdeal.Facts) (hMixReferenceIdeal : Cert.MixReferenceIdeal.Facts) (hPrep : Cert.Prep.Facts) (hPrepIdeal : Cert.PrepIdeal.Facts) (hPrepReferenceIdeal : Cert.PrepReferenceIdeal.Facts) (hPre_well_formed : Cert.Pre_well_formed.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ quiescent_Ff (hFf := hFf)
    ∧ quiescent_FfIdeal (hFfIdeal := hFfIdeal)
    ∧ quiescent_FfReferenceIdeal (hFfReferenceIdeal := hFfReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Inner (hInner := hInner)
    ∧ quiescent_InnerIdeal (hInnerIdeal := hInnerIdeal)
    ∧ quiescent_InnerReferenceIdeal (hInnerReferenceIdeal := hInnerReferenceIdeal)
    ∧ quiescent_Mix (hMix := hMix)
    ∧ quiescent_MixIdeal (hMixIdeal := hMixIdeal)
    ∧ quiescent_MixReferenceIdeal (hMixReferenceIdeal := hMixReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ preserves_Kernel_KernelIdeal
    ∧ algebraic_KernelIdeal_ReferenceIdeal_pre_well_formed (hKernelIdeal := hKernelIdeal) (hReferenceIdeal := hReferenceIdeal) (hPre_well_formed := hPre_well_formed)
    ∧ preserves_Ff_FfIdeal
    ∧ algebraic_FfIdeal_FfReferenceIdeal (hFfIdeal := hFfIdeal) (hFfReferenceIdeal := hFfReferenceIdeal)
    ∧ preserves_Inproj_InprojIdeal
    ∧ algebraic_InprojIdeal_InprojReferenceIdeal (hInprojIdeal := hInprojIdeal) (hInprojReferenceIdeal := hInprojReferenceIdeal)
    ∧ preserves_Inner_InnerIdeal
    ∧ algebraic_InnerIdeal_InnerReferenceIdeal (hInnerIdeal := hInnerIdeal) (hInnerReferenceIdeal := hInnerReferenceIdeal)
    ∧ preserves_Mix_MixIdeal
    ∧ algebraic_MixIdeal_MixReferenceIdeal (hMixIdeal := hMixIdeal) (hMixReferenceIdeal := hMixReferenceIdeal)
    ∧ preserves_Prep_PrepIdeal
    ∧ algebraic_PrepIdeal_PrepReferenceIdeal (hPrepIdeal := hPrepIdeal) (hPrepReferenceIdeal := hPrepReferenceIdeal)
-- ==== Pre_well_formed.lean ====
abbrev S8x32 : Shape := ⟨2, ![8, 32]⟩
abbrev S8x256x16384 : Shape := ⟨3, ![8, 256, 16384]⟩
abbrev S8x32x512x256 : Shape := ⟨4, ![8, 32, 512, 256]⟩
abbrev S8x32x144x512 : Shape := ⟨4, ![8, 32, 144, 512]⟩
abbrev S_ : Shape := ⟨0, ![]⟩
abbrev S8x32x1x512 : Shape := ⟨4, ![8, 32, 1, 512]⟩
abbrev S8x32x512 : Shape := ⟨3, ![8, 32, 512]⟩

class Facts : Prop where
  bcast_S_S8x32 : S_.BroadcastsInDim S8x32 (![] : Fin 0 → Fin S8x32.rank)
  bitsLt_bf16_f32 : FTy.bits .bf16 < FTy.bits .f32
  bcast_S_S8x256x16384 : S_.BroadcastsInDim S8x256x16384 (![] : Fin 0 → Fin S8x256x16384.rank)
  bcast_S_S8x32x512x256 : S_.BroadcastsInDim S8x32x512x256 (![] : Fin 0 → Fin S8x32x512x256.rank)
  bcast_S_S8x32x144x512 : S_.BroadcastsInDim S8x32x144x512 (![] : Fin 0 → Fin S8x32x144x512.rank)
  slices_S8x32x144x512_S8x32x1x512_0_0_128_0 : S8x32x144x512.Slices ![0, 0, 128, 0] S8x32x1x512
  shapeCasts_S8x32x1x512_S8x32x512 : S8x32x1x512.ShapeCasts S8x32x512
  bcast_S_S8x32x512 : S_.BroadcastsInDim S8x32x512 (![] : Fin 0 → Fin S8x32x512.rank)

variable [Facts]

def fn_part1 {F : FTy → Type} [FloatOps F] (main_arg3 : FVec F S8x32x144x512 .bf16) (main_v4 : IVec S8x32 1) (main_v10 : IVec S8x256x16384 1) (main_v16 : IVec S8x32x512x256 1) (main_v17 : FVec F S8x32x144x512 .f32) : IVec S8x32 1 × IVec S8x256x16384 1 × IVec S8x32x512x256 1 × IVec S8x32x144x512 1 × IVec S8x32x512 1 :=
  let main_cst_5 : FVec F S_ .f32 := constant S_ .f32 0x7F800000#32
  let main_v18 : FVec F S8x32x144x512 .f32 := broadcastInDim S8x32x144x512 ![] bcast_S_S8x32x144x512 main_cst_5
  let main_v19 : IVec S8x32x144x512 1 := cmpf .olt main_v17 main_v18
  let main_cst_6 : FVec F S_ .f32 := constant S_ .f32 0xFF800000#32
  let main_v20 : FVec F S8x32x144x512 .f32 := broadcastInDim S8x32x144x512 ![] bcast_S_S8x32x144x512 main_cst_6
  let main_v21 : IVec S8x32x144x512 1 := cmpf .ogt main_v17 main_v20
  let main_v22 : IVec S8x32x144x512 1 := andi main_v19 main_v21
  let main_v23 : FVec F S8x32x1x512 .bf16 := (extractStridedSlice S8x32x1x512 ![0, 0, 128, 0] · slices_S8x32x144x512_S8x32x1x512_0_0_128_0) main_arg3
  let main_v24 : FVec F S8x32x512 .bf16 := shapeCast S8x32x512 main_v23 shapeCasts_S8x32x1x512_S8x32x512
  let main_v25 : FVec F S8x32x512 .f32 := (extf .f32 · bitsLt_bf16_f32) main_v24
  let main_cst_7 : FVec F S_ .f32 := constant S_ .f32 0x3F800000#32
  let main_v26 : FVec F S8x32x512 .f32 := broadcastInDim S8x32x512 ![] bcast_S_S8x32x512 main_cst_7
  let main_v27 : IVec S8x32x512 1 := cmpf .oeq main_v25 main_v26
  (main_v4, main_v10, main_v16, main_v22, main_v27)

def fn {F : FTy → Type} [FloatOps F] (main_arg0 : FVec F S8x32 .f32) (main_arg1 : FVec F S8x256x16384 .bf16) (main_arg2 : FVec F S8x32x512x256 .bf16) (main_arg3 : FVec F S8x32x144x512 .bf16) : IVec S8x32 1 × IVec S8x256x16384 1 × IVec S8x32x512x256 1 × IVec S8x32x144x512 1 × IVec S8x32x512 1 :=
  let main_cst : FVec F S_ .f32 := constant S_ .f32 0x7F800000#32
  let main_v0 : FVec F S8x32 .f32 := broadcastInDim S8x32 ![] bcast_S_S8x32 main_cst
  let main_v1 : IVec S8x32 1 := cmpf .olt main_arg0 main_v0
  let main_cst_0 : FVec F S_ .f32 := constant S_ .f32 0xFF800000#32
  let main_v2 : FVec F S8x32 .f32 := broadcastInDim S8x32 ![] bcast_S_S8x32 main_cst_0
  let main_v3 : IVec S8x32 1 := cmpf .ogt main_arg0 main_v2
  let main_v4 : IVec S8x32 1 := andi main_v1 main_v3
  let main_v5 : FVec F S8x256x16384 .f32 := (extf .f32 · bitsLt_bf16_f32) main_arg1
  let main_cst_1 : FVec F S_ .f32 := constant S_ .f32 0x7F800000#32
  let main_v6 : FVec F S8x256x16384 .f32 := broadcastInDim S8x256x16384 ![] bcast_S_S8x256x16384 main_cst_1
  let main_v7 : IVec S8x256x16384 1 := cmpf .olt main_v5 main_v6
  let main_cst_2 : FVec F S_ .f32 := constant S_ .f32 0xFF800000#32
  let main_v8 : FVec F S8x256x16384 .f32 := broadcastInDim S8x256x16384 ![] bcast_S_S8x256x16384 main_cst_2
  let main_v9 : IVec S8x256x16384 1 := cmpf .ogt main_v5 main_v8
  let main_v10 : IVec S8x256x16384 1 := andi main_v7 main_v9
  let main_v11 : FVec F S8x32x512x256 .f32 := (extf .f32 · bitsLt_bf16_f32) main_arg2
  let main_cst_3 : FVec F S_ .f32 := constant S_ .f32 0x7F800000#32
  let main_v12 : FVec F S8x32x512x256 .f32 := broadcastInDim S8x32x512x256 ![] bcast_S_S8x32x512x256 main_cst_3
  let main_v13 : IVec S8x32x512x256 1 := cmpf .olt main_v11 main_v12
  let main_cst_4 : FVec F S_ .f32 := constant S_ .f32 0xFF800000#32
  let main_v14 : FVec F S8x32x512x256 .f32 := broadcastInDim S8x32x512x256 ![] bcast_S_S8x32x512x256 main_cst_4
  let main_v15 : IVec S8x32x512x256 1 := cmpf .ogt main_v11 main_v14
  let main_v16 : IVec S8x32x512x256 1 := andi main_v13 main_v15
  let main_v17 : FVec F S8x32x144x512 .f32 := (extf .f32 · bitsLt_bf16_f32) main_arg3
  fn_part1 (F := F) main_arg3 main_v4 main_v10 main_v16 main_v17
-- ==== Kernel.lean ====
abbrev S8x32 : Shape := ⟨2, ![8, 32]⟩
abbrev S8x256x16384 : Shape := ⟨3, ![8, 256, 16384]⟩
abbrev S8x32x512x256 : Shape := ⟨4, ![8, 32, 512, 256]⟩
abbrev S8x32x144x512 : Shape := ⟨4, ![8, 32, 144, 512]⟩
abbrev S16384x1024 : Shape := ⟨2, ![16384, 1024]⟩
abbrev S1x256x4096 : Shape := ⟨3, ![1, 256, 4096]⟩
abbrev S1x32x512x256 : Shape := ⟨4, ![1, 32, 512, 256]⟩
abbrev S1x32x144x512 : Shape := ⟨4, ![1, 32, 144, 512]⟩
abbrev S4096x128 : Shape := ⟨2, ![4096, 128]⟩
abbrev S512x4096 : Shape := ⟨2, ![512, 4096]⟩
abbrev S144x4096 : Shape := ⟨2, ![144, 4096]⟩
abbrev S1x256 : Shape := ⟨2, ![1, 256]⟩
abbrev S1x1x512x256 : Shape := ⟨4, ![1, 1, 512, 256]⟩
abbrev S512x256 : Shape := ⟨2, ![512, 256]⟩
abbrev S1x256x256 : Shape := ⟨3, ![1, 256, 256]⟩
abbrev S256x256 : Shape := ⟨2, ![256, 256]⟩
abbrev S256 : Shape := ⟨1, ![256]⟩
abbrev S1x1 : Shape := ⟨2, ![1, 1]⟩
abbrev S144x256 : Shape := ⟨2, ![144, 256]⟩
abbrev S1x1x144x512 : Shape := ⟨4, ![1, 1, 144, 512]⟩
abbrev S144x512 : Shape := ⟨2, ![144, 512]⟩
abbrev S1x4096 : Shape := ⟨2, ![1, 4096]⟩
abbrev S128x4096 : Shape := ⟨2, ![128, 4096]⟩

abbrev nBuf : Space → Nat
  | .hbm => 5
  | .vmem => 10
  | .smem => 1
  | _ => 0

abbrev bufTy : (tb : Table) → Fin (tcTables nBuf tb) → BufTy
  | .hbm, ⟨0, _⟩ => ⟨S8x32, .f32⟩
  | .hbm, ⟨1, _⟩ => ⟨S8x256x16384, .bf16⟩
  | .hbm, ⟨2, _⟩ => ⟨S8x32x512x256, .bf16⟩
  | .hbm, ⟨3, _⟩ => ⟨S8x32x144x512, .bf16⟩
  | .hbm, ⟨4, _⟩ => ⟨S16384x1024, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x32x512x256, .bf16⟩
  | .local _ .vmem, ⟨3, _⟩ => ⟨S1x32x512x256, .bf16⟩
  | .local _ .vmem, ⟨4, _⟩ => ⟨S1x32x144x512, .bf16⟩
  | .local _ .vmem, ⟨5, _⟩ => ⟨S1x32x144x512, .bf16⟩
  | .local _ .vmem, ⟨6, _⟩ => ⟨S4096x128, .bf16⟩
  | .local _ .vmem, ⟨7, _⟩ => ⟨S4096x128, .bf16⟩
  | .local _ .vmem, ⟨8, _⟩ => ⟨S512x4096, .f32⟩
  | .local _ .vmem, ⟨9, _⟩ => ⟨S144x4096, .f32⟩
  | .local _ .smem, ⟨0, _⟩ => ⟨S8x32, .f32⟩
  | _, _ => ⟨S8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_183 : BitVec 32 := 0#32
  let c8_i32 : BitVec 32 := 8#32
  let arg1 : BitVec 32 := BitVec.ofNat 32 (i 1).val
  let v180 : BitVec 32 := Scalar.muli c8_i32 arg1
  let c0_i32 : BitVec 32 := 0#32
  let v182 : BitVec 1 := Scalar.cmpi .sgt v180 c0_i32
  let v183 : BitVec 32 := Scalar.extui v182
  let c0_i32_179 : BitVec 32 := 0#32
  let v184 : BitVec 1 := Scalar.cmpi .slt v180 c0_i32_179
  let v185 : BitVec 32 := Scalar.extui v184
  let v186 : BitVec 32 := Scalar.subi v183 v185
  let c8_i32_178 : BitVec 32 := 8#32
  let c0_i32_180 : BitVec 32 := 0#32
  let v187 : BitVec 1 := Scalar.cmpi .sgt c8_i32_178 c0_i32_180
  let v188 : BitVec 32 := Scalar.extui v187
  let c0_i32_181 : BitVec 32 := 0#32
  let v189 : BitVec 1 := Scalar.cmpi .slt c8_i32_178 c0_i32_181
  let v190 : BitVec 32 := Scalar.extui v189
  let v191 : BitVec 32 := Scalar.subi v188 v190
  let v192 : BitVec 1 := Scalar.cmpi .ne v186 v191
  let v193 : BitVec 32 := Scalar.remsi v180 c8_i32_178
  let c0_i32_182 : BitVec 32 := 0#32
  let v194 : BitVec 1 := Scalar.cmpi .ne v193 c0_i32_182
  let v195 : BitVec 1 := Scalar.andi v192 v194
  let v181 : BitVec 32 := Scalar.divsi v180 c8_i32_178
  let c1_i32 : BitVec 32 := 1#32
  let v196 : BitVec 32 := Scalar.subi v181 c1_i32
  let v197 : BitVec 32 := Scalar.select v195 v196 v181
  let v198 : BitVec 32 := Scalar.subi v197 c0_i32_183
  let c1_i32_184 : BitVec 32 := 1#32
  let v200 : BitVec 32 := Scalar.divsi v198 c1_i32_184
  let v201 : BitVec 32 := Scalar.muli v200 c1_i32_184
  let v202 : BitVec 32 := Scalar.addi c0_i32_183 v201
  let c1_i32_185 : BitVec 32 := 1#32
  ⟨c0_i32_183, v202, c1_i32_185⟩
def k0_off1 (i : grid0.Coords) (k0_t1 : Fin (k0_t1_loop i).trips) (c0_i32_1567 : BitVec 32) : Fin 2 → Nat :=
  let arg0 : BitVec 32 := BitVec.ofNat 32 (i 0).val
  let v2917 : Index := Scalar.indexCast arg0
  let c8_i32_1566 : BitVec 32 := 8#32
  let c0_i32_183 : BitVec 32 := 0#32
  let c1_i32_185 : BitVec 32 := 1#32
  let arg9 : BitVec 32 := Scf.iv c0_i32_183 c1_i32_185 k0_t1
  let v2914 : BitVec 32 := Scalar.muli c8_i32_1566 arg9
  let v2915 : BitVec 32 := Scalar.addi v2914 c0_i32_1567
  let v2918 : Index := Scalar.indexCast v2915
  ![v2917.toNat, v2918.toNat]
def k0_off2 (i : grid0.Coords) (k0_t1 : Fin (k0_t1_loop i).trips) (c0_i32_1567 : BitVec 32) : Fin 4 → Nat :=
  let c0_1572 : Index := 0#32
  let c8_i32_1566 : BitVec 32 := 8#32
  let c0_i32_183 : BitVec 32 := 0#32
  let c1_i32_185 : BitVec 32 := 1#32
  let arg9 : BitVec 32 := Scf.iv c0_i32_183 c1_i32_185 k0_t1
  let v2914 : BitVec 32 := Scalar.muli c8_i32_1566 arg9
  let v2915 : BitVec 32 := Scalar.addi v2914 c0_i32_1567
  let v2934 : Index := Scalar.indexCast v2915
  let c0_1573 : Index := 0#32
  let c0_1574 : Index := 0#32
  ![0, v2934.toNat, 0, 0]
def k0_off3 (i : grid0.Coords) (k0_t1 : Fin (k0_t1_loop i).trips) (c0_i32_1567 : BitVec 32) : Fin 4 → Nat :=
  let c0_1579 : Index := 0#32
  let c8_i32_1566 : BitVec 32 := 8#32
  let c0_i32_183 : BitVec 32 := 0#32
  let c1_i32_185 : BitVec 32 := 1#32
  let arg9 : BitVec 32 := Scf.iv c0_i32_183 c1_i32_185 k0_t1
  let v2914 : BitVec 32 := Scalar.muli c8_i32_1566 arg9
  let v2915 : BitVec 32 := Scalar.addi v2914 c0_i32_1567
  let c1_i32_1578 : BitVec 32 := 1#32
  let v2942 : BitVec 32 := Scalar.addi v2915 c1_i32_1578
  let v2943 : Index := Scalar.indexCast v2942
  let c0_1580 : Index := 0#32
  let c0_1581 : Index := 0#32
  ![0, v2943.toNat, 0, 0]
@[reducible] def k0_t2_loop (i : grid0.Coords) : Scf.Loop 32 :=
  let c0_i32_183 : BitVec 32 := 0#32
  let c8_i32 : BitVec 32 := 8#32
  let arg1 : BitVec 32 := BitVec.ofNat 32 (i 1).val
  let v180 : BitVec 32 := Scalar.muli c8_i32 arg1
  let c0_i32 : BitVec 32 := 0#32
  let v182 : BitVec 1 := Scalar.cmpi .sgt v180 c0_i32
  let v183 : BitVec 32 := Scalar.extui v182
  let c0_i32_179 : BitVec 32 := 0#32
  let v184 : BitVec 1 := Scalar.cmpi .slt v180 c0_i32_179
  let v185 : BitVec 32 := Scalar.extui v184
  let v186 : BitVec 32 := Scalar.subi v183 v185
  let c8_i32_178 : BitVec 32 := 8#32
  let c0_i32_180 : BitVec 32 := 0#32
  let v187 : BitVec 1 := Scalar.cmpi .sgt c8_i32_178 c0_i32_180
  let v188 : BitVec 32 := Scalar.extui v187
  let c0_i32_181 : BitVec 32 := 0#32
  let v189 : BitVec 1 := Scalar.cmpi .slt c8_i32_178 c0_i32_181
  let v190 : BitVec 32 := Scalar.extui v189
  let v191 : BitVec 32 := Scalar.subi v188 v190
  let v192 : BitVec 1 := Scalar.cmpi .ne v186 v191
  let v193 : BitVec 32 := Scalar.remsi v180 c8_i32_178
  let c0_i32_182 : BitVec 32 := 0#32
  let v194 : BitVec 1 := Scalar.cmpi .ne v193 c0_i32_182
  let v195 : BitVec 1 := Scalar.andi v192 v194
  let v181 : BitVec 32 := Scalar.divsi v180 c8_i32_178
  let c1_i32 : BitVec 32 := 1#32
  let v196 : BitVec 32 := Scalar.subi v181 c1_i32
  let v197 : BitVec 32 := Scalar.select v195 v196 v181
  let v198 : BitVec 32 := Scalar.subi v197 c0_i32_183
  let c1_i32_184 : BitVec 32 := 1#32
  let v200 : BitVec 32 := Scalar.divsi v198 c1_i32_184
  let v201 : BitVec 32 := Scalar.muli v200 c1_i32_184
  let v202 : BitVec 32 := Scalar.addi c0_i32_183 v201
  let v199 : BitVec 32 := Scalar.addi c0_i32_183 v198
  let c1_i32_186 : BitVec 32 := 1#32
  ⟨v202, v199, c1_i32_186⟩
def k0_off4 (i : grid0.Coords) (k0_t2 : Fin (k0_t2_loop i).trips) (c0_i32_1567 : BitVec 32) : Fin 2 → Nat :=
  let arg0 : BitVec 32 := BitVec.ofNat 32 (i 0).val
  let v2917 : Index := Scalar.indexCast arg0
  let c8_i32_1566 : BitVec 32 := 8#32
  let c0_i32_183 : BitVec 32 := 0#32
  let c8_i32 : BitVec 32 := 8#32
  let arg1 : BitVec 32 := BitVec.ofNat 32 (i 1).val
  let v180 : BitVec 32 := Scalar.muli c8_i32 arg1
  let c0_i32 : BitVec 32 := 0#32
  let v182 : BitVec 1 := Scalar.cmpi .sgt v180 c0_i32
  let v183 : BitVec 32 := Scalar.extui v182
  let c0_i32_179 : BitVec 32 := 0#32
  let v184 : BitVec 1 := Scalar.cmpi .slt v180 c0_i32_179
  let v185 : BitVec 32 := Scalar.extui v184
  let v186 : BitVec 32 := Scalar.subi v183 v185
  let c8_i32_178 : BitVec 32 := 8#32
  let c0_i32_180 : BitVec 32 := 0#32
  let v187 : BitVec 1 := Scalar.cmpi .sgt c8_i32_178 c0_i32_180
  let v188 : BitVec 32 := Scalar.extui v187
  let c0_i32_181 : BitVec 32 := 0#32
  let v189 : BitVec 1 := Scalar.cmpi .slt c8_i32_178 c0_i32_181
  let v190 : BitVec 32 := Scalar.extui v189
  let v191 : BitVec 32 := Scalar.subi v188 v190
  let v192 : BitVec 1 := Scalar.cmpi .ne v186 v191
  let v193 : BitVec 32 := Scalar.remsi v180 c8_i32_178
  let c0_i32_182 : BitVec 32 := 0#32
  let v194 : BitVec 1 := Scalar.cmpi .ne v193 c0_i32_182
  let v195 : BitVec 1 := Scalar.andi v192 v194
  let v181 : BitVec 32 := Scalar.divsi v180 c8_i32_178
  let c1_i32 : BitVec 32 := 1#32
  let v196 : BitVec 32 := Scalar.subi v181 c1_i32
  let v197 : BitVec 32 := Scalar.select v195 v196 v181
  let v198 : BitVec 32 := Scalar.subi v197 c0_i32_183
  let c1_i32_184 : BitVec 32 := 1#32
  let v200 : BitVec 32 := Scalar.divsi v198 c1_i32_184
  let v201 : BitVec 32 := Scalar.muli v200 c1_i32_184
  let v202 : BitVec 32 := Scalar.addi c0_i32_183 v201
  let c1_i32_186 : BitVec 32 := 1#32
  let arg9 : BitVec 32 := Scf.iv v202 c1_i32_186 k0_t2
  let v2914 : BitVec 32 := Scalar.muli c8_i32_1566 arg9
  let v2915 : BitVec 32 := Scalar.addi v2914 c0_i32_1567
  let v2918 : Index := Scalar.indexCast v2915
  ![v2917.toNat, v2918.toNat]
def k0_off5 (i : grid0.Coords) (k0_t2 : Fin (k0_t2_loop i).trips) (c0_i32_1567 : BitVec 32) : Fin 4 → Nat :=
  let c0_1572 : Index := 0#32
  let c8_i32_1566 : BitVec 32 := 8#32
  let c0_i32_183 : BitVec 32 := 0#32
  let c8_i32 : BitVec 32 := 8#32
  let arg1 : BitVec 32 := BitVec.ofNat 32 (i 1).val
  let v180 : BitVec 32 := Scalar.muli c8_i32 arg1
  let c0_i32 : BitVec 32 := 0#32
  let v182 : BitVec 1 := Scalar.cmpi .sgt v180 c0_i32
  let v183 : BitVec 32 := Scalar.extui v182
  let c0_i32_179 : BitVec 32 := 0#32
  let v184 : BitVec 1 := Scalar.cmpi .slt v180 c0_i32_179
  let v185 : BitVec 32 := Scalar.extui v184
  let v186 : BitVec 32 := Scalar.subi v183 v185
  let c8_i32_178 : BitVec 32 := 8#32
  let c0_i32_180 : BitVec 32 := 0#32
  let v187 : BitVec 1 := Scalar.cmpi .sgt c8_i32_178 c0_i32_180
  let v188 : BitVec 32 := Scalar.extui v187
  let c0_i32_181 : BitVec 32 := 0#32
  let v189 : BitVec 1 := Scalar.cmpi .slt c8_i32_178 c0_i32_181
  let v190 : BitVec 32 := Scalar.extui v189
  let v191 : BitVec 32 := Scalar.subi v188 v190
  let v192 : BitVec 1 := Scalar.cmpi .ne v186 v191
  let v193 : BitVec 32 := Scalar.remsi v180 c8_i32_178
  let c0_i32_182 : BitVec 32 := 0#32
  let v194 : BitVec 1 := Scalar.cmpi .ne v193 c0_i32_182
  let v195 : BitVec 1 := Scalar.andi v192 v194
  let v181 : BitVec 32 := Scalar.divsi v180 c8_i32_178
  let c1_i32 : BitVec 32 := 1#32
  let v196 : BitVec 32 := Scalar.subi v181 c1_i32
  let v197 : BitVec 32 := Scalar.select v195 v196 v181
  let v198 : BitVec 32 := Scalar.subi v197 c0_i32_183
  let c1_i32_184 : BitVec 32 := 1#32
  let v200 : BitVec 32 := Scalar.divsi v198 c1_i32_184
  let v201 : BitVec 32 := Scalar.muli v200 c1_i32_184
  let v202 : BitVec 32 := Scalar.addi c0_i32_183 v201
  let c1_i32_186 : BitVec 32 := 1#32
  let arg9 : BitVec 32 := Scf.iv v202 c1_i32_186 k0_t2
  let v2914 : BitVec 32 := Scalar.muli c8_i32_1566 arg9
  let v2915 : BitVec 32 := Scalar.addi v2914 c0_i32_1567
  let v2934 : Index := Scalar.indexCast v2915
  let c0_1573 : Index := 0#32
  let c0_1574 : Index := 0#32
  ![0, v2934.toNat, 0, 0]
def k0_off6 (i : grid0.Coords) (k0_t2 : Fin (k0_t2_loop i).trips) (c0_i32_1567 : BitVec 32) : Fin 4 → Nat :=
  let c0_1579 : Index := 0#32
  let c8_i32_1566 : BitVec 32 := 8#32
  let c0_i32_183 : BitVec 32 := 0#32
  let c8_i32 : BitVec 32 := 8#32
  let arg1 : BitVec 32 := BitVec.ofNat 32 (i 1).val
  let v180 : BitVec 32 := Scalar.muli c8_i32 arg1
  let c0_i32 : BitVec 32 := 0#32
  let v182 : BitVec 1 := Scalar.cmpi .sgt v180 c0_i32
  let v183 : BitVec 32 := Scalar.extui v182
  let c0_i32_179 : BitVec 32 := 0#32
  let v184 : BitVec 1 := Scalar.cmpi .slt v180 c0_i32_179
  let v185 : BitVec 32 := Scalar.extui v184
  let v186 : BitVec 32 := Scalar.subi v183 v185
  let c8_i32_178 : BitVec 32 := 8#32
  let c0_i32_180 : BitVec 32 := 0#32
  let v187 : BitVec 1 := Scalar.cmpi .sgt c8_i32_178 c0_i32_180
  let v188 : BitVec 32 := Scalar.extui v187
  let c0_i32_181 : BitVec 32 := 0#32
  let v189 : BitVec 1 := Scalar.cmpi .slt c8_i32_178 c0_i32_181
  let v190 : BitVec 32 := Scalar.extui v189
  let v191 : BitVec 32 := Scalar.subi v188 v190
  let v192 : BitVec 1 := Scalar.cmpi .ne v186 v191
  let v193 : BitVec 32 := Scalar.remsi v180 c8_i32_178
  let c0_i32_182 : BitVec 32 := 0#32
  let v194 : BitVec 1 := Scalar.cmpi .ne v193 c0_i32_182
  let v195 : BitVec 1 := Scalar.andi v192 v194
  let v181 : BitVec 32 := Scalar.divsi v180 c8_i32_178
  let c1_i32 : BitVec 32 := 1#32
  let v196 : BitVec 32 := Scalar.subi v181 c1_i32
  let v197 : BitVec 32 := Scalar.select v195 v196 v181
  let v198 : BitVec 32 := Scalar.subi v197 c0_i32_183
  let c1_i32_184 : BitVec 32 := 1#32
  let v200 : BitVec 32 := Scalar.divsi v198 c1_i32_184
  let v201 : BitVec 32 := Scalar.muli v200 c1_i32_184
  let v202 : BitVec 32 := Scalar.addi c0_i32_183 v201
  let c1_i32_186 : BitVec 32 := 1#32
  let arg9 : BitVec 32 := Scf.iv v202 c1_i32_186 k0_t2
  let v2914 : BitVec 32 := Scalar.muli c8_i32_1566 arg9
  let v2915 : BitVec 32 := Scalar.addi v2914 c0_i32_1567
  let c1_i32_1578 : BitVec 32 := 1#32
  let v2942 : BitVec 32 := Scalar.addi v2915 c1_i32_1578
  let v2943 : Index := Scalar.indexCast v2942
  let c0_1580 : Index := 0#32
  let c0_1581 : Index := 0#32
  ![0, v2943.toNat, 0, 0]
def k0_off7 (i : grid0.Coords) (c0_i32_187 : BitVec 32) : Fin 2 → Nat :=
  let arg0 : BitVec 32 := BitVec.ofNat 32 (i 0).val
  let v218 : Index := Scalar.indexCast arg0
  let c8_i32 : BitVec 32 := 8#32
  let arg1 : BitVec 32 := BitVec.ofNat 32 (i 1).val
  let v180 : BitVec 32 := Scalar.muli c8_i32 arg1
  let v205 : BitVec 32 := Scalar.addi v180 c0_i32_187
  let v219 : Index := Scalar.indexCast v205
  ![v218.toNat, v219.toNat]
def k0_off8 (i : grid0.Coords) (c0_i32_187 : BitVec 32) : Fin 4 → Nat :=
  let c0_196 : Index := 0#32
  let c8_i32 : BitVec 32 := 8#32
  let arg1 : BitVec 32 := BitVec.ofNat 32 (i 1).val
  let v180 : BitVec 32 := Scalar.muli c8_i32 arg1
  let v205 : BitVec 32 := Scalar.addi v180 c0_i32_187
  let v235 : Index := Scalar.indexCast v205
  let c0_197 : Index := 0#32
  let c0_198 : Index := 0#32
  ![0, v235.toNat, 0, 0]
def k0_off9 (i : grid0.Coords) (c0_i32_187 : BitVec 32) : Fin 4 → Nat :=
  let c0_226 : Index := 0#32
  let c8_i32 : BitVec 32 := 8#32
  let arg1 : BitVec 32 := BitVec.ofNat 32 (i 1).val
  let v180 : BitVec 32 := Scalar.muli c8_i32 arg1
  let v205 : BitVec 32 := Scalar.addi v180 c0_i32_187
  let c1_i32_225 : BitVec 32 := 1#32
  let v306 : BitVec 32 := Scalar.addi v205 c1_i32_225
  let v307 : Index := Scalar.indexCast v306
  let c0_227 : Index := 0#32
  let c0_228 : Index := 0#32
  ![0, v307.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x32 : Shape := ⟨2, ![8, 32]⟩
abbrev S8x256x16384 : Shape := ⟨3, ![8, 256, 16384]⟩
abbrev S8x32x512x256 : Shape := ⟨4, ![8, 32, 512, 256]⟩
abbrev S8x32x144x512 : Shape := ⟨4, ![8, 32, 144, 512]⟩
abbrev S8x16384x256 : Shape := ⟨3, ![8, 16384, 256]⟩
abbrev S8x32x512x144 : Shape := ⟨4, ![8, 32, 512, 144]⟩
abbrev S8x16384x144 : Shape := ⟨3, ![8, 16384, 144]⟩
abbrev S8x16384x128 : Shape := ⟨3, ![8, 16384, 128]⟩
abbrev S8x32x1 : Shape := ⟨3, ![8, 32, 1]⟩
abbrev S8x32x512 : Shape := ⟨3, ![8, 32, 512]⟩
abbrev S8x16384 : Shape := ⟨2, ![8, 16384]⟩
abbrev S8x16384x16384 : Shape := ⟨3, ![8, 16384, 16384]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S8x16384x1 : Shape := ⟨3, ![8, 16384, 1]⟩
abbrev S16384x8x128 : Shape := ⟨3, ![16384, 8, 128]⟩
abbrev S16384x1024 : Shape := ⟨2, ![16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x32, .f32⟩
  | .hbm, ⟨1, _⟩ => ⟨S8x256x16384, .bf16⟩
  | .hbm, ⟨2, _⟩ => ⟨S8x32x512x256, .bf16⟩
  | .hbm, ⟨3, _⟩ => ⟨S8x32x144x512, .bf16⟩
  | .hbm, ⟨4, _⟩ => ⟨S8x16384x256, .bf16⟩
  | .hbm, ⟨5, _⟩ => ⟨S8x32x512x144, .bf16⟩
  | .hbm, ⟨6, _⟩ => ⟨S8x16384x144, .bf16⟩
  | .hbm, ⟨7, _⟩ => ⟨S8x16384x128, .bf16⟩
  | .hbm, ⟨8, _⟩ => ⟨S8x32x1, .f32⟩
  | .hbm, ⟨9, _⟩ => ⟨S8x32x512, .f32⟩
  | .hbm, ⟨10, _⟩ => ⟨S8x16384, .f32⟩
  | .hbm, ⟨11, _⟩ => ⟨S8x16384x16384, .f32⟩
  | .hbm, ⟨12, _⟩ => ⟨S8x1x16384, .f32⟩
  | .hbm, ⟨13, _⟩ => ⟨S8x16384x16384, .f32⟩
  | .hbm, ⟨14, _⟩ => ⟨S8x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S_, .f32⟩
  | .hbm, ⟨22, _⟩ => ⟨S_, .f32⟩
  | .hbm, ⟨23, _⟩ => ⟨S8x16384x16384, .i1⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384, .f32⟩
  | .hbm, ⟨28, _⟩ => ⟨S8x16384x1, .f32⟩
  | .hbm, ⟨29, _⟩ => ⟨S8x16384x16384, .f32⟩
  | .hbm, ⟨30, _⟩ => ⟨S8x16384x16384, .f32⟩
  | .hbm, ⟨31, _⟩ => ⟨S_, .f32⟩
  | .hbm, ⟨32, _⟩ => ⟨S8x16384x16384, .f32⟩
  | .hbm, ⟨33, _⟩ => ⟨S8x16384x16384, .f32⟩
  | .hbm, ⟨34, _⟩ => ⟨S_, .f32⟩
  | .hbm, ⟨35, _⟩ => ⟨S8x16384, .f32⟩
  | .hbm, ⟨36, _⟩ => ⟨S8x16384x1, .f32⟩
  | .hbm, ⟨37, _⟩ => ⟨S8x16384x16384, .f32⟩
  | .hbm, ⟨38, _⟩ => ⟨S8x16384x16384, .f32⟩
  | .hbm, ⟨39, _⟩ => ⟨S8x16384x16384, .bf16⟩
  | .hbm, ⟨40, _⟩ => ⟨S8x16384x128, .f32⟩
  | .hbm, ⟨41, _⟩ => ⟨S16384x8x128, .f32⟩
  | .hbm, ⟨42, _⟩ => ⟨S16384x1024, .f32⟩
  | .hbm, ⟨43, _⟩ => ⟨S16384x1024, .bf16⟩
  | _, _ => ⟨S8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Ff.lean ====
abbrev S16384x2048 : Shape := ⟨2, ![16384, 2048]⟩
abbrev S1x2048 : Shape := ⟨2, ![1, 2048]⟩
abbrev S2048x8192 : Shape := ⟨2, ![2048, 8192]⟩
abbrev S8192x2048 : Shape := ⟨2, ![8192, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfReferenceIdeal.lean ====
abbrev S16384x2048 : Shape := ⟨2, ![16384, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S2048x8192, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S8192x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Inproj.lean ====
abbrev S16384x2048 : Shape := ⟨2, ![16384, 2048]⟩
abbrev S1x2048 : Shape := ⟨2, ![1, 2048]⟩
abbrev S2048x7168 : Shape := ⟨2, ![2048, 7168]⟩
abbrev S16384x7168 : Shape := ⟨2, ![16384, 7168]⟩
abbrev S1024x2048 : Shape := ⟨2, ![1024, 2048]⟩
abbrev S2048x1792 : Shape := ⟨2, ![2048, 1792]⟩
abbrev S1024x1792 : Shape := ⟨2, ![1024, 1792]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x7168, .bf16⟩
  | .hbm, ⟨3, _⟩ => ⟨S16384x7168, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S1024x1792, .bf16⟩
  | .local _ .vmem, ⟨6, _⟩ => ⟨S1024x1792, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojReferenceIdeal.lean ====
abbrev S16384x2048 : Shape := ⟨2, ![16384, 2048]⟩
abbrev S1x2048 : Shape := ⟨2, ![1, 2048]⟩
abbrev S2048x7168 : Shape := ⟨2, ![2048, 7168]⟩
abbrev S_ : Shape := ⟨0, ![]⟩
abbrev S16384 : Shape := ⟨1, ![16384]⟩
abbrev S16384x1 : Shape := ⟨2, ![16384, 1]⟩
abbrev S16384x7168 : Shape := ⟨2, ![16384, 7168]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x7168, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S2048x7168, .f32⟩
  | .hbm, ⟨19, _⟩ => ⟨S16384x7168, .f32⟩
  | .hbm, ⟨20, _⟩ => ⟨S16384x7168, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Inner.lean ====
abbrev S16384x2048 : Shape := ⟨2, ![16384, 2048]⟩
abbrev S1x2048 : Shape := ⟨2, ![1, 2048]⟩
abbrev S2048x8192 : Shape := ⟨2, ![2048, 8192]⟩
abbrev S8192x2048 : Shape := ⟨2, ![8192, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InnerReferenceIdeal.lean ====
abbrev S16384x2048 : Shape := ⟨2, ![16384, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S2048x8192, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S8192x2048, .f32⟩
  | .hbm, ⟨27, _⟩ => ⟨S16384x2048, .f32⟩
  | .hbm, ⟨28, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Mix.lean ====
abbrev S16384x2048 : Shape := ⟨2, ![16384, 2048]⟩
abbrev S16384x7168 : Shape := ⟨2, ![16384, 7168]⟩
abbrev S16384x1024 : Shape := ⟨2, ![16384, 1024]⟩
abbrev S3x1024 : Shape := ⟨2, ![3, 1024]⟩
abbrev S1x4096 : Shape := ⟨2, ![1, 4096]⟩
abbrev S1024x2048 : Shape := ⟨2, ![1024, 2048]⟩
abbrev S2048x2048 : Shape := ⟨2, ![2048, 2048]⟩
abbrev S256x2048 : Shape := ⟨2, ![256, 2048]⟩
abbrev S256x1024 : Shape := ⟨2, ![256, 1024]⟩
abbrev S16x1024 : Shape := ⟨2, ![16, 1024]⟩
abbrev S272x1024 : Shape := ⟨2, ![272, 1024]⟩
abbrev S1x1024 : Shape := ⟨2, ![1, 1024]⟩
abbrev S1x2048 : Shape := ⟨2, ![1, 2048]⟩

abbrev nBuf : Space → Nat
  | .hbm => 9
  | .vmem => 26
  | .smem => 0
  | _ => 0

abbrev bufTy : (tb : Table) → Fin (tcTables nBuf tb) → BufTy
  | .hbm, ⟨0, _⟩ => ⟨S16384x2048, .f32⟩
  | .hbm, ⟨1, _⟩ => ⟨S16384x7168, .bf16⟩
  | .hbm, ⟨2, _⟩ => ⟨S16384x1024, .bf16⟩
  | .hbm, ⟨3, _⟩ => ⟨S3x1024, .f32⟩
  | .hbm, ⟨4, _⟩ => ⟨S1x4096, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S256x1024, .bf16⟩
  | .local _ .vmem, ⟨17, _⟩ => ⟨S256x1024, .bf16⟩
  | .local _ .vmem, ⟨18, _⟩ => ⟨S3x1024, .f32⟩
  | .local _ .vmem, ⟨19, _⟩ => ⟨S1x4096, .f32⟩
  | .local _ .vmem, ⟨20, _⟩ => ⟨S1024x2048, .bf16⟩
  | .local _ .vmem, ⟨21, _⟩ => ⟨S1024x2048, .bf16⟩
  | .local _ .vmem, ⟨22, _⟩ => ⟨S2048x2048, .bf16⟩
  | .local _ .vmem, ⟨23, _⟩ => ⟨S256x2048, .f32⟩
  | .local _ .vmem, ⟨24, _⟩ => ⟨S256x2048, .f32⟩
  | .local _ .vmem, ⟨25, _⟩ => ⟨S272x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixReferenceIdeal.lean ====
abbrev S16384x2048 : Shape := ⟨2, ![16384, 2048]⟩
abbrev S16384x7168 : Shape := ⟨2, ![16384, 7168]⟩
abbrev S16384x1024 : Shape := ⟨2, ![16384, 1024]⟩
abbrev S3x1024 : Shape := ⟨2, ![3, 1024]⟩
abbrev S1x4096 : Shape := ⟨2, ![1, 4096]⟩
abbrev S1024x2048 : Shape := ⟨2, ![1024, 2048]⟩
abbrev S2048x2048 : Shape := ⟨2, ![2048, 2048]⟩
abbrev S_ : Shape := ⟨0, ![]⟩
abbrev S16386x1024 : Shape := ⟨2, ![16386, 1024]⟩
abbrev S1x1024 : Shape := ⟨2, ![1, 1024]⟩
abbrev S1024 : Shape := ⟨1, ![1024]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x7168, .bf16⟩
  | .hbm, ⟨2, _⟩ => ⟨S16384x1024, .bf16⟩
  | .hbm, ⟨3, _⟩ => ⟨S3x1024, .f32⟩
  | .hbm, ⟨4, _⟩ => ⟨S1x4096, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S16384x7168, .f32⟩
  | .hbm, ⟨9, _⟩ => ⟨S16384x2048, .f32⟩
  | .hbm, ⟨10, _⟩ => ⟨S16384x2048, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .i32⟩
  | .hbm, ⟨16, _⟩ => ⟨S_, .f32⟩
  | .hbm, ⟨17, _⟩ => ⟨S16386x1024, .f32⟩
  | .hbm, ⟨18, _⟩ => ⟨S1x1024, .f32⟩
  | .hbm, ⟨19, _⟩ => ⟨S1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S1024x2048, .f32⟩
  | .hbm, ⟨40, _⟩ => ⟨S16384x2048, .f32⟩
  | .hbm, ⟨41, _⟩ => ⟨S16384x1024, .f32⟩
  | .hbm, ⟨42, _⟩ => ⟨S1024x2048, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S_, .f32⟩
  | .hbm, ⟨62, _⟩ => ⟨S16384x2048, .f32⟩
  | .hbm, ⟨63, _⟩ => ⟨S16384x2048, .f32⟩
  | .hbm, ⟨64, _⟩ => ⟨S_, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S2048x2048, .f32⟩
  | .hbm, ⟨70, _⟩ => ⟨S16384x2048, .f32⟩
  | .hbm, ⟨71, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst : Ref sig .tc := ⟨.hbm, 49, rfl⟩
abbrev main_v39 : Ref sig .tc := ⟨.hbm, 50, rfl⟩
abbrev main_v40 : Ref sig .tc := ⟨.hbm, 51, rfl⟩
abbrev main_cst_0 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_1 : Ref sig .tc := ⟨.hbm, 61, rfl⟩
abbrev main_v49 : Ref sig .tc := ⟨.hbm, 62, rfl⟩
abbrev main_v50 : Ref sig .tc := ⟨.hbm, 63, rfl⟩
abbrev main_cst_2 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Prep.lean ====
abbrev S16384x2048 : Shape := ⟨2, ![16384, 2048]⟩
abbrev S1x2048 : Shape := ⟨2, ![1, 2048]⟩
abbrev S2048x2048 : Shape := ⟨2, ![2048, 2048]⟩
abbrev S2048x1152 : Shape := ⟨2, ![2048, 1152]⟩
abbrev S1x128 : Shape := ⟨2, ![1, 128]⟩
abbrev S8x256x16384 : Shape := ⟨3, ![8, 256, 16384]⟩
abbrev S8x32x512x256 : Shape := ⟨4, ![8, 32, 512, 256]⟩
abbrev S8x32x144x512 : Shape := ⟨4, ![8, 32, 144, 512]⟩
abbrev S32x8x128 : Shape := ⟨3, ![32, 8, 128]⟩
abbrev S512x2048 : Shape := ⟨2, ![512, 2048]⟩
abbrev S8x256x512 : Shape := ⟨3, ![8, 256, 512]⟩
abbrev S8x1x512x256 : Shape := ⟨4, ![8, 1, 512, 256]⟩
abbrev S8x1x144x512 : Shape := ⟨4, ![8, 1, 144, 512]⟩
abbrev S1x8x128 : Shape := ⟨3, ![1, 8, 128]⟩
abbrev S8x128 : Shape := ⟨2, ![8, 128]⟩
abbrev S512 : Shape := ⟨1, ![512]⟩
abbrev S512x1 : Shape := ⟨2, ![512, 1]⟩
abbrev S2048x512 : Shape := ⟨2, ![2048, 512]⟩
abbrev S512x1152 : Shape := ⟨2, ![512, 1152]⟩
abbrev S1024x512 : Shape := ⟨2, ![1024, 512]⟩
abbrev S512x1024 : Shape := ⟨2, ![512, 1024]⟩
abbrev S512x128 : Shape := ⟨2, ![512, 128]⟩
abbrev S512x512 : Shape := ⟨2, ![512, 512]⟩
abbrev S512x384 : Shape := ⟨2, ![512, 384]⟩
abbrev S128x512 : Shape := ⟨2, ![128, 512]⟩
abbrev S16x512 : Shape := ⟨2, ![16, 512]⟩
abbrev S1x128x512 : Shape := ⟨3, ![1, 128, 512]⟩
abbrev S1x1x512x128 : Shape := ⟨4, ![1, 1, 512, 128]⟩
abbrev S1x1x128x512 : Shape := ⟨4, ![1, 1, 128, 512]⟩
abbrev S1x1x16x512 : Shape := ⟨4, ![1, 1, 16, 512]⟩

abbrev nBuf : Space → Nat
  | .hbm => 9
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x2048, .bf16⟩
  | .hbm, ⟨3, _⟩ => ⟨S2048x1152, .bf16⟩
  | .hbm, ⟨4, _⟩ => ⟨S1x128, .f32⟩
  | .hbm, ⟨5, _⟩ => ⟨S8x256x16384, .bf16⟩
  | .hbm, ⟨6, _⟩ => ⟨S8x32x512x256, .bf16⟩
  | .hbm, ⟨7, _⟩ => ⟨S8x32x144x512, .bf16⟩
  | .hbm, ⟨8, _⟩ => ⟨S32x8x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x1152, .bf16⟩
  | .local _ .vmem, ⟨5, _⟩ => ⟨S1x128, .f32⟩
  | .local _ .vmem, ⟨6, _⟩ => ⟨S8x256x512, .bf16⟩
  | .local _ .vmem, ⟨7, _⟩ => ⟨S8x256x512, .bf16⟩
  | .local _ .vmem, ⟨8, _⟩ => ⟨S8x1x512x256, .bf16⟩
  | .local _ .vmem, ⟨9, _⟩ => ⟨S8x1x512x256, .bf16⟩
  | .local _ .vmem, ⟨10, _⟩ => ⟨S8x1x144x512, .bf16⟩
  | .local _ .vmem, ⟨11, _⟩ => ⟨S8x1x144x512, .bf16⟩
  | .local _ .vmem, ⟨12, _⟩ => ⟨S1x8x128, .f32⟩
  | .local _ .vmem, ⟨13, _⟩ => ⟨S1x8x128, .f32⟩
  | .local _ .vmem, ⟨14, _⟩ => ⟨S8x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x144x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepReferenceIdeal.lean ====
abbrev S16384x2048 : Shape := ⟨2, ![16384, 2048]⟩
abbrev S1x2048 : Shape := ⟨2, ![1, 2048]⟩
abbrev S2048x2048 : Shape := ⟨2, ![2048, 2048]⟩
abbrev S2048x1152 : Shape := ⟨2, ![2048, 1152]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S2048x16384 : Shape := ⟨2, ![2048, 16384]⟩
abbrev S1024x16384 : Shape := ⟨2, ![1024, 16384]⟩
abbrev S8x128x16384 : Shape := ⟨3, ![8, 128, 16384]⟩
abbrev S8 : Shape := ⟨1, ![8]⟩
abbrev S8x1 : Shape := ⟨2, ![8, 1]⟩
abbrev S128 : Shape := ⟨1, ![128]⟩
abbrev S8x128 : Shape := ⟨2, ![8, 128]⟩
abbrev S8x128x1 : Shape := ⟨3, ![8, 128, 1]⟩
abbrev S8x256x16384 : Shape := ⟨3, ![8, 256, 16384]⟩
abbrev S8x128x32x512 : Shape := ⟨4, ![8, 128, 32, 512]⟩
abbrev S8x32x128x512 : Shape := ⟨4, ![8, 32, 128, 512]⟩
abbrev S16 : Shape := ⟨1, ![16]⟩
abbrev S16x1 : Shape := ⟨2, ![16, 1]⟩
abbrev S8x32x16x512 : Shape := ⟨4, ![8, 32, 16, 512]⟩
abbrev S8x32x144x512 : Shape := ⟨4, ![8, 32, 144, 512]⟩

abbrev nBuf : Space → Nat
  | .hbm => 65
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x2048, .bf16⟩
  | .hbm, ⟨3, _⟩ => ⟨S2048x1152, .bf16⟩
  | .hbm, ⟨4, _⟩ => ⟨S1x128, .f32⟩
  | .hbm, ⟨5, _⟩ => ⟨S2048x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S2048x16384, .f32⟩
  | .hbm, ⟨22, _⟩ => ⟨S1024x16384, .f32⟩
  | .hbm, ⟨23, _⟩ => ⟨S_, .f32⟩
  | .hbm, ⟨24, _⟩ => ⟨S1024x16384, .f32⟩
  | .hbm, ⟨25, _⟩ => ⟨S1024x16384, .f32⟩
  | .hbm, ⟨26, _⟩ => ⟨S8x128x16384, .f32⟩
  | .hbm, ⟨27, _⟩ => ⟨S8, .i32⟩
  | .hbm, ⟨28, _⟩ => ⟨S8x1, .i32⟩
  | .hbm, ⟨29, _⟩ => ⟨S128, .i32⟩
  | .hbm, ⟨30, _⟩ => ⟨S1x128, .i32⟩
  | .hbm, ⟨31, _⟩ => ⟨S8x128, .i32⟩
  | .hbm, ⟨32, _⟩ => ⟨S8x128, .i32⟩
  | .hbm, ⟨33, _⟩ => ⟨S8x128, .i1⟩
  | .hbm, ⟨34, _⟩ => ⟨S_, .i32⟩
  | .hbm, ⟨35, _⟩ => ⟨S8x1, .i32⟩
  | .hbm, ⟨36, _⟩ => ⟨S8x1, .i32⟩
  | .hbm, ⟨37, _⟩ => ⟨S8x128, .i32⟩
  | .hbm, ⟨38, _⟩ => ⟨S8x128, .i32⟩
  | .hbm, ⟨39, _⟩ => ⟨S8x128, .i1⟩
  | .hbm, ⟨40, _⟩ => ⟨S8x128, .i1⟩
  | .hbm, ⟨41, _⟩ => ⟨S_, .i32⟩
  | .hbm, ⟨42, _⟩ => ⟨S8x1, .i32⟩
  | .hbm, ⟨43, _⟩ => ⟨S8x1, .i32⟩
  | .hbm, ⟨44, _⟩ => ⟨S8x128, .i32⟩
  | .hbm, ⟨45, _⟩ => ⟨S8x128, .i32⟩
  | .hbm, ⟨46, _⟩ => ⟨S8x128, .i1⟩
  | .hbm, ⟨47, _⟩ => ⟨S8x128, .i1⟩
  | .hbm, ⟨48, _⟩ => ⟨S8x128, .f32⟩
  | .hbm, ⟨49, _⟩ => ⟨S8x128x1, .f32⟩
  | .hbm, ⟨50, _⟩ => ⟨S8x128x16384, .f32⟩
  | .hbm, ⟨51, _⟩ => ⟨S8x256x16384, .f32⟩
  | .hbm, ⟨52, _⟩ => ⟨S1024x16384, .f32⟩
  | .hbm, ⟨53, _⟩ => ⟨S8x128x32x512, .f32⟩
  | .hbm, ⟨54, _⟩ => ⟨S8x32x128x512, .f32⟩
  | .hbm, ⟨55, _⟩ => ⟨S16, .i32⟩
  | .hbm, ⟨56, _⟩ => ⟨S_, .i32⟩
  | .hbm, ⟨57, _⟩ => ⟨S16, .i32⟩
  | .hbm, ⟨58, _⟩ => ⟨S16, .i1⟩
  | .hbm, ⟨59, _⟩ => ⟨S16, .f32⟩
  | .hbm, ⟨60, _⟩ => ⟨S16x1, .f32⟩
  | .hbm, ⟨61, _⟩ => ⟨S8x32x16x512, .f32⟩
  | .hbm, ⟨62, _⟩ => ⟨S8x32x144x512, .f32⟩
  | .hbm, ⟨63, _⟩ => ⟨S8x256x16384, .bf16⟩
  | .hbm, ⟨64, _⟩ => ⟨S8x32x144x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Proof.Sweep.Body.lean ====
/- The attention call's body, written out by its steps. One grid point owns 4096 queries, cut into sixteen strips of 256
   columns, and walks the key blocks of 512 rows up to its diagonal. A strip's step on a block (`attendWith`) folds the
   scores already in the score buffer into the running maximum and the accumulator; the strip's scores of the next block
   (`scores`) are made right after. `body` is the whole sequence: the accumulator zeroed, the scores of block 0, the trips
   of eight full blocks, the eight blocks on the diagonal, the quotient. -/
module

public import proofs.«01_k».proof.KernelIdeal

@[expose] public section

noncomputable section

namespace Cert.KernelIdeal.Sweep

open Idealize.ShloMosaic Idealize.SL.Sem
open Facts₀ Facts

variable {F : FTy → Type} [FloatOps F]
variable [Facts]

/-- The running maximum of each of the sixteen strips, each followed by the maximum of the strip's waiting scores. -/
abbrev Carry (F : FTy → Type) : Type :=
  FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32

/-- A program of the call's body. -/
abbrev P (F : FTy → Type) (α : Type) : Type 1 := Prog (TpuEff nD τ sig (Elt F) Λ₀ .tc) α

/-- The scores of one strip against the key block at `oK`: into the score buffer, and their maximum over the block. -/
def scores (arg3 : Memref sig .tc .vmem S1x256x4096 .bf16) (arg4 : Memref sig .tc .vmem S1x32x512x256 .bf16)
    (arg7 : Memref sig .tc .vmem S512x4096 .f32) (oK : Fin 4 → Nat) (hK : ∀ a, oK a + S1x1x512x256.size a ≤ S1x32x512x256.size a)
    (oS : Fin 2 → Nat) (hS : ∀ a, oS a + S512x256.size a ≤ S512x4096.size a)
    (oQ : Fin 3 → Nat) (hQ : ∀ a, oQ a + S1x256x256.size a ≤ S1x256x4096.size a) : P F (FVec F S1x256 .f32) := do
  let k : Vec F S1x1x512x256 .bf16 ← Prog.lift (.load arg4 (Rect.unit (s := S1x32x512x256) oK S1x1x512x256.size hK).toLoadRect (View.loadsAt_vmem h_S1x1x512x256))
  let q : Vec F S1x256x256 .bf16 ← Prog.lift (.load arg3 (Rect.unit (s := S1x256x4096) oQ S1x256x256.size hQ).toLoadRect (View.loadsAt_vmem h_S1x256x256))
  have k' : FVec F S512x256 .bf16 := shapeCast S512x256 k shapeCasts_S1x1x512x256_S512x256
  have q' : FVec F S256x256 .bf16 := shapeCast S256x256 q shapeCasts_S1x256x256_S256x256
  have z : FVec F S512x256 .f32 := constant S512x256 .f32 0x00000000#32
  have s : FVec F S512x256 .f32 := matmul dot_S512x256_S256x256_S512x256_1_0_0_1_n_n none k' q' z
  let _ : Vec F S512x256 .f32 ← Prog.lift (.load arg7 (Rect.unit (s := S512x4096) oS S512x256.size hS).toLoadRect (View.loadsAt_vmem h_S512x256))
  have s' : FVec F S512x256 .f32 := shapeCast S512x256 s shapeCasts_S512x256_S512x256
  Prog.lift (.store arg7 (Rect.unit (s := S512x4096) oS S512x256.size hS) s' Finset.univ (View.stores_vmem_bits_univ h_S512x256 rfl) (.inl rfl))
  have c : FVec F S256 .f32 := multiReduction .maximumf [0] S256 s 0xFF800000#32 reduces_S512x256_S256 (.inl rfl) rfl
  have b : FVec F S1x256 .f32 := shapeCast S1x256 c shapeCasts_S256_S1x256
  pure b

/-- One strip's step on one block, for scores `s` and their maximum `b`: the new running maximum, with the accumulator's
    strip rescaled and the block's weighted values added. -/
def attendWith (arg2 : Memref sig .tc .smem S8x32 .f32) (arg5 : Memref sig .tc .vmem S1x32x144x512 .bf16)
    (arg8 : Memref sig .tc .vmem S144x4096 .f32)
    (oR : Fin 2 → Nat) (hR : ∀ a, oR a + S1x1.size a ≤ S8x32.size a)
    (oV : Fin 4 → Nat) (hV : ∀ a, oV a + S1x1x144x512.size a ≤ S1x32x144x512.size a)
    (oS : Fin 2 → Nat) (hA : ∀ a, oS a + S144x256.size a ≤ S144x4096.size a)
    (m b : FVec F S1x256 .f32) (s : Vec F S512x256 .f32) : P F (FVec F S1x256 .f32) := do
  let r : Elt F .f32 ← smemLoad arg2 (Rect.unit (s := S8x32) oR S1x1.size hR) numel1_S1x1 rfl
  let a : Vec F S144x256 .f32 ← Prog.lift (.load arg8 (Rect.unit (s := S144x4096) oS S144x256.size hA).toLoadRect (View.loadsAt_vmem h_S144x256))
  let v : Vec F S1x1x144x512 .bf16 ← Prog.lift (.load arg5 (Rect.unit (s := S1x32x144x512) oV S1x1x144x512.size hV).toLoadRect (View.loadsAt_vmem h_S1x1x144x512))
  let _ : Vec F S144x256 .f32 ← Prog.lift (.load arg8 (Rect.unit (s := S144x4096) oS S144x256.size hA).toLoadRect (View.loadsAt_vmem h_S144x256))
  have r₁ : FVec F S1x256 .f32 := broadcast S1x256 r
  have c : FVec F S1x256 .f32 := subf b r₁
  have m' : FVec F S1x256 .f32 := maximumf m c
  have d : FVec F S1x256 .f32 := subf m m'
  have α : FVec F S1x256 .f32 := exp2 d
  have h : FVec F S1x256 .f32 := addf m' r₁
  have h' : FVec F S512x256 .f32 := broadcastTo S512x256 h broadcasts_S1x256_S512x256
  have x : FVec F S512x256 .f32 := subf s h'
  have e : FVec F S512x256 .f32 := exp2 x
  have p : FVec F S512x256 .bf16 := truncf .bf16 e bitsLt_bf16_f32
  have α' : FVec F S144x256 .f32 := broadcastTo S144x256 α broadcasts_S1x256_S144x256
  have a' : FVec F S144x256 .f32 := mulf α' a
  have v' : FVec F S144x512 .bf16 := shapeCast S144x512 v shapeCasts_S1x1x144x512_S144x512
  have z : FVec F S144x256 .f32 := constant S144x256 .f32 0x00000000#32
  have w : FVec F S144x256 .f32 := matmul dot_S144x512_S512x256_S144x256_1_0_0_1_n_n none v' p z
  have u : FVec F S144x256 .f32 := addf a' w
  have u' : FVec F S144x256 .f32 := shapeCast S144x256 u shapeCasts_S144x256_S144x256
  Prog.lift (.store arg8 (Rect.unit (s := S144x4096) oS S144x256.size hA) u' Finset.univ (View.stores_vmem_bits_univ h_S144x256 rfl) (.inl rfl))
  pure m'

/-- What a program needs of a strip: its offset in the two scratch buffers and in the queries, each with its bound. -/
abbrev AtStrip (F : FTy → Type) (α : Type) : Type 1 :=
  (oS : Fin 2 → Nat) → (∀ a, oS a + S512x256.size a ≤ S512x4096.size a) → (∀ a, oS a + S144x256.size a ≤ S144x4096.size a) →
    (oQ : Fin 3 → Nat) → (∀ a, oQ a + S1x256x256.size a ≤ S1x256x4096.size a) → P F α

def strip0 {α : Type} (f : AtStrip F α) : P F α := f ![0, 0] inb_S512x4096_S512x256_0_0 inb_S144x4096_S144x256_0_0 ![0, 0, 0] inb_S1x256x4096_S1x256x256_0_0_0
def strip1 {α : Type} (f : AtStrip F α) : P F α := f ![0, 256] inb_S512x4096_S512x256_0_256 inb_S144x4096_S144x256_0_256 ![0, 0, 256] inb_S1x256x4096_S1x256x256_0_0_256
def strip2 {α : Type} (f : AtStrip F α) : P F α := f ![0, 512] inb_S512x4096_S512x256_0_512 inb_S144x4096_S144x256_0_512 ![0, 0, 512] inb_S1x256x4096_S1x256x256_0_0_512
def strip3 {α : Type} (f : AtStrip F α) : P F α := f ![0, 768] inb_S512x4096_S512x256_0_768 inb_S144x4096_S144x256_0_768 ![0, 0, 768] inb_S1x256x4096_S1x256x256_0_0_768
def strip4 {α : Type} (f : AtStrip F α) : P F α := f ![0, 1024] inb_S512x4096_S512x256_0_1024 inb_S144x4096_S144x256_0_1024 ![0, 0, 1024] inb_S1x256x4096_S1x256x256_0_0_1024
def strip5 {α : Type} (f : AtStrip F α) : P F α := f ![0, 1280] inb_S512x4096_S512x256_0_1280 inb_S144x4096_S144x256_0_1280 ![0, 0, 1280] inb_S1x256x4096_S1x256x256_0_0_1280
def strip6 {α : Type} (f : AtStrip F α) : P F α := f ![0, 1536] inb_S512x4096_S512x256_0_1536 inb_S144x4096_S144x256_0_1536 ![0, 0, 1536] inb_S1x256x4096_S1x256x256_0_0_1536
def strip7 {α : Type} (f : AtStrip F α) : P F α := f ![0, 1792] inb_S512x4096_S512x256_0_1792 inb_S144x4096_S144x256_0_1792 ![0, 0, 1792] inb_S1x256x4096_S1x256x256_0_0_1792
def strip8 {α : Type} (f : AtStrip F α) : P F α := f ![0, 2048] inb_S512x4096_S512x256_0_2048 inb_S144x4096_S144x256_0_2048 ![0, 0, 2048] inb_S1x256x4096_S1x256x256_0_0_2048
def strip9 {α : Type} (f : AtStrip F α) : P F α := f ![0, 2304] inb_S512x4096_S512x256_0_2304 inb_S144x4096_S144x256_0_2304 ![0, 0, 2304] inb_S1x256x4096_S1x256x256_0_0_2304
def strip10 {α : Type} (f : AtStrip F α) : P F α := f ![0, 2560] inb_S512x4096_S512x256_0_2560 inb_S144x4096_S144x256_0_2560 ![0, 0, 2560] inb_S1x256x4096_S1x256x256_0_0_2560
def strip11 {α : Type} (f : AtStrip F α) : P F α := f ![0, 2816] inb_S512x4096_S512x256_0_2816 inb_S144x4096_S144x256_0_2816 ![0, 0, 2816] inb_S1x256x4096_S1x256x256_0_0_2816
def strip12 {α : Type} (f : AtStrip F α) : P F α := f ![0, 3072] inb_S512x4096_S512x256_0_3072 inb_S144x4096_S144x256_0_3072 ![0, 0, 3072] inb_S1x256x4096_S1x256x256_0_0_3072
def strip13 {α : Type} (f : AtStrip F α) : P F α := f ![0, 3328] inb_S512x4096_S512x256_0_3328 inb_S144x4096_S144x256_0_3328 ![0, 0, 3328] inb_S1x256x4096_S1x256x256_0_0_3328
def strip14 {α : Type} (f : AtStrip F α) : P F α := f ![0, 3584] inb_S512x4096_S512x256_0_3584 inb_S144x4096_S144x256_0_3584 ![0, 0, 3584] inb_S1x256x4096_S1x256x256_0_0_3584
def strip15 {α : Type} (f : AtStrip F α) : P F α := f ![0, 3840] inb_S512x4096_S512x256_0_3840 inb_S144x4096_S144x256_0_3840 ![0, 0, 3840] inb_S1x256x4096_S1x256x256_0_0_3840

/-- A strip's scores against the block at `oK`. -/
def scoresAt (arg3 : Memref sig .tc .vmem S1x256x4096 .bf16) (arg4 : Memref sig .tc .vmem S1x32x512x256 .bf16)
    (arg7 : Memref sig .tc .vmem S512x4096 .f32) (oK : Fin 4 → Nat) (hK : ∀ a, oK a + S1x1x512x256.size a ≤ S1x32x512x256.size a) :
    AtStrip F (FVec F S1x256 .f32) := fun oS hS _ oQ hQ => scores arg3 arg4 arg7 oK hK oS hS oQ hQ

/-- A strip's step on a block wholly before its queries, and its scores against the next block, at `oK`. -/
def fullAt (arg2 : Memref sig .tc .smem S8x32 .f32) (arg3 : Memref sig .tc .vmem S1x256x4096 .bf16)
    (arg4 : Memref sig .tc .vmem S1x32x512x256 .bf16) (arg5 : Memref sig .tc .vmem S1x32x144x512 .bf16)
    (arg7 : Memref sig .tc .vmem S512x4096 .f32) (arg8 : Memref sig .tc .vmem S144x4096 .f32)
    (oR : Fin 2 → Nat) (hR : ∀ a, oR a + S1x1.size a ≤ S8x32.size a)
    (oV : Fin 4 → Nat) (hV : ∀ a, oV a + S1x1x144x512.size a ≤ S1x32x144x512.size a)
    (oK : Fin 4 → Nat) (hK : ∀ a, oK a + S1x1x512x256.size a ≤ S1x32x512x256.size a) (m b : FVec F S1x256 .f32) :
    AtStrip F (FVec F S1x256 .f32 × FVec F S1x256 .f32) := fun oS hS hA oQ hQ => do
  let s : Vec F S512x256 .f32 ← Prog.lift (.load arg7 (Rect.unit (s := S512x4096) oS S512x256.size hS).toLoadRect (View.loadsAt_vmem h_S512x256))
  let m' ← attendWith arg2 arg5 arg8 oR hR oV hV oS hA m b s
  let b' ← scores arg3 arg4 arg7 oK hK oS hS oQ hQ
  pure (m', b')

/-- A strip's step on the block that its queries start or end in: of the keys from `key0` on, those after a query are
    masked, the strip's queries being those from `qry0` on. -/
def edgeAt (mask : F .f32) (arg2 : Memref sig .tc .smem S8x32 .f32) (arg5 : Memref sig .tc .vmem S1x32x144x512 .bf16)
    (arg7 : Memref sig .tc .vmem S512x4096 .f32) (arg8 : Memref sig .tc .vmem S144x4096 .f32)
    (oR : Fin 2 → Nat) (hR : ∀ a, oR a + S1x1.size a ≤ S8x32.size a)
    (oV : Fin 4 → Nat) (hV : ∀ a, oV a + S1x1x144x512.size a ≤ S1x32x144x512.size a) (key0 qry0 : BitVec 32) (m : FVec F S1x256 .f32) :
    AtStrip F (FVec F S1x256 .f32) := fun oS hS hA _ _ => do
  let s : Vec F S512x256 .f32 ← Prog.lift (.load arg7 (Rect.unit (s := S512x4096) oS S512x256.size hS).toLoadRect (View.loadsAt_vmem h_S512x256))
  have k₀ : IVec S512x256 32 := iota .tc S512x256 32 [0] iota_S512x256_d0_w32
  have k₁ : IVec S512x256 32 := broadcast S512x256 key0
  have k₂ : IVec S512x256 32 := addi k₁ k₀
  have q₀ : IVec S512x256 32 := iota .tc S512x256 32 [1] iota_S512x256_d1_w32
  have q₁ : IVec S512x256 32 := broadcast S512x256 qry0
  have q₂ : IVec S512x256 32 := addi q₁ q₀
  have seen : IVec S512x256 1 := cmpi .sle k₂ q₂
  have off : FVec F S512x256 .f32 := broadcast S512x256 mask
  have s' : Vec F S512x256 .f32 := select seen s off
  have c : FVec F S256 .f32 := multiReduction .maximumf [0] S256 s' 0xFF800000#32 reduces_S512x256_S256 (.inl rfl) rfl
  have b : FVec F S1x256 .f32 := shapeCast S1x256 c shapeCasts_S256_S1x256
  attendWith arg2 arg5 arg8 oR hR oV hV oS hA m b s'

/-- All sixteen strips on one block wholly before the queries, `f` being the step of one strip. -/
def block (f : FVec F S1x256 .f32 → FVec F S1x256 .f32 → AtStrip F (FVec F S1x256 .f32 × FVec F S1x256 .f32)) : Carry F → P F (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32)
  | (m0, b0, m1, b1, m2, b2, m3, b3, m4, b4, m5, b5, m6, b6, m7, b7, m8, b8, m9, b9, m10, b10, m11, b11, m12, b12, m13, b13, m14, b14, m15, b15) => do
    let (m0, b0) ← strip0 (f m0 b0)
    let (m1, b1) ← strip1 (f m1 b1)
    let (m2, b2) ← strip2 (f m2 b2)
    let (m3, b3) ← strip3 (f m3 b3)
    let (m4, b4) ← strip4 (f m4 b4)
    let (m5, b5) ← strip5 (f m5 b5)
    let (m6, b6) ← strip6 (f m6 b6)
    let (m7, b7) ← strip7 (f m7 b7)
    let (m8, b8) ← strip8 (f m8 b8)
    let (m9, b9) ← strip9 (f m9 b9)
    let (m10, b10) ← strip10 (f m10 b10)
    let (m11, b11) ← strip11 (f m11 b11)
    let (m12, b12) ← strip12 (f m12 b12)
    let (m13, b13) ← strip13 (f m13 b13)
    let (m14, b14) ← strip14 (f m14 b14)
    let (m15, b15) ← strip15 (f m15 b15)
    pure (m0, b0, m1, b1, m2, b2, m3, b3, m4, b4, m5, b5, m6, b6, m7, b7, m8, b8, m9, b9, m10, b10, m11, b11, m12, b12, m13, b13, m14, b14, m15, b15)

/-- One trip of the loop: eight blocks. -/
def trip1 (i : grid0.Coords) (arg2 : Memref sig .tc .smem S8x32 .f32) (arg3 : Memref sig .tc .vmem S1x256x4096 .bf16)
    (arg4 : Memref sig .tc .vmem S1x32x512x256 .bf16) (arg5 : Memref sig .tc .vmem S1x32x144x512 .bf16)
    (arg7 : Memref sig .tc .vmem S512x4096 .f32) (arg8 : Memref sig .tc .vmem S144x4096 .f32)
    (t : Fin (k0_t1_loop i).trips) (st : Carry F) : P F (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) := do
  let st ← block (fullAt arg2 arg3 arg4 arg5 arg7 arg8 (k0_off1 i t 0#32) (k0_off1_inb i t 0) (k0_off2 i t 0#32) (k0_off2_inb i t 0) (k0_off3 i t 0#32) (k0_off3_inb i t 0)) st
  let st ← block (fullAt arg2 arg3 arg4 arg5 arg7 arg8 (k0_off1 i t 1#32) (k0_off1_inb i t 1) (k0_off2 i t 1#32) (k0_off2_inb i t 1) (k0_off3 i t 1#32) (k0_off3_inb i t 1)) st
  let st ← block (fullAt arg2 arg3 arg4 arg5 arg7 arg8 (k0_off1 i t 2#32) (k0_off1_inb i t 2) (k0_off2 i t 2#32) (k0_off2_inb i t 2) (k0_off3 i t 2#32) (k0_off3_inb i t 2)) st
  let st ← block (fullAt arg2 arg3 arg4 arg5 arg7 arg8 (k0_off1 i t 3#32) (k0_off1_inb i t 3) (k0_off2 i t 3#32) (k0_off2_inb i t 3) (k0_off3 i t 3#32) (k0_off3_inb i t 3)) st
  let st ← block (fullAt arg2 arg3 arg4 arg5 arg7 arg8 (k0_off1 i t 4#32) (k0_off1_inb i t 4) (k0_off2 i t 4#32) (k0_off2_inb i t 4) (k0_off3 i t 4#32) (k0_off3_inb i t 4)) st
  let st ← block (fullAt arg2 arg3 arg4 arg5 arg7 arg8 (k0_off1 i t 5#32) (k0_off1_inb i t 5) (k0_off2 i t 5#32) (k0_off2_inb i t 5) (k0_off3 i t 5#32) (k0_off3_inb i t 5)) st
  let st ← block (fullAt arg2 arg3 arg4 arg5 arg7 arg8 (k0_off1 i t 6#32) (k0_off1_inb i t 6) (k0_off2 i t 6#32) (k0_off2_inb i t 6) (k0_off3 i t 6#32) (k0_off3_inb i t 6)) st
  let st ← block (fullAt arg2 arg3 arg4 arg5 arg7 arg8 (k0_off1 i t 7#32) (k0_off1_inb i t 7) (k0_off2 i t 7#32) (k0_off2_inb i t 7) (k0_off3 i t 7#32) (k0_off3_inb i t 7)) st
  pure st

/-- One trip of the remainder loop: eight blocks. -/
def trip2 (i : grid0.Coords) (arg2 : Memref sig .tc .smem S8x32 .f32) (arg3 : Memref sig .tc .vmem S1x256x4096 .bf16)
    (arg4 : Memref sig .tc .vmem S1x32x512x256 .bf16) (arg5 : Memref sig .tc .vmem S1x32x144x512 .bf16)
    (arg7 : Memref sig .tc .vmem S512x4096 .f32) (arg8 : Memref sig .tc .vmem S144x4096 .f32)
    (t : Fin (k0_t2_loop i).trips) (st : Carry F) : P F (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) := do
  let st ← block (fullAt arg2 arg3 arg4 arg5 arg7 arg8 (k0_off4 i t 0#32) (k0_off4_inb i t 0) (k0_off5 i t 0#32) (k0_off5_inb i t 0) (k0_off6 i t 0#32) (k0_off6_inb i t 0)) st
  let st ← block (fullAt arg2 arg3 arg4 arg5 arg7 arg8 (k0_off4 i t 1#32) (k0_off4_inb i t 1) (k0_off5 i t 1#32) (k0_off5_inb i t 1) (k0_off6 i t 1#32) (k0_off6_inb i t 1)) st
  let st ← block (fullAt arg2 arg3 arg4 arg5 arg7 arg8 (k0_off4 i t 2#32) (k0_off4_inb i t 2) (k0_off5 i t 2#32) (k0_off5_inb i t 2) (k0_off6 i t 2#32) (k0_off6_inb i t 2)) st
  let st ← block (fullAt arg2 arg3 arg4 arg5 arg7 arg8 (k0_off4 i t 3#32) (k0_off4_inb i t 3) (k0_off5 i t 3#32) (k0_off5_inb i t 3) (k0_off6 i t 3#32) (k0_off6_inb i t 3)) st
  let st ← block (fullAt arg2 arg3 arg4 arg5 arg7 arg8 (k0_off4 i t 4#32) (k0_off4_inb i t 4) (k0_off5 i t 4#32) (k0_off5_inb i t 4) (k0_off6 i t 4#32) (k0_off6_inb i t 4)) st
  let st ← block (fullAt arg2 arg3 arg4 arg5 arg7 arg8 (k0_off4 i t 5#32) (k0_off4_inb i t 5) (k0_off5 i t 5#32) (k0_off5_inb i t 5) (k0_off6 i t 5#32) (k0_off6_inb i t 5)) st
  let st ← block (fullAt arg2 arg3 arg4 arg5 arg7 arg8 (k0_off4 i t 6#32) (k0_off4_inb i t 6) (k0_off5 i t 6#32) (k0_off5_inb i t 6) (k0_off6 i t 6#32) (k0_off6_inb i t 6)) st
  let st ← block (fullAt arg2 arg3 arg4 arg5 arg7 arg8 (k0_off4 i t 7#32) (k0_off4_inb i t 7) (k0_off5 i t 7#32) (k0_off5_inb i t 7) (k0_off6 i t 7#32) (k0_off6_inb i t 7)) st
  pure st

/-- The carry of the strips from 2 on. -/
abbrev Rest1 (F : FTy → Type) : Type :=
  FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32

/-- Block 0 of the diagonal: the strips from 0 on, the first two of them masked. -/
def diag0 (mask : F .f32) (i : grid0.Coords) (arg2 : Memref sig .tc .smem S8x32 .f32) (arg3 : Memref sig .tc .vmem S1x256x4096 .bf16)
    (arg4 : Memref sig .tc .vmem S1x32x512x256 .bf16) (arg5 : Memref sig .tc .vmem S1x32x144x512 .bf16)
    (arg7 : Memref sig .tc .vmem S512x4096 .f32) (arg8 : Memref sig .tc .vmem S144x4096 .f32) : Carry F → P F (Rest1 F)
  | (m0, b0, m1, b1, m2, b2, m3, b3, m4, b4, m5, b5, m6, b6, m7, b7, m8, b8, m9, b9, m10, b10, m11, b11, m12, b12, m13, b13, m14, b14, m15, b15) => do
    let _ ← strip0 (edgeAt mask arg2 arg5 arg7 arg8 (k0_off7 i 0#32) (k0_off7_inb i 0) (k0_off8 i 0#32) (k0_off8_inb i 0) 0#32 0#32 m0)
    let _ ← strip1 (edgeAt mask arg2 arg5 arg7 arg8 (k0_off7 i 0#32) (k0_off7_inb i 0) (k0_off8 i 0#32) (k0_off8_inb i 0) 0#32 256#32 m1)
    let (m2, b2) ← strip2 (fullAt arg2 arg3 arg4 arg5 arg7 arg8 (k0_off7 i 0#32) (k0_off7_inb i 0) (k0_off8 i 0#32) (k0_off8_inb i 0) (k0_off9 i 0#32) (k0_off9_inb i 0) m2 b2)
    let (m3, b3) ← strip3 (fullAt arg2 arg3 arg4 arg5 arg7 arg8 (k0_off7 i 0#32) (k0_off7_inb i 0) (k0_off8 i 0#32) (k0_off8_inb i 0) (k0_off9 i 0#32) (k0_off9_inb i 0) m3 b3)
    let (m4, b4) ← strip4 (fullAt arg2 arg3 arg4 arg5 arg7 arg8 (k0_off7 i 0#32) (k0_off7_inb i 0) (k0_off8 i 0#32) (k0_off8_inb i 0) (k0_off9 i 0#32) (k0_off9_inb i 0) m4 b4)
    let (m5, b5) ← strip5 (fullAt arg2 arg3 arg4 arg5 arg7 arg8 (k0_off7 i 0#32) (k0_off7_inb i 0) (k0_off8 i 0#32) (k0_off8_inb i 0) (k0_off9 i 0#32) (k0_off9_inb i 0) m5 b5)
    let (m6, b6) ← strip6 (fullAt arg2 arg3 arg4 arg5 arg7 arg8 (k0_off7 i 0#32) (k0_off7_inb i 0) (k0_off8 i 0#32) (k0_off8_inb i 0) (k0_off9 i 0#32) (k0_off9_inb i 0) m6 b6)
    let (m7, b7) ← strip7 (fullAt arg2 arg3 arg4 arg5 arg7 arg8 (k0_off7 i 0#32) (k0_off7_inb i 0) (k0_off8 i 0#32) (k0_off8_inb i 0) (k0_off9 i 0#32) (k0_off9_inb i 0) m7 b7)
    let (m8, b8) ← strip8 (fullAt arg2 arg3 arg4 arg5 arg7 arg8 (k0_off7 i 0#32) (k0_off7_inb i 0) (k0_off8 i 0#32) (k0_off8_inb i 0) (k0_off9 i 0#32) (k0_off9_inb i 0) m8 b8)
    let (m9, b9) ← strip9 (fullAt arg2 arg3 arg4 arg5 arg7 arg8 (k0_off7 i 0#32) (k0_off7_inb i 0) (k0_off8 i 0#32) (k0_off8_inb i 0) (k0_off9 i 0#32) (k0_off9_inb i 0) m9 b9)
    let (m10, b10) ← strip10 (fullAt arg2 arg3 arg4 arg5 arg7 arg8 (k0_off7 i 0#32) (k0_off7_inb i 0) (k0_off8 i 0#32) (k0_off8_inb i 0) (k0_off9 i 0#32) (k0_off9_inb i 0) m10 b10)
    let (m11, b11) ← strip11 (fullAt arg2 arg3 arg4 arg5 arg7 arg8 (k0_off7 i 0#32) (k0_off7_inb i 0) (k0_off8 i 0#32) (k0_off8_inb i 0) (k0_off9 i 0#32) (k0_off9_inb i 0) m11 b11)
    let (m12, b12) ← strip12 (fullAt arg2 arg3 arg4 arg5 arg7 arg8 (k0_off7 i 0#32) (k0_off7_inb i 0) (k0_off8 i 0#32) (k0_off8_inb i 0) (k0_off9 i 0#32) (k0_off9_inb i 0) m12 b12)
    let (m13, b13) ← strip13 (fullAt arg2 arg3 arg4 arg5 arg7 arg8 (k0_off7 i 0#32) (k0_off7_inb i 0) (k0_off8 i 0#32) (k0_off8_inb i 0) (k0_off9 i 0#32) (k0_off9_inb i 0) m13 b13)
    let (m14, b14) ← strip14 (fullAt arg2 arg3 arg4 arg5 arg7 arg8 (k0_off7 i 0#32) (k0_off7_inb i 0) (k0_off8 i 0#32) (k0_off8_inb i 0) (k0_off9 i 0#32) (k0_off9_inb i 0) m14 b14)
    let (m15, b15) ← strip15 (fullAt arg2 arg3 arg4 arg5 arg7 arg8 (k0_off7 i 0#32) (k0_off7_inb i 0) (k0_off8 i 0#32) (k0_off8_inb i 0) (k0_off9 i 0#32) (k0_off9_inb i 0) m15 b15)
    pure (m2, b2, m3, b3, m4, b4, m5, b5, m6, b6, m7, b7, m8, b8, m9, b9, m10, b10, m11, b11, m12, b12, m13, b13, m14, b14, m15, b15)

/-- The carry of the strips from 4 on. -/
abbrev Rest2 (F : FTy → Type) : Type :=
  FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32

/-- Block 1 of the diagonal: the strips from 2 on, the first two of them masked. -/
def diag1 (mask : F .f32) (i : grid0.Coords) (arg2 : Memref sig .tc .smem S8x32 .f32) (arg3 : Memref sig .tc .vmem S1x256x4096 .bf16)
    (arg4 : Memref sig .tc .vmem S1x32x512x256 .bf16) (arg5 : Memref sig .tc .vmem S1x32x144x512 .bf16)
    (arg7 : Memref sig .tc .vmem S512x4096 .f32) (arg8 : Memref sig .tc .vmem S144x4096 .f32) : Rest1 F → P F (Rest2 F)
  | (m2, b2, m3, b3, m4, b4, m5, b5, m6, b6, m7, b7, m8, b8, m9, b9, m10, b10, m11, b11, m12, b12, m13, b13, m14, b14, m15, b15) => do
    let _ ← strip2 (edgeAt mask arg2 arg5 arg7 arg8 (k0_off7 i 1#32) (k0_off7_inb i 1) (k0_off8 i 1#32) (k0_off8_inb i 1) 512#32 512#32 m2)
    let _ ← strip3 (edgeAt mask arg2 arg5 arg7 arg8 (k0_off7 i 1#32) (k0_off7_inb i 1) (k0_off8 i 1#32) (k0_off8_inb i 1) 512#32 768#32 m3)
    let (m4, b4) ← strip4 (fullAt arg2 arg3 arg4 arg5 arg7 arg8 (k0_off7 i 1#32) (k0_off7_inb i 1) (k0_off8 i 1#32) (k0_off8_inb i 1) (k0_off9 i 1#32) (k0_off9_inb i 1) m4 b4)
    let (m5, b5) ← strip5 (fullAt arg2 arg3 arg4 arg5 arg7 arg8 (k0_off7 i 1#32) (k0_off7_inb i 1) (k0_off8 i 1#32) (k0_off8_inb i 1) (k0_off9 i 1#32) (k0_off9_inb i 1) m5 b5)
    let (m6, b6) ← strip6 (fullAt arg2 arg3 arg4 arg5 arg7 arg8 (k0_off7 i 1#32) (k0_off7_inb i 1) (k0_off8 i 1#32) (k0_off8_inb i 1) (k0_off9 i 1#32) (k0_off9_inb i 1) m6 b6)
    let (m7, b7) ← strip7 (fullAt arg2 arg3 arg4 arg5 arg7 arg8 (k0_off7 i 1#32) (k0_off7_inb i 1) (k0_off8 i 1#32) (k0_off8_inb i 1) (k0_off9 i 1#32) (k0_off9_inb i 1) m7 b7)
    let (m8, b8) ← strip8 (fullAt arg2 arg3 arg4 arg5 arg7 arg8 (k0_off7 i 1#32) (k0_off7_inb i 1) (k0_off8 i 1#32) (k0_off8_inb i 1) (k0_off9 i 1#32) (k0_off9_inb i 1) m8 b8)
    let (m9, b9) ← strip9 (fullAt arg2 arg3 arg4 arg5 arg7 arg8 (k0_off7 i 1#32) (k0_off7_inb i 1) (k0_off8 i 1#32) (k0_off8_inb i 1) (k0_off9 i 1#32) (k0_off9_inb i 1) m9 b9)
    let (m10, b10) ← strip10 (fullAt arg2 arg3 arg4 arg5 arg7 arg8 (k0_off7 i 1#32) (k0_off7_inb i 1) (k0_off8 i 1#32) (k0_off8_inb i 1) (k0_off9 i 1#32) (k0_off9_inb i 1) m10 b10)
    let (m11, b11) ← strip11 (fullAt arg2 arg3 arg4 arg5 arg7 arg8 (k0_off7 i 1#32) (k0_off7_inb i 1) (k0_off8 i 1#32) (k0_off8_inb i 1) (k0_off9 i 1#32) (k0_off9_inb i 1) m11 b11)
    let (m12, b12) ← strip12 (fullAt arg2 arg3 arg4 arg5 arg7 arg8 (k0_off7 i 1#32) (k0_off7_inb i 1) (k0_off8 i 1#32) (k0_off8_inb i 1) (k0_off9 i 1#32) (k0_off9_inb i 1) m12 b12)
    let (m13, b13) ← strip13 (fullAt arg2 arg3 arg4 arg5 arg7 arg8 (k0_off7 i 1#32) (k0_off7_inb i 1) (k0_off8 i 1#32) (k0_off8_inb i 1) (k0_off9 i 1#32) (k0_off9_inb i 1) m13 b13)
    let (m14, b14) ← strip14 (fullAt arg2 arg3 arg4 arg5 arg7 arg8 (k0_off7 i 1#32) (k0_off7_inb i 1) (k0_off8 i 1#32) (k0_off8_inb i 1) (k0_off9 i 1#32) (k0_off9_inb i 1) m14 b14)
    let (m15, b15) ← strip15 (fullAt arg2 arg3 arg4 arg5 arg7 arg8 (k0_off7 i 1#32) (k0_off7_inb i 1) (k0_off8 i 1#32) (k0_off8_inb i 1) (k0_off9 i 1#32) (k0_off9_inb i 1) m15 b15)
    pure (m4, b4, m5, b5, m6, b6, m7, b7, m8, b8, m9, b9, m10, b10, m11, b11, m12, b12, m13, b13, m14, b14, m15, b15)

/-- The carry of the strips from 6 on. -/
abbrev Rest3 (F : FTy → Type) : Type :=
  FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32

/-- Block 2 of the diagonal: the strips from 4 on, the first two of them masked. -/
def diag2 (mask : F .f32) (i : grid0.Coords) (arg2 : Memref sig .tc .smem S8x32 .f32) (arg3 : Memref sig .tc .vmem S1x256x4096 .bf16)
    (arg4 : Memref sig .tc .vmem S1x32x512x256 .bf16) (arg5 : Memref sig .tc .vmem S1x32x144x512 .bf16)
    (arg7 : Memref sig .tc .vmem S512x4096 .f32) (arg8 : Memref sig .tc .vmem S144x4096 .f32) : Rest2 F → P F (Rest3 F)
  | (m4, b4, m5, b5, m6, b6, m7, b7, m8, b8, m9, b9, m10, b10, m11, b11, m12, b12, m13, b13, m14, b14, m15, b15) => do
    let _ ← strip4 (edgeAt mask arg2 arg5 arg7 arg8 (k0_off7 i 2#32) (k0_off7_inb i 2) (k0_off8 i 2#32) (k0_off8_inb i 2) 1024#32 1024#32 m4)
    let _ ← strip5 (edgeAt mask arg2 arg5 arg7 arg8 (k0_off7 i 2#32) (k0_off7_inb i 2) (k0_off8 i 2#32) (k0_off8_inb i 2) 1024#32 1280#32 m5)
    let (m6, b6) ← strip6 (fullAt arg2 arg3 arg4 arg5 arg7 arg8 (k0_off7 i 2#32) (k0_off7_inb i 2) (k0_off8 i 2#32) (k0_off8_inb i 2) (k0_off9 i 2#32) (k0_off9_inb i 2) m6 b6)
    let (m7, b7) ← strip7 (fullAt arg2 arg3 arg4 arg5 arg7 arg8 (k0_off7 i 2#32) (k0_off7_inb i 2) (k0_off8 i 2#32) (k0_off8_inb i 2) (k0_off9 i 2#32) (k0_off9_inb i 2) m7 b7)
    let (m8, b8) ← strip8 (fullAt arg2 arg3 arg4 arg5 arg7 arg8 (k0_off7 i 2#32) (k0_off7_inb i 2) (k0_off8 i 2#32) (k0_off8_inb i 2) (k0_off9 i 2#32) (k0_off9_inb i 2) m8 b8)
    let (m9, b9) ← strip9 (fullAt arg2 arg3 arg4 arg5 arg7 arg8 (k0_off7 i 2#32) (k0_off7_inb i 2) (k0_off8 i 2#32) (k0_off8_inb i 2) (k0_off9 i 2#32) (k0_off9_inb i 2) m9 b9)
    let (m10, b10) ← strip10 (fullAt arg2 arg3 arg4 arg5 arg7 arg8 (k0_off7 i 2#32) (k0_off7_inb i 2) (k0_off8 i 2#32) (k0_off8_inb i 2) (k0_off9 i 2#32) (k0_off9_inb i 2) m10 b10)
    let (m11, b11) ← strip11 (fullAt arg2 arg3 arg4 arg5 arg7 arg8 (k0_off7 i 2#32) (k0_off7_inb i 2) (k0_off8 i 2#32) (k0_off8_inb i 2) (k0_off9 i 2#32) (k0_off9_inb i 2) m11 b11)
    let (m12, b12) ← strip12 (fullAt arg2 arg3 arg4 arg5 arg7 arg8 (k0_off7 i 2#32) (k0_off7_inb i 2) (k0_off8 i 2#32) (k0_off8_inb i 2) (k0_off9 i 2#32) (k0_off9_inb i 2) m12 b12)
    let (m13, b13) ← strip13 (fullAt arg2 arg3 arg4 arg5 arg7 arg8 (k0_off7 i 2#32) (k0_off7_inb i 2) (k0_off8 i 2#32) (k0_off8_inb i 2) (k0_off9 i 2#32) (k0_off9_inb i 2) m13 b13)
    let (m14, b14) ← strip14 (fullAt arg2 arg3 arg4 arg5 arg7 arg8 (k0_off7 i 2#32) (k0_off7_inb i 2) (k0_off8 i 2#32) (k0_off8_inb i 2) (k0_off9 i 2#32) (k0_off9_inb i 2) m14 b14)
    let (m15, b15) ← strip15 (fullAt arg2 arg3 arg4 arg5 arg7 arg8 (k0_off7 i 2#32) (k0_off7_inb i 2) (k0_off8 i 2#32) (k0_off8_inb i 2) (k0_off9 i 2#32) (k0_off9_inb i 2) m15 b15)
    pure (m6, b6, m7, b7, m8, b8, m9, b9, m10, b10, m11, b11, m12, b12, m13, b13, m14, b14, m15, b15)

/-- The carry of the strips from 8 on. -/
abbrev Rest4 (F : FTy → Type) : Type :=
  FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32

/-- Block 3 of the diagonal: the strips from 6 on, the first two of them masked. -/
def diag3 (mask : F .f32) (i : grid0.Coords) (arg2 : Memref sig .tc .smem S8x32 .f32) (arg3 : Memref sig .tc .vmem S1x256x4096 .bf16)
    (arg4 : Memref sig .tc .vmem S1x32x512x256 .bf16) (arg5 : Memref sig .tc .vmem S1x32x144x512 .bf16)
    (arg7 : Memref sig .tc .vmem S512x4096 .f32) (arg8 : Memref sig .tc .vmem S144x4096 .f32) : Rest3 F → P F (Rest4 F)
  | (m6, b6, m7, b7, m8, b8, m9, b9, m10, b10, m11, b11, m12, b12, m13, b13, m14, b14, m15, b15) => do
    let _ ← strip6 (edgeAt mask arg2 arg5 arg7 arg8 (k0_off7 i 3#32) (k0_off7_inb i 3) (k0_off8 i 3#32) (k0_off8_inb i 3) 1536#32 1536#32 m6)
    let _ ← strip7 (edgeAt mask arg2 arg5 arg7 arg8 (k0_off7 i 3#32) (k0_off7_inb i 3) (k0_off8 i 3#32) (k0_off8_inb i 3) 1536#32 1792#32 m7)
    let (m8, b8) ← strip8 (fullAt arg2 arg3 arg4 arg5 arg7 arg8 (k0_off7 i 3#32) (k0_off7_inb i 3) (k0_off8 i 3#32) (k0_off8_inb i 3) (k0_off9 i 3#32) (k0_off9_inb i 3) m8 b8)
    let (m9, b9) ← strip9 (fullAt arg2 arg3 arg4 arg5 arg7 arg8 (k0_off7 i 3#32) (k0_off7_inb i 3) (k0_off8 i 3#32) (k0_off8_inb i 3) (k0_off9 i 3#32) (k0_off9_inb i 3) m9 b9)
    let (m10, b10) ← strip10 (fullAt arg2 arg3 arg4 arg5 arg7 arg8 (k0_off7 i 3#32) (k0_off7_inb i 3) (k0_off8 i 3#32) (k0_off8_inb i 3) (k0_off9 i 3#32) (k0_off9_inb i 3) m10 b10)
    let (m11, b11) ← strip11 (fullAt arg2 arg3 arg4 arg5 arg7 arg8 (k0_off7 i 3#32) (k0_off7_inb i 3) (k0_off8 i 3#32) (k0_off8_inb i 3) (k0_off9 i 3#32) (k0_off9_inb i 3) m11 b11)
    let (m12, b12) ← strip12 (fullAt arg2 arg3 arg4 arg5 arg7 arg8 (k0_off7 i 3#32) (k0_off7_inb i 3) (k0_off8 i 3#32) (k0_off8_inb i 3) (k0_off9 i 3#32) (k0_off9_inb i 3) m12 b12)
    let (m13, b13) ← strip13 (fullAt arg2 arg3 arg4 arg5 arg7 arg8 (k0_off7 i 3#32) (k0_off7_inb i 3) (k0_off8 i 3#32) (k0_off8_inb i 3) (k0_off9 i 3#32) (k0_off9_inb i 3) m13 b13)
    let (m14, b14) ← strip14 (fullAt arg2 arg3 arg4 arg5 arg7 arg8 (k0_off7 i 3#32) (k0_off7_inb i 3) (k0_off8 i 3#32) (k0_off8_inb i 3) (k0_off9 i 3#32) (k0_off9_inb i 3) m14 b14)
    let (m15, b15) ← strip15 (fullAt arg2 arg3 arg4 arg5 arg7 arg8 (k0_off7 i 3#32) (k0_off7_inb i 3) (k0_off8 i 3#32) (k0_off8_inb i 3) (k0_off9 i 3#32) (k0_off9_inb i 3) m15 b15)
    pure (m8, b8, m9, b9, m10, b10, m11, b11, m12, b12, m13, b13, m14, b14, m15, b15)

/-- The carry of the strips from 10 on. -/
abbrev Rest5 (F : FTy → Type) : Type :=
  FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32

/-- Block 4 of the diagonal: the strips from 8 on, the first two of them masked. -/
def diag4 (mask : F .f32) (i : grid0.Coords) (arg2 : Memref sig .tc .smem S8x32 .f32) (arg3 : Memref sig .tc .vmem S1x256x4096 .bf16)
    (arg4 : Memref sig .tc .vmem S1x32x512x256 .bf16) (arg5 : Memref sig .tc .vmem S1x32x144x512 .bf16)
    (arg7 : Memref sig .tc .vmem S512x4096 .f32) (arg8 : Memref sig .tc .vmem S144x4096 .f32) : Rest4 F → P F (Rest5 F)
  | (m8, b8, m9, b9, m10, b10, m11, b11, m12, b12, m13, b13, m14, b14, m15, b15) => do
    let _ ← strip8 (edgeAt mask arg2 arg5 arg7 arg8 (k0_off7 i 4#32) (k0_off7_inb i 4) (k0_off8 i 4#32) (k0_off8_inb i 4) 2048#32 2048#32 m8)
    let _ ← strip9 (edgeAt mask arg2 arg5 arg7 arg8 (k0_off7 i 4#32) (k0_off7_inb i 4) (k0_off8 i 4#32) (k0_off8_inb i 4) 2048#32 2304#32 m9)
    let (m10, b10) ← strip10 (fullAt arg2 arg3 arg4 arg5 arg7 arg8 (k0_off7 i 4#32) (k0_off7_inb i 4) (k0_off8 i 4#32) (k0_off8_inb i 4) (k0_off9 i 4#32) (k0_off9_inb i 4) m10 b10)
    let (m11, b11) ← strip11 (fullAt arg2 arg3 arg4 arg5 arg7 arg8 (k0_off7 i 4#32) (k0_off7_inb i 4) (k0_off8 i 4#32) (k0_off8_inb i 4) (k0_off9 i 4#32) (k0_off9_inb i 4) m11 b11)
    let (m12, b12) ← strip12 (fullAt arg2 arg3 arg4 arg5 arg7 arg8 (k0_off7 i 4#32) (k0_off7_inb i 4) (k0_off8 i 4#32) (k0_off8_inb i 4) (k0_off9 i 4#32) (k0_off9_inb i 4) m12 b12)
    let (m13, b13) ← strip13 (fullAt arg2 arg3 arg4 arg5 arg7 arg8 (k0_off7 i 4#32) (k0_off7_inb i 4) (k0_off8 i 4#32) (k0_off8_inb i 4) (k0_off9 i 4#32) (k0_off9_inb i 4) m13 b13)
    let (m14, b14) ← strip14 (fullAt arg2 arg3 arg4 arg5 arg7 arg8 (k0_off7 i 4#32) (k0_off7_inb i 4) (k0_off8 i 4#32) (k0_off8_inb i 4) (k0_off9 i 4#32) (k0_off9_inb i 4) m14 b14)
    let (m15, b15) ← strip15 (fullAt arg2 arg3 arg4 arg5 arg7 arg8 (k0_off7 i 4#32) (k0_off7_inb i 4) (k0_off8 i 4#32) (k0_off8_inb i 4) (k0_off9 i 4#32) (k0_off9_inb i 4) m15 b15)
    pure (m10, b10, m11, b11, m12, b12, m13, b13, m14, b14, m15, b15)

/-- The carry of the strips from 12 on. -/
abbrev Rest6 (F : FTy → Type) : Type :=
  FVec F S1x256 .f32 × FVec F S1x256 .f32 × FVec F S1x256 .f32 × FVec F S1x256 .f32 × FVec F S1x256 .f32 × FVec F S1x256 .f32 × FVec F S1x256 .f32 × FVec F S1x256 .f32

/-- Block 5 of the diagonal: the strips from 10 on, the first two of them masked. -/
def diag5 (mask : F .f32) (i : grid0.Coords) (arg2 : Memref sig .tc .smem S8x32 .f32) (arg3 : Memref sig .tc .vmem S1x256x4096 .bf16)
    (arg4 : Memref sig .tc .vmem S1x32x512x256 .bf16) (arg5 : Memref sig .tc .vmem S1x32x144x512 .bf16)
    (arg7 : Memref sig .tc .vmem S512x4096 .f32) (arg8 : Memref sig .tc .vmem S144x4096 .f32) : Rest5 F → P F (Rest6 F)
  | (m10, b10, m11, b11, m12, b12, m13, b13, m14, b14, m15, b15) => do
    let _ ← strip10 (edgeAt mask arg2 arg5 arg7 arg8 (k0_off7 i 5#32) (k0_off7_inb i 5) (k0_off8 i 5#32) (k0_off8_inb i 5) 2560#32 2560#32 m10)
    let _ ← strip11 (edgeAt mask arg2 arg5 arg7 arg8 (k0_off7 i 5#32) (k0_off7_inb i 5) (k0_off8 i 5#32) (k0_off8_inb i 5) 2560#32 2816#32 m11)
    let (m12, b12) ← strip12 (fullAt arg2 arg3 arg4 arg5 arg7 arg8 (k0_off7 i 5#32) (k0_off7_inb i 5) (k0_off8 i 5#32) (k0_off8_inb i 5) (k0_off9 i 5#32) (k0_off9_inb i 5) m12 b12)
    let (m13, b13) ← strip13 (fullAt arg2 arg3 arg4 arg5 arg7 arg8 (k0_off7 i 5#32) (k0_off7_inb i 5) (k0_off8 i 5#32) (k0_off8_inb i 5) (k0_off9 i 5#32) (k0_off9_inb i 5) m13 b13)
    let (m14, b14) ← strip14 (fullAt arg2 arg3 arg4 arg5 arg7 arg8 (k0_off7 i 5#32) (k0_off7_inb i 5) (k0_off8 i 5#32) (k0_off8_inb i 5) (k0_off9 i 5#32) (k0_off9_inb i 5) m14 b14)
    let (m15, b15) ← strip15 (fullAt arg2 arg3 arg4 arg5 arg7 arg8 (k0_off7 i 5#32) (k0_off7_inb i 5) (k0_off8 i 5#32) (k0_off8_inb i 5) (k0_off9 i 5#32) (k0_off9_inb i 5) m15 b15)
    pure (m12, b12, m13, b13, m14, b14, m15, b15)

/-- The carry of the strips from 14 on. -/
abbrev Rest7 (F : FTy → Type) : Type :=
  FVec F S1x256 .f32 × FVec F S1x256 .f32 × FVec F S1x256 .f32 × FVec F S1x256 .f32

/-- Block 6 of the diagonal: the strips from 12 on, the first two of them masked. -/
def diag6 (mask : F .f32) (i : grid0.Coords) (arg2 : Memref sig .tc .smem S8x32 .f32) (arg3 : Memref sig .tc .vmem S1x256x4096 .bf16)
    (arg4 : Memref sig .tc .vmem S1x32x512x256 .bf16) (arg5 : Memref sig .tc .vmem S1x32x144x512 .bf16)
    (arg7 : Memref sig .tc .vmem S512x4096 .f32) (arg8 : Memref sig .tc .vmem S144x4096 .f32) : Rest6 F → P F (Rest7 F)
  | (m12, b12, m13, b13, m14, b14, m15, b15) => do
    let _ ← strip12 (edgeAt mask arg2 arg5 arg7 arg8 (k0_off7 i 6#32) (k0_off7_inb i 6) (k0_off8 i 6#32) (k0_off8_inb i 6) 3072#32 3072#32 m12)
    let _ ← strip13 (edgeAt mask arg2 arg5 arg7 arg8 (k0_off7 i 6#32) (k0_off7_inb i 6) (k0_off8 i 6#32) (k0_off8_inb i 6) 3072#32 3328#32 m13)
    let (m14, b14) ← strip14 (fullAt arg2 arg3 arg4 arg5 arg7 arg8 (k0_off7 i 6#32) (k0_off7_inb i 6) (k0_off8 i 6#32) (k0_off8_inb i 6) (k0_off9 i 6#32) (k0_off9_inb i 6) m14 b14)
    let (m15, b15) ← strip15 (fullAt arg2 arg3 arg4 arg5 arg7 arg8 (k0_off7 i 6#32) (k0_off7_inb i 6) (k0_off8 i 6#32) (k0_off8_inb i 6) (k0_off9 i 6#32) (k0_off9_inb i 6) m15 b15)
    pure (m14, b14, m15, b15)

/-- Block 7 of the diagonal: the strips from 14 on, the first two of them masked. -/
def diag7 (mask : F .f32) (i : grid0.Coords) (arg2 : Memref sig .tc .smem S8x32 .f32) (arg3 : Memref sig .tc .vmem S1x256x4096 .bf16)
    (arg4 : Memref sig .tc .vmem S1x32x512x256 .bf16) (arg5 : Memref sig .tc .vmem S1x32x144x512 .bf16)
    (arg7 : Memref sig .tc .vmem S512x4096 .f32) (arg8 : Memref sig .tc .vmem S144x4096 .f32) : Rest7 F → P F (PUnit)
  | (m14, b14, m15, b15) => do
    let _ ← strip14 (edgeAt mask arg2 arg5 arg7 arg8 (k0_off7 i 7#32) (k0_off7_inb i 7) (k0_off8 i 7#32) (k0_off8_inb i 7) 3584#32 3584#32 m14)
    let _ ← strip15 (edgeAt mask arg2 arg5 arg7 arg8 (k0_off7 i 7#32) (k0_off7_inb i 7) (k0_off8 i 7#32) (k0_off8_inb i 7) 3584#32 3840#32 m15)
    pure ⟨⟩

/-- The accumulator zeroed. -/
def clear (arg8 : Memref sig .tc .vmem S144x4096 .f32) : P F PUnit := do
  have z : FVec F S144x4096 .f32 := broadcast S144x4096 (Scalar.ofBits (F := F) .f32 0x00000000#32)
  have z' : FVec F S144x4096 .f32 := shapeCast S144x4096 z shapeCasts_S144x4096_S144x4096
  let _ : Vec F S144x4096 .f32 ← Prog.lift (.load arg8 (Rect.unit (s := S144x4096) ![0, 0] S144x4096.size inb_S144x4096_S144x4096_0_0).toLoadRect (View.loadsAt_vmem h_S144x4096))
  Prog.lift (.store arg8 (Rect.unit (s := S144x4096) ![0, 0] S144x4096.size inb_S144x4096_S144x4096_0_0) z' Finset.univ (View.stores_vmem_bits_univ h_S144x4096 rfl) (.inl rfl))

/-- The scores of all strips against block 0, and the running maxima at the mask. -/
def start (mask : F .f32) (arg3 : Memref sig .tc .vmem S1x256x4096 .bf16) (arg4 : Memref sig .tc .vmem S1x32x512x256 .bf16)
    (arg7 : Memref sig .tc .vmem S512x4096 .f32) : P F (FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) := do
  let b0 ← strip0 (scoresAt arg3 arg4 arg7 ![0, 0, 0, 0] inb_S1x32x512x256_S1x1x512x256_0_0_0_0)
  let b1 ← strip1 (scoresAt arg3 arg4 arg7 ![0, 0, 0, 0] inb_S1x32x512x256_S1x1x512x256_0_0_0_0)
  let b2 ← strip2 (scoresAt arg3 arg4 arg7 ![0, 0, 0, 0] inb_S1x32x512x256_S1x1x512x256_0_0_0_0)
  let b3 ← strip3 (scoresAt arg3 arg4 arg7 ![0, 0, 0, 0] inb_S1x32x512x256_S1x1x512x256_0_0_0_0)
  let b4 ← strip4 (scoresAt arg3 arg4 arg7 ![0, 0, 0, 0] inb_S1x32x512x256_S1x1x512x256_0_0_0_0)
  let b5 ← strip5 (scoresAt arg3 arg4 arg7 ![0, 0, 0, 0] inb_S1x32x512x256_S1x1x512x256_0_0_0_0)
  let b6 ← strip6 (scoresAt arg3 arg4 arg7 ![0, 0, 0, 0] inb_S1x32x512x256_S1x1x512x256_0_0_0_0)
  let b7 ← strip7 (scoresAt arg3 arg4 arg7 ![0, 0, 0, 0] inb_S1x32x512x256_S1x1x512x256_0_0_0_0)
  let b8 ← strip8 (scoresAt arg3 arg4 arg7 ![0, 0, 0, 0] inb_S1x32x512x256_S1x1x512x256_0_0_0_0)
  let b9 ← strip9 (scoresAt arg3 arg4 arg7 ![0, 0, 0, 0] inb_S1x32x512x256_S1x1x512x256_0_0_0_0)
  let b10 ← strip10 (scoresAt arg3 arg4 arg7 ![0, 0, 0, 0] inb_S1x32x512x256_S1x1x512x256_0_0_0_0)
  let b11 ← strip11 (scoresAt arg3 arg4 arg7 ![0, 0, 0, 0] inb_S1x32x512x256_S1x1x512x256_0_0_0_0)
  let b12 ← strip12 (scoresAt arg3 arg4 arg7 ![0, 0, 0, 0] inb_S1x32x512x256_S1x1x512x256_0_0_0_0)
  let b13 ← strip13 (scoresAt arg3 arg4 arg7 ![0, 0, 0, 0] inb_S1x32x512x256_S1x1x512x256_0_0_0_0)
  let b14 ← strip14 (scoresAt arg3 arg4 arg7 ![0, 0, 0, 0] inb_S1x32x512x256_S1x1x512x256_0_0_0_0)
  let b15 ← strip15 (scoresAt arg3 arg4 arg7 ![0, 0, 0, 0] inb_S1x32x512x256_S1x1x512x256_0_0_0_0)
  pure (broadcast S1x256 mask, b0, broadcast S1x256 mask, b1, broadcast S1x256 mask, b2, broadcast S1x256 mask, b3, broadcast S1x256 mask, b4, broadcast S1x256 mask, b5, broadcast S1x256 mask, b6, broadcast S1x256 mask, b7, broadcast S1x256 mask, b8, broadcast S1x256 mask, b9, broadcast S1x256 mask, b10, broadcast S1x256 mask, b11, broadcast S1x256 mask, b12, broadcast S1x256 mask, b13, broadcast S1x256 mask, b14, broadcast S1x256 mask, b15)

/-- The weighted sums divided by the sums of the weights, row 128 of the accumulator, query by query. -/
def finish (arg6 : Memref sig .tc .vmem S4096x128 .bf16) (harg6 : arg6.IsWhole) (arg8 : Memref sig .tc .vmem S144x4096 .f32) :
    P F PUnit := do
  let l : Vec F S1x4096 .f32 ← Prog.lift (.load arg8 (Rect.unit (s := S144x4096) ![128, 0] S1x4096.size inb_S144x4096_S1x4096_128_0).toLoadRect (View.loadsAt_vmem h_S1x4096))
  let a : Vec F S128x4096 .f32 ← Prog.lift (.load arg8 (Rect.unit (s := S144x4096) ![0, 0] S128x4096.size inb_S144x4096_S128x4096_0_0).toLoadRect (View.loadsAt_vmem h_S128x4096))
  have one : FVec F S1x4096 .f32 := broadcast S1x4096 (Scalar.ofBits (F := F) .f32 0x3F800000#32)
  have l' : FVec F S1x4096 .f32 := divf one l
  have l₂ : FVec F S128x4096 .f32 := broadcastTo S128x4096 l' broadcasts_S1x4096_S128x4096
  have a' : FVec F S128x4096 .f32 := mulf a l₂
  have t : FVec F S4096x128 .f32 := transpose S4096x128 [1, 0] a' transposes_S128x4096_p1_0_S4096x128
  have o : FVec F S4096x128 .bf16 := truncf .bf16 t bitsLt_bf16_f32
  let _ : Vec F S4096x128 .bf16 ← Prog.lift (.load arg6 (Rect.unit (s := S4096x128) ![0, 0] S4096x128.size inb_S4096x128_S4096x128_0_0).toLoadRect (View.loadsAt_vmem h_S4096x128))
  Prog.lift (.store arg6 (Rect.unit (s := S4096x128) ![0, 0] S4096x128.size inb_S4096x128_S4096x128_0_0) o Finset.univ (View.stores_vmem h_S4096x128 (harg6.storeExact_slice rfl _ packedbf16_S4096x128_S4096x128_0_0) (fun _ => rfl)) (.inl rfl))
  pure ⟨⟩

/-- The body at a grid point, for a running maximum that starts at `mask` and masked scores at `mask`. -/
def body (mask : F .f32) (i : grid0.Coords) (arg2 : Memref sig .tc .smem S8x32 .f32) (arg3 : Memref sig .tc .vmem S1x256x4096 .bf16)
    (arg4 : Memref sig .tc .vmem S1x32x512x256 .bf16) (arg5 : Memref sig .tc .vmem S1x32x144x512 .bf16)
    (arg6 : Memref sig .tc .vmem S4096x128 .bf16) (harg6 : arg6.IsWhole)
    (arg7 : Memref sig .tc .vmem S512x4096 .f32) (arg8 : Memref sig .tc .vmem S144x4096 .f32) : P F PUnit := do
  clear arg8
  let (m0, b0, m1, b1, m2, b2, m3, b3, m4, b4, m5, b5, m6, b6, m7, b7, m8, b8, m9, b9, m10, b10, m11, b11, m12, b12, m13, b13, m14, b14, m15, b15) ← start mask arg3 arg4 arg7
  let (m0, b0, m1, b1, m2, b2, m3, b3, m4, b4, m5, b5, m6, b6, m7, b7, m8, b8, m9, b9, m10, b10, m11, b11, m12, b12, m13, b13, m14, b14, m15, b15) ← Scf.Loop.for (σ := FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (k0_t1_loop i) (k0_t1_ok i) (m0, b0, m1, b1, m2, b2, m3, b3, m4, b4, m5, b5, m6, b6, m7, b7, m8, b8, m9, b9, m10, b10, m11, b11, m12, b12, m13, b13, m14, b14, m15, b15) fun t st => trip1 i arg2 arg3 arg4 arg5 arg7 arg8 t st
  let (m0, b0, m1, b1, m2, b2, m3, b3, m4, b4, m5, b5, m6, b6, m7, b7, m8, b8, m9, b9, m10, b10, m11, b11, m12, b12, m13, b13, m14, b14, m15, b15) ← Scf.Loop.for (σ := FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) (k0_t2_loop i) (k0_t2_ok i) (m0, b0, m1, b1, m2, b2, m3, b3, m4, b4, m5, b5, m6, b6, m7, b7, m8, b8, m9, b9, m10, b10, m11, b11, m12, b12, m13, b13, m14, b14, m15, b15) fun t st => trip2 i arg2 arg3 arg4 arg5 arg7 arg8 t st
  let st ← diag0 mask i arg2 arg3 arg4 arg5 arg7 arg8 (m0, b0, m1, b1, m2, b2, m3, b3, m4, b4, m5, b5, m6, b6, m7, b7, m8, b8, m9, b9, m10, b10, m11, b11, m12, b12, m13, b13, m14, b14, m15, b15)
  let st ← diag1 mask i arg2 arg3 arg4 arg5 arg7 arg8 st
  let st ← diag2 mask i arg2 arg3 arg4 arg5 arg7 arg8 st
  let st ← diag3 mask i arg2 arg3 arg4 arg5 arg7 arg8 st
  let st ← diag4 mask i arg2 arg3 arg4 arg5 arg7 arg8 st
  let st ← diag5 mask i arg2 arg3 arg4 arg5 arg7 arg8 st
  let st ← diag6 mask i arg2 arg3 arg4 arg5 arg7 arg8 st
  diag7 mask i arg2 arg3 arg4 arg5 arg7 arg8 st
  finish arg6 harg6 arg8

/-- The body with the mask named, as the ideal program has it. -/
def bodyNamed {F : FTy → Type} [FloatOps F] [Named F] [Facts] (i : grid0.Coords) (arg2 : Memref sig .tc .smem S8x32 .f32) (harg2 : arg2.IsWhole) (arg3 : Memref sig .tc .vmem S1x256x4096 .bf16) (harg3 : arg3.IsWhole) (arg4 : Memref sig .tc .vmem S1x32x512x256 .bf16) (harg4 : arg4.IsWhole) (arg5 : Memref sig .tc .vmem S1x32x144x512 .bf16) (harg5 : arg5.IsWhole) (arg6 : Memref sig .tc .vmem S4096x128 .bf16) (harg6 : arg6.IsWhole) (arg7 : Memref sig .tc .vmem S512x4096 .f32) (harg7 : arg7.IsWhole) (arg8 : Memref sig .tc .vmem S144x4096 .f32) (harg8 : arg8.IsWhole) :
    Prog (TpuEff nD τ sig (Elt F) Λ₀ .tc) PUnit :=
  body (Named.named κ "mask" 0xF149F2CA#32) i arg2 arg3 arg4 arg5 arg6 harg6 arg7 arg8

/-- The body with the mask the word that the kernel holds. -/
def bodyWord {F : FTy → Type} [FloatOps F] [Facts] (i : grid0.Coords) (arg2 : Memref sig .tc .smem S8x32 .f32) (harg2 : arg2.IsWhole) (arg3 : Memref sig .tc .vmem S1x256x4096 .bf16) (harg3 : arg3.IsWhole) (arg4 : Memref sig .tc .vmem S1x32x512x256 .bf16) (harg4 : arg4.IsWhole) (arg5 : Memref sig .tc .vmem S1x32x144x512 .bf16) (harg5 : arg5.IsWhole) (arg6 : Memref sig .tc .vmem S4096x128 .bf16) (harg6 : arg6.IsWhole) (arg7 : Memref sig .tc .vmem S512x4096 .f32) (harg7 : arg7.IsWhole) (arg8 : Memref sig .tc .vmem S144x4096 .f32) (harg8 : arg8.IsWhole) :
    Prog (TpuEff nD τ sig (Elt F) Λ₀ .tc) PUnit :=
  body (Scalar.ofBits (F := F) .f32 0xF149F2CA#32) i arg2 arg3 arg4 arg5 arg6 harg6 arg7 arg8

end Cert.KernelIdeal.Sweep

end
-- ==== Proof.Sweep.Values.lean ====
/- What a strip of 256 queries holds while it walks the key blocks, as values: the running maximum, the scores that wait
   for their turn and their maximum, the accumulator. `Strip.full` and `Strip.edge` are a strip's two steps, `chain` its
   state after so many full blocks, `stateAt` the state of each of the sixteen strips after so many blocks, masked ones
   included. -/
module

public import proofs.«01_k».proof.KernelIdeal
public import Idealize.ShloMosaic.Lib.ValueIdxCore

@[expose] public section

noncomputable section

namespace Cert.KernelIdeal.Sweep

open Idealize.ShloMosaic Idealize.SL.Sem Idealize.ShloMosaic.ValueIdx
open Facts₀ Facts

variable {F : FTy → Type} [FloatOps F]
variable [Facts]

/-- The four arrays of a grid point: a bias for each block, one head's queries, keys and values. -/
structure Arrays (F : FTy → Type) where
  r : Vec F S8x32 .f32
  q : Vec F S1x256x4096 .bf16
  k : Vec F S1x32x512x256 .bf16
  v : Vec F S1x32x144x512 .bf16

namespace Arrays
variable (X : Arrays F)

/-- The bias of block `n`. -/
def bias (h : Fin 8) (n : ℕ) : Elt F .f32 := X.r (ix2 h ⟨n % 32, Nat.mod_lt _ (by decide)⟩)
/-- The keys of block `n`. -/
def keys (n : ℕ) : Vec F S1x1x512x256 .bf16 := fun x => X.k (ix4 (x 0) ⟨n % 32, Nat.mod_lt _ (by decide)⟩ (x 2) (x 3))
/-- The values of block `n`. -/
def vals (n : ℕ) : Vec F S1x1x144x512 .bf16 := fun x => X.v (ix4 (x 0) ⟨n % 32, Nat.mod_lt _ (by decide)⟩ (x 2) (x 3))
/-- The queries of strip `c`. -/
def queries (c : ℕ) : Vec F S1x256x256 .bf16 :=
  fun x => X.q (ix3 (x 0) (x 1) ⟨(256 * c + (x 2).val) % 4096, Nat.mod_lt _ (by decide)⟩)

end Arrays

/-- Key rows against query columns. -/
def scoreV (k : Vec F S1x1x512x256 .bf16) (q : Vec F S1x256x256 .bf16) : FVec F S512x256 .f32 :=
  have k' : FVec F S512x256 .bf16 := shapeCast S512x256 k shapeCasts_S1x1x512x256_S512x256
  have q' : FVec F S256x256 .bf16 := shapeCast S256x256 q shapeCasts_S1x256x256_S256x256
  matmul dot_S512x256_S256x256_S512x256_1_0_0_1_n_n none k' q' (constant S512x256 .f32 0x00000000#32)

/-- The maximum over a block's keys, for each query. -/
def maxV (s : Vec F S512x256 .f32) : FVec F S1x256 .f32 :=
  have c : FVec F S256 .f32 := multiReduction .maximumf [0] S256 s 0xFF800000#32 reduces_S512x256_S256 (.inl rfl) rfl
  shapeCast S1x256 c shapeCasts_S256_S1x256

/-- The new running maximum, from the old one, a block's maximum and the block's bias. -/
def attendM (m b : FVec F S1x256 .f32) (r : Elt F .f32) : FVec F S1x256 .f32 :=
  maximumf m (subf b (broadcast S1x256 r))

/-- The new accumulator: the old one rescaled, and the block's weighted values added. -/
def attendA (m b : FVec F S1x256 .f32) (r : Elt F .f32) (s : Vec F S512x256 .f32) (v : Vec F S1x1x144x512 .bf16)
    (a : Vec F S144x256 .f32) : FVec F S144x256 .f32 :=
  have r₁ : FVec F S1x256 .f32 := broadcast S1x256 r
  have c : FVec F S1x256 .f32 := subf b r₁
  have m' : FVec F S1x256 .f32 := maximumf m c
  have d : FVec F S1x256 .f32 := subf m m'
  have α : FVec F S1x256 .f32 := exp2 d
  have h : FVec F S1x256 .f32 := addf m' r₁
  have h' : FVec F S512x256 .f32 := broadcastTo S512x256 h broadcasts_S1x256_S512x256
  have x : FVec F S512x256 .f32 := subf s h'
  have e : FVec F S512x256 .f32 := exp2 x
  have p : FVec F S512x256 .bf16 := truncf .bf16 e bitsLt_bf16_f32
  have α' : FVec F S144x256 .f32 := broadcastTo S144x256 α broadcasts_S1x256_S144x256
  have a' : FVec F S144x256 .f32 := mulf α' a
  have v' : FVec F S144x512 .bf16 := shapeCast S144x512 v shapeCasts_S1x1x144x512_S144x512
  have w : FVec F S144x256 .f32 := matmul dot_S144x512_S512x256_S144x256_1_0_0_1_n_n none v' p (constant S144x256 .f32 0x00000000#32)
  have u : FVec F S144x256 .f32 := addf a' w
  shapeCast S144x256 u shapeCasts_S144x256_S144x256

/-- The scores with the keys after a query masked, the keys being those from `key0` on and the queries those from `qry0` on. -/
def edgeS (mask : F .f32) (key0 qry0 : BitVec 32) (s : Vec F S512x256 .f32) : Vec F S512x256 .f32 :=
  have k₀ : IVec S512x256 32 := iota .tc S512x256 32 [0] iota_S512x256_d0_w32
  have k₁ : IVec S512x256 32 := broadcast S512x256 key0
  have k₂ : IVec S512x256 32 := addi k₁ k₀
  have q₀ : IVec S512x256 32 := iota .tc S512x256 32 [1] iota_S512x256_d1_w32
  have q₁ : IVec S512x256 32 := broadcast S512x256 qry0
  have q₂ : IVec S512x256 32 := addi q₁ q₀
  have seen : IVec S512x256 1 := cmpi .sle k₂ q₂
  have off : FVec F S512x256 .f32 := broadcast S512x256 mask
  select seen s off

/-- What a strip holds: the running maximum, the maximum of the waiting scores, those scores, the accumulator. -/
structure Strip (F : FTy → Type) where
  m : FVec F S1x256 .f32
  b : FVec F S1x256 .f32
  s : Vec F S512x256 .f32
  a : Vec F S144x256 .f32

variable (mask : F .f32) (h : Fin 8) (X : Arrays F)

/-- A strip's scores against block `n`, as the score buffer holds them. -/
def scoreAt (c n : ℕ) : Vec F S512x256 .f32 :=
  shapeCast S512x256 (scoreV (X.keys n) (X.queries c)) shapeCasts_S512x256_S512x256

/-- Strip `c` before its first block: nothing accumulated, the scores of block 0 waiting. -/
def Strip.init (c : ℕ) : Strip F where
  m := broadcast S1x256 mask
  b := maxV (scoreV (X.keys 0) (X.queries c))
  s := scoreAt X c 0
  a := fun _ => Scalar.ofBits (F := F) .f32 0x00000000#32

/-- Strip `c`'s step on block `n`, wholly before its queries: the scores of the next block wait after it. -/
def Strip.full (c n : ℕ) (σ : Strip F) : Strip F where
  m := attendM σ.m σ.b (X.bias h n)
  b := maxV (scoreV (X.keys (n + 1)) (X.queries c))
  s := scoreAt X c (n + 1)
  a := attendA σ.m σ.b (X.bias h n) σ.s (X.vals n) σ.a

/-- Strip `c`'s step on block `n`, its last one, in which it sees no key after a query. -/
def Strip.edge (c n : ℕ) (σ : Strip F) : Strip F :=
  let s := edgeS mask (BitVec.ofNat 32 (512 * (c / 2))) (BitVec.ofNat 32 (256 * c)) σ.s
  { m := attendM σ.m (maxV s) (X.bias h n), b := σ.b, s := σ.s
    a := attendA σ.m (maxV s) (X.bias h n) s (X.vals n) σ.a }

/-- Strip `c` after `n` full blocks. -/
def chain (c : ℕ) : ℕ → Strip F
  | 0 => Strip.init mask X c
  | n + 1 => Strip.full h X c n (chain c n)

/-- Strip `c` of query tile `qi` after `N` blocks: it takes `8 qi + c / 2` full ones and the next one masked. -/
def stateAt (qi N c : ℕ) : Strip F :=
  if N ≤ 8 * qi + c / 2 then chain mask h X c N
  else Strip.edge mask h X c (8 * qi + c / 2) (chain mask h X c (8 * qi + c / 2))

theorem stateAt_full {qi N c : ℕ} (hN : N < 8 * qi + c / 2) :
    stateAt mask h X qi (N + 1) c = Strip.full h X c N (stateAt mask h X qi N c) := by
  unfold stateAt; rw [if_pos (by omega), if_pos (by omega)]; rfl

theorem stateAt_edge {qi N c : ℕ} (hN : N = 8 * qi + c / 2) :
    stateAt mask h X qi (N + 1) c = Strip.edge mask h X c N (stateAt mask h X qi N c) := by
  unfold stateAt; rw [if_neg (by omega), if_pos (by omega), hN]

theorem stateAt_done {qi N c : ℕ} (hN : 8 * qi + c / 2 < N) :
    stateAt mask h X qi (N + 1) c = stateAt mask h X qi N c := by
  unfold stateAt; rw [if_neg (by omega), if_neg (by omega)]

/-- The sixteen strips' scores side by side. -/
def glueS (S : ℕ → Vec F S512x256 .f32) : Vec F S512x4096 .f32 :=
  fun y => S ((y 1).val / 256) (ix2 (y 0) ⟨(y 1).val % 256, Nat.mod_lt _ (by decide)⟩)

/-- The sixteen strips' accumulators side by side. -/
def glueA (A : ℕ → Vec F S144x256 .f32) : Vec F S144x4096 .f32 :=
  fun y => A ((y 1).val / 256) (ix2 (y 0) ⟨(y 1).val % 256, Nat.mod_lt _ (by decide)⟩)

/-- One strip of the score buffer. -/
def cutS (d : Vec F S512x4096 .f32) (c : ℕ) : Vec F S512x256 .f32 :=
  fun x => d (ix2 (x 0) ⟨(256 * c + (x 1).val) % 4096, Nat.mod_lt _ (by decide)⟩)

/-- What the call leaves in its output block: the weighted sums over the sums of the weights. -/
def quotient (A : Vec F S144x4096 .f32) : Vec F S4096x128 .bf16 :=
  have l : Vec F S1x4096 .f32 := fun x => A ((Rect.unit (s := S144x4096) ![128, 0] S1x4096.size inb_S144x4096_S1x4096_128_0).emb x)
  have a : Vec F S128x4096 .f32 := fun x => A ((Rect.unit (s := S144x4096) ![0, 0] S128x4096.size inb_S144x4096_S128x4096_0_0).emb x)
  have one : FVec F S1x4096 .f32 := broadcast S1x4096 (Scalar.ofBits (F := F) .f32 0x3F800000#32)
  have l' : FVec F S1x4096 .f32 := divf one l
  have l₂ : FVec F S128x4096 .f32 := broadcastTo S128x4096 l' broadcasts_S1x4096_S128x4096
  have a' : FVec F S128x4096 .f32 := mulf a l₂
  have t : FVec F S4096x128 .f32 := transpose S4096x128 [1, 0] a' transposes_S128x4096_p1_0_S4096x128
  truncf .bf16 t bitsLt_bf16_f32

/-- The output block of a grid point, from its four arrays. -/
def outBlock (qi : ℕ) : Vec F S4096x128 .bf16 :=
  quotient (glueA fun c => (stateAt mask h X qi (8 * qi + 8) c).a)

end Cert.KernelIdeal.Sweep

end
-- ==== Proof.Sweep.Owns.lean ====
/- Loads and stores at the level of what a memref reads: a load through a rectangle gives the part of the contents under
   it, a store leaves contents that agree with the payload under the rectangle and with the old contents elsewhere. -/
module

public import Idealize.ShloMosaic.Lib.Pipeline.Frame
public import Idealize.ShloMosaic.Lib.Writes

@[expose] public section

noncomputable section

namespace Cert.Sweep

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {U : Type} [URA U] {α : Type}
variable {defs : Defs nD τ sig Val Λ} (𝒱 : Variants) (c : Thread nD τ) (bd : Option 𝒱.V) (E : Set ℕ)
variable {s : Shape} {e : EltTy} {Q : α → sProp (MT nD τ sig Unit Val ℕ U ℕ)}

theorem wp_load_owns {cs : CoreSpace} {m : Memref sig c.2.kind cs s e} {r : Rect s} {hl : m.view.LoadsAt r.toLoadRect}
    {k : (r.shape.Idx → Val e) → Prog (TpuEff nD τ sig Val Λ c.2) α} {X : s.Idx → Val e} :
    (owns c m fullShare X)
      ⊢ iprop((owns c m fullShare X -∗ wp frame (wpE defs 𝒱 c bd) E (k fun x => X (r.emb x)) Q)
        -∗ wp frame (wpE defs 𝒱 c bd) E (.op (.load m r.toLoadRect hl) k) Q) := by
  unfold owns
  iintro ⟨%f, %hf, H⟩ Hk
  iapply (wp_load_rect 𝒱 c bd E (m := m) (r := r) (hl := hl) (Q := Q) (q := fullShare) (f := f) (k := k) (S := m.view.set)
    (by rw [View.set_slice]; exact View.setOn_subset_set _ _)) $$ H
  iintro H
  have e : (m.access r).read Val f = fun x => X (r.emb x) := by rw [← hf]; rfl
  rw [e]
  iapply Hk
  iexists f
  isplitr
  · ipureintro; exact hf
  iexact H

theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X Y : s.Idx → Val e}
    (hit : ∀ x, Y (r.emb x) = w x) (miss : ∀ y, y ∉ r.set → Y y = X y) :
    (owns c m fullShare X)
      ⊢ iprop((owns c m fullShare Y -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store_writes₀ 𝒱 c bd E (Q := Q) (f := f) (k := k) (hx := hx) (hm := hm) (S := m.view.set)
    (by rw [View.set_slice]; exact View.setOn_subset_set _ _)) $$ H
  iintro H
  iapply Hk
  iexists _
  isplitr
  swap
  · iexact H
  ipureintro
  funext y
  by_cases hy : y ∈ r.set
  · obtain ⟨x, -, rfl⟩ := Finset.mem_map.mp (by rw [← Rect.map_emb_univ] at hy; exact hy)
    rw [View.read_writes_cons_emb, hit]
  · rw [View.read_writes_cons_miss _ _ _ _ _ hy, miss y hy, ← hf]; rfl

end Cert.Sweep

end
-- ==== Proof.Sweep.Steps.lean ====
/- The strips' steps run: what each leaves in the score buffer and in the accumulator, for any values. `held` says what the
   six memrefs of a grid point read, the two scratch buffers strip by strip. -/
module

public import proofs.«01_k».proof.Proof.Sweep.Body
public import proofs.«01_k».proof.Proof.Sweep.Values
public import proofs.«01_k».proof.Proof.Sweep.Owns

@[expose] public section

noncomputable section

namespace Cert.KernelIdeal.Sweep

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Facts₀ Facts Cert.Sweep

variable {F : FTy → Type} [FloatOps F]

/-! ## The scratch buffers by strips -/

/-- The first `n` strips of `g`, the others of `f`. -/
def mix {α : Type} (n : ℕ) (f g : ℕ → α) : ℕ → α := fun c => if c < n then g c else f c

theorem mix_zero {α : Type} (f g : ℕ → α) : mix 0 f g = f := by funext c; simp [mix]

theorem mix_succ {α : Type} {n : ℕ} {f g : ℕ → α} (h : g n = f n) : mix (n + 1) f g = mix n f g := by
  funext c; unfold mix
  by_cases h₁ : c < n
  · rw [if_pos h₁, if_pos (by omega)]
  by_cases h₂ : c = n
  · subst h₂; rw [if_pos (by omega), if_neg h₁, h]
  · rw [if_neg h₁, if_neg (by omega)]

section Glue
variable {c : ℕ} (hc : c < 16)

theorem glueS_congr {S S' : ℕ → Vec F S512x256 .f32} (h : ∀ c < 16, S c = S' c) : glueS S = glueS S' := by
  funext y; unfold glueS
  rw [h _ (by have := idx2_lt1 y; omega)]

theorem glueA_congr {S S' : ℕ → Vec F S144x256 .f32} (h : ∀ c < 16, S c = S' c) : glueA S = glueA S' := by
  funext y; unfold glueA
  rw [h _ (by have := idx2_lt1 y; omega)]

theorem glueS_cut (d : Vec F S512x4096 .f32) : glueS (cutS d) = d := by
  funext y; unfold glueS cutS
  congr 1
  have h1 := idx2_lt1 y
  funext a
  match a with
  | ⟨0, _⟩ => rfl
  | ⟨1, _⟩ => exact Fin.ext (by show (256 * ((y 1).val / 256) + (y 1).val % 256) % 4096 = (y 1).val; omega)

include hc in
theorem glueS_emb (S : ℕ → Vec F S512x256 .f32) {oS : Fin 2 → ℕ} (hoS : oS = ![0, 256 * c])
    (hS : ∀ a, oS a + S512x256.size a ≤ S512x4096.size a) (x : S512x256.Idx) :
    glueS S ((Rect.unit (s := S512x4096) oS S512x256.size hS).emb x) = S c x := by
  subst hoS
  have h1 := idx2_lt1 x
  have e1 : (((Rect.unit (s := S512x4096) ![0, 256 * c] S512x256.size hS).emb x) 1).val = 256 * c + (x 1).val := by
    simp [Rect.emb_apply]
  have e0 : (((Rect.unit (s := S512x4096) ![0, 256 * c] S512x256.size hS).emb x) 0).val = (x 0).val := by
    simp [Rect.emb_apply]
  unfold glueS
  have e : (((Rect.unit (s := S512x4096) ![0, 256 * c] S512x256.size hS).emb x) 1).val / 256 = c := by omega
  rw [e]
  congr 1
  funext a
  match a with
  | ⟨0, _⟩ => exact Fin.ext e0
  | ⟨1, _⟩ => exact Fin.ext (by show _ % 256 = (x 1).val; rw [e1]; omega)

include hc in
theorem glueA_emb (S : ℕ → Vec F S144x256 .f32) {oS : Fin 2 → ℕ} (hoS : oS = ![0, 256 * c])
    (hS : ∀ a, oS a + S144x256.size a ≤ S144x4096.size a) (x : S144x256.Idx) :
    glueA S ((Rect.unit (s := S144x4096) oS S144x256.size hS).emb x) = S c x := by
  subst hoS
  have h1 := idx2_lt1 x
  have e1 : (((Rect.unit (s := S144x4096) ![0, 256 * c] S144x256.size hS).emb x) 1).val = 256 * c + (x 1).val := by
    simp [Rect.emb_apply]
  have e0 : (((Rect.unit (s := S144x4096) ![0, 256 * c] S144x256.size hS).emb x) 0).val = (x 0).val := by
    simp [Rect.emb_apply]
  unfold glueA
  have e : (((Rect.unit (s := S144x4096) ![0, 256 * c] S144x256.size hS).emb x) 1).val / 256 = c := by omega
  rw [e]
  congr 1
  funext a
  match a with
  | ⟨0, _⟩ => exact Fin.ext e0
  | ⟨1, _⟩ => exact Fin.ext (by show _ % 256 = (x 1).val; rw [e1]; omega)

theorem glueS_miss {S S' : ℕ → Vec F S512x256 .f32} {oS : Fin 2 → ℕ} (hoS : oS = ![0, 256 * c])
    (hS : ∀ a, oS a + S512x256.size a ≤ S512x4096.size a) (hne : ∀ d, d ≠ c → S' d = S d) (y : S512x4096.Idx)
    (hy : y ∉ (Rect.unit (s := S512x4096) oS S512x256.size hS).set) : glueS S' y = glueS S y := by
  subst hoS
  unfold glueS
  rw [hne]
  intro e
  refine hy (Rect.mem_set_unit.mpr fun a => ?_)
  have h0 := idx2_lt0 y
  match a with
  | ⟨0, _⟩ => exact ⟨Nat.zero_le _, by show (y 0).val < 0 + 512; omega⟩
  | ⟨1, _⟩ => exact ⟨by show 256 * c ≤ (y 1).val; omega, by show (y 1).val < 256 * c + 256; omega⟩

theorem glueA_miss {S S' : ℕ → Vec F S144x256 .f32} {oS : Fin 2 → ℕ} (hoS : oS = ![0, 256 * c])
    (hS : ∀ a, oS a + S144x256.size a ≤ S144x4096.size a) (hne : ∀ d, d ≠ c → S' d = S d) (y : S144x4096.Idx)
    (hy : y ∉ (Rect.unit (s := S144x4096) oS S144x256.size hS).set) : glueA S' y = glueA S y := by
  subst hoS
  unfold glueA
  rw [hne]
  intro e
  refine hy (Rect.mem_set_unit.mpr fun a => ?_)
  have h0 := idx2_lt0 y
  match a with
  | ⟨0, _⟩ => exact ⟨Nat.zero_le _, by show (y 0).val < 0 + 144; omega⟩
  | ⟨1, _⟩ => exact ⟨by show 256 * c ≤ (y 1).val; omega, by show (y 1).val < 256 * c + 256; omega⟩

end Glue

/-! ## The arrays by blocks -/

section Reads
variable (X : Arrays F)

theorem bias_emb {h : Fin 8} {n : ℕ} (hn : n < 32) {o : Fin 2 → ℕ} (ho : o = ![h.val, n])
    (hR : ∀ a, o a + S1x1.size a ≤ S8x32.size a) (x : S1x1.Idx) :
    X.r ((Rect.unit (s := S8x32) o S1x1.size hR).emb x) = X.bias h n := by
  subst ho
  unfold Arrays.bias
  congr 1
  have h0 := idx2_lt0 x
  have h1 := idx2_lt1 x
  funext a
  match a with
  | ⟨0, _⟩ => exact Fin.ext (by rw [Rect.emb_apply]; show h.val + 1 * (x 0).val = h.val; omega)
  | ⟨1, _⟩ => exact Fin.ext (by rw [Rect.emb_apply]; show n + 1 * (x 1).val = n % 32; omega)

theorem keys_emb {n : ℕ} (hn : n < 32) {o : Fin 4 → ℕ} (ho : o = ![0, n, 0, 0])
    (hR : ∀ a, o a + S1x1x512x256.size a ≤ S1x32x512x256.size a) :
    (fun x => X.k ((Rect.unit (s := S1x32x512x256) o S1x1x512x256.size hR).emb x)) = X.keys n := by
  subst ho
  funext x
  unfold Arrays.keys
  congr 1
  have h1 : (x 1).val < 1 := (x 1).isLt
  funext a
  match a with
  | ⟨0, _⟩ => exact Fin.ext (by rw [Rect.emb_apply]; show 0 + 1 * (x 0).val = (x 0).val; omega)
  | ⟨1, _⟩ => exact Fin.ext (by rw [Rect.emb_apply]; show n + 1 * (x 1).val = n % 32; omega)
  | ⟨2, _⟩ => exact Fin.ext (by rw [Rect.emb_apply]; show 0 + 1 * (x 2).val = (x 2).val; omega)
  | ⟨3, _⟩ => exact Fin.ext (by rw [Rect.emb_apply]; show 0 + 1 * (x 3).val = (x 3).val; omega)

theorem vals_emb {n : ℕ} (hn : n < 32) {o : Fin 4 → ℕ} (ho : o = ![0, n, 0, 0])
    (hR : ∀ a, o a + S1x1x144x512.size a ≤ S1x32x144x512.size a) :
    (fun x => X.v ((Rect.unit (s := S1x32x144x512) o S1x1x144x512.size hR).emb x)) = X.vals n := by
  subst ho
  funext x
  unfold Arrays.vals
  congr 1
  have h1 : (x 1).val < 1 := (x 1).isLt
  funext a
  match a with
  | ⟨0, _⟩ => exact Fin.ext (by rw [Rect.emb_apply]; show 0 + 1 * (x 0).val = (x 0).val; omega)
  | ⟨1, _⟩ => exact Fin.ext (by rw [Rect.emb_apply]; show n + 1 * (x 1).val = n % 32; omega)
  | ⟨2, _⟩ => exact Fin.ext (by rw [Rect.emb_apply]; show 0 + 1 * (x 2).val = (x 2).val; omega)
  | ⟨3, _⟩ => exact Fin.ext (by rw [Rect.emb_apply]; show 0 + 1 * (x 3).val = (x 3).val; omega)

theorem queries_emb {c : ℕ} (hc : c < 16) {o : Fin 3 → ℕ} (ho : o = ![0, 0, 256 * c])
    (hR : ∀ a, o a + S1x256x256.size a ≤ S1x256x4096.size a) :
    (fun x => X.q ((Rect.unit (s := S1x256x4096) o S1x256x256.size hR).emb x)) = X.queries c := by
  subst ho
  funext x
  unfold Arrays.queries
  congr 1
  have h2 : (x 2).val < 256 := (x 2).isLt
  funext a
  match a with
  | ⟨0, _⟩ => exact Fin.ext (by rw [Rect.emb_apply]; show 0 + 1 * (x 0).val = (x 0).val; omega)
  | ⟨1, _⟩ => exact Fin.ext (by rw [Rect.emb_apply]; show 0 + 1 * (x 1).val = (x 1).val; omega)
  | ⟨2, _⟩ => exact Fin.ext (by rw [Rect.emb_apply]; show 256 * c + 1 * (x 2).val = (256 * c + (x 2).val) % 4096; omega)

end Reads

/-! ## One strip -/

/-- The memrefs of a grid point, without the output's. -/
structure Refs where
  arg2 : Memref sig .tc .smem S8x32 .f32
  arg3 : Memref sig .tc .vmem S1x256x4096 .bf16
  arg4 : Memref sig .tc .vmem S1x32x512x256 .bf16
  arg5 : Memref sig .tc .vmem S1x32x144x512 .bf16
  arg7 : Memref sig .tc .vmem S512x4096 .f32
  arg8 : Memref sig .tc .vmem S144x4096 .f32

variable {U : Type} [URA U] {α : Type} [Facts]
variable (defs : Defs nD τ sig (Elt F) Λ₀) (𝒱 : Variants) (t : Dev nD) (bd : Option 𝒱.V) (E : Set ℕ)

/-- The memrefs read: the inputs their arrays, the scratch buffers the strips' scores and accumulators. -/
def held (R : Refs) (X : Arrays F) (σ : ℕ → Strip F) : sProp (MT nD τ sig Unit (Elt F) ℕ U ℕ) :=
  iprop(owns (t : Thread nD τ) R.arg2 fullShare X.r ∗ owns (t : Thread nD τ) R.arg3 fullShare X.q
    ∗ owns (t : Thread nD τ) R.arg4 fullShare X.k ∗ owns (t : Thread nD τ) R.arg5 fullShare X.v
    ∗ owns (t : Thread nD τ) R.arg7 fullShare (glueS fun c => (σ c).s) ∗ owns (t : Thread nD τ) R.arg8 fullShare (glueA fun c => (σ c).a))

variable {defs 𝒱 t bd E}

theorem held_congr (R : Refs) (X : Arrays F) {σ σ' : ℕ → Strip F} (h : ∀ c < 16, σ c = σ' c) :
    (held t R X σ : sProp (MT nD τ sig Unit (Elt F) ℕ U ℕ)) = held t R X σ' := by
  unfold held
  rw [glueS_congr (fun c hc => congrArg Strip.s (h c hc)), glueA_congr (fun c hc => congrArg Strip.a (h c hc))]

universe v in
theorem ret_bind {Ef : Type → Type v} {β γ : Type} (a : β) (k : β → Prog Ef γ) : (Prog.ret a).bind k = k a := rfl

/-- What `scores` does to strip `c`: its buffer strip holds the scores against block `n`. -/
theorem wp_scores (R : Refs) (X : Arrays F) {S : ℕ → Vec F S512x256 .f32} {c n : ℕ} (hc : c < 16) (hn : n < 32)
    {oK : Fin 4 → ℕ} (hoK : oK = ![0, n, 0, 0]) (hK : ∀ a, oK a + S1x1x512x256.size a ≤ S1x32x512x256.size a)
    {oS : Fin 2 → ℕ} (hoS : oS = ![0, 256 * c]) (hS : ∀ a, oS a + S512x256.size a ≤ S512x4096.size a)
    {oQ : Fin 3 → ℕ} (hoQ : oQ = ![0, 0, 256 * c]) (hQ : ∀ a, oQ a + S1x256x256.size a ≤ S1x256x4096.size a)
    {S' : ℕ → Vec F S512x256 .f32} (hit : S' c = scoreAt X c n) (miss : ∀ d, d ≠ c → S' d = S d)
    {Q : FVec F S1x256 .f32 → sProp (MT nD τ sig Unit (Elt F) ℕ U ℕ)} :
    iprop(owns (t : Thread nD τ) R.arg3 fullShare X.q ∗ owns (t : Thread nD τ) R.arg4 fullShare X.k
      ∗ owns (t : Thread nD τ) R.arg7 fullShare (glueS S))
    ⊢ iprop(((owns (t : Thread nD τ) R.arg3 fullShare X.q ∗ owns (t : Thread nD τ) R.arg4 fullShare X.k
        ∗ owns (t : Thread nD τ) R.arg7 fullShare (glueS S')) -∗ Q (maxV (scoreV (X.keys n) (X.queries c))))
      -∗ wp frame (wpE defs 𝒱 t bd) E (scores R.arg3 R.arg4 R.arg7 oK hK oS hS oQ hQ) Q) := by
  iintro ⟨H3, H4, H7⟩ HQ
  unfold scores
  iapply (wp_load_owns 𝒱 t bd E) $$ H4
  iintro H4
  rw [keys_emb X hn hoK hK]
  iapply (wp_load_owns 𝒱 t bd E) $$ H3
  iintro H3
  rw [queries_emb X hc hoQ hQ]
  iapply (wp_load_owns 𝒱 t bd E) $$ H7
  iintro H7
  iapply (wp_store_owns 𝒱 t bd E (Y := glueS S') (fun x => by rw [glueS_emb hc S' hoS hS, hit]; rfl)
    (glueS_miss hoS hS miss)) $$ H7
  iintro H7
  iapply (le_wp_ret _ _ _ (maxV (scoreV (X.keys n) (X.queries c))) _)
  iapply HQ
  isplitl [H3]; · iexact H3
  isplitl [H4]; · iexact H4
  iexact H7

/-- What `attendWith` does to strip `c` for scores `s`: the new running maximum, the strip's accumulator updated. -/
theorem wp_attendWith (R : Refs) (X : Arrays F) {A : ℕ → Vec F S144x256 .f32} {c n : ℕ} {h : Fin 8} (hc : c < 16) (hn : n < 32)
    {oR : Fin 2 → ℕ} (hoR : oR = ![h.val, n]) (hR : ∀ a, oR a + S1x1.size a ≤ S8x32.size a)
    {oV : Fin 4 → ℕ} (hoV : oV = ![0, n, 0, 0]) (hV : ∀ a, oV a + S1x1x144x512.size a ≤ S1x32x144x512.size a)
    {oS : Fin 2 → ℕ} (hoS : oS = ![0, 256 * c]) (hA : ∀ a, oS a + S144x256.size a ≤ S144x4096.size a)
    (m b : FVec F S1x256 .f32) (s : Vec F S512x256 .f32)
    {A' : ℕ → Vec F S144x256 .f32} (hit : A' c = attendA m b (X.bias h n) s (X.vals n) (A c)) (miss : ∀ d, d ≠ c → A' d = A d)
    {Q : FVec F S1x256 .f32 → sProp (MT nD τ sig Unit (Elt F) ℕ U ℕ)} :
    iprop(owns (t : Thread nD τ) R.arg2 fullShare X.r ∗ owns (t : Thread nD τ) R.arg5 fullShare X.v
      ∗ owns (t : Thread nD τ) R.arg8 fullShare (glueA A))
    ⊢ iprop(((owns (t : Thread nD τ) R.arg2 fullShare X.r ∗ owns (t : Thread nD τ) R.arg5 fullShare X.v
        ∗ owns (t : Thread nD τ) R.arg8 fullShare (glueA A')) -∗ Q (attendM m b (X.bias h n)))
      -∗ wp frame (wpE defs 𝒱 t bd) E (attendWith R.arg2 R.arg5 R.arg8 oR hR oV hV oS hA m b s) Q) := by
  iintro ⟨H2, H5, H8⟩ HQ
  have eA : (fun x => glueA A ((Rect.unit (s := S144x4096) oS S144x256.size hA).emb x)) = A c :=
    funext fun x => glueA_emb hc A hoS hA x
  unfold attendWith smemLoad smemLoadElt
  iapply (wp_load_owns 𝒱 t bd E) $$ H2
  iintro H2
  beta_reduce
  rw [bias_emb X hn hoR hR]
  iapply (wp_load_owns 𝒱 t bd E) $$ H8
  iintro H8
  rw [eA]
  iapply (wp_load_owns 𝒱 t bd E) $$ H5
  iintro H5
  rw [vals_emb X hn hoV hV]
  iapply (wp_load_owns 𝒱 t bd E) $$ H8
  iintro H8
  iapply (wp_store_owns 𝒱 t bd E (Y := glueA A') (fun x => by rw [glueA_emb hc A' hoS hA, hit]; rfl)
    (glueA_miss hoS hA miss)) $$ H8
  iintro H8
  iapply (le_wp_ret _ _ _ (attendM m b (X.bias h n)) _)
  iapply HQ
  isplitl [H2]; · iexact H2
  isplitl [H5]; · iexact H5
  iexact H8

theorem mix_miss {α β : Type} (p : α → β) {f g : ℕ → α} {c d : ℕ} (h : d ≠ c) : p (mix (c + 1) f g d) = p (mix c f g d) := by
  unfold mix
  by_cases h₁ : d < c
  · rw [if_pos h₁, if_pos (by omega)]
  · rw [if_neg h₁, if_neg (by omega)]

theorem mix_at {α : Type} {f g : ℕ → α} {c : ℕ} : mix c f g c = f c := by unfold mix; rw [if_neg (by omega)]
theorem mix_at_succ {α : Type} {f g : ℕ → α} {c : ℕ} : mix (c + 1) f g c = g c := by unfold mix; rw [if_pos (by omega)]

theorem full_m {h : Fin 8} {X : Arrays F} {c n : ℕ} {σ : Strip F} : (Strip.full h X c n σ).m = attendM σ.m σ.b (X.bias h n) := rfl
theorem full_b {h : Fin 8} {X : Arrays F} {c n : ℕ} {σ : Strip F} :
    (Strip.full h X c n σ).b = maxV (scoreV (X.keys (n + 1)) (X.queries c)) := by simp only [Strip.full]
theorem edge_m {mask : F .f32} {h : Fin 8} {X : Arrays F} {c n : ℕ} {σ : Strip F} :
    (Strip.edge mask h X c n σ).m
      = attendM σ.m (maxV (edgeS mask (BitVec.ofNat 32 (512 * (c / 2))) (BitVec.ofNat 32 (256 * c)) σ.s)) (X.bias h n) := rfl

/-- Strip `c`'s step on a full block, the strips before it having taken theirs. -/
theorem wp_fullAt (R : Refs) (X : Arrays F) {σ σ' : ℕ → Strip F} {h : Fin 8} {n : ℕ} (hn : n + 1 < 32)
    {oR : Fin 2 → ℕ} (hoR : oR = ![h.val, n]) (hR : ∀ a, oR a + S1x1.size a ≤ S8x32.size a)
    {oV : Fin 4 → ℕ} (hoV : oV = ![0, n, 0, 0]) (hV : ∀ a, oV a + S1x1x144x512.size a ≤ S1x32x144x512.size a)
    {oK : Fin 4 → ℕ} (hoK : oK = ![0, n + 1, 0, 0]) (hK : ∀ a, oK a + S1x1x512x256.size a ≤ S1x32x512x256.size a)
    (c : ℕ) (hc : c < 16) (hσ : σ' c = Strip.full h X c n (σ c)) {m b : FVec F S1x256 .f32} (hm : m = (σ c).m) (hb : b = (σ c).b)
    {oS : Fin 2 → ℕ} (hoS : oS = ![0, 256 * c]) (hS : ∀ a, oS a + S512x256.size a ≤ S512x4096.size a)
    (hA : ∀ a, oS a + S144x256.size a ≤ S144x4096.size a)
    {oQ : Fin 3 → ℕ} (hoQ : oQ = ![0, 0, 256 * c]) (hQ : ∀ a, oQ a + S1x256x256.size a ≤ S1x256x4096.size a)
    {Q : FVec F S1x256 .f32 × FVec F S1x256 .f32 → sProp (MT nD τ sig Unit (Elt F) ℕ U ℕ)} :
    held t R X (mix c σ σ')
    ⊢ iprop((held t R X (mix (c + 1) σ σ') -∗ Q ((σ' c).m, (σ' c).b))
      -∗ wp frame (wpE defs 𝒱 t bd) E
        (fullAt R.arg2 R.arg3 R.arg4 R.arg5 R.arg7 R.arg8 oR hR oV hV oK hK m b oS hS hA oQ hQ) Q) := by
  subst hm hb
  unfold held
  iintro ⟨H2, H3, H4, H5, H7, H8⟩ HQ
  have eS : (fun x => glueS (fun d => (mix c σ σ' d).s) ((Rect.unit (s := S512x4096) oS S512x256.size hS).emb x)) = (σ c).s :=
    funext fun x => (glueS_emb hc _ hoS hS x).trans (by rw [mix_at])
  unfold fullAt
  iapply (wp_load_owns 𝒱 t bd E) $$ H7
  iintro H7
  rw [eS]
  erw [ret_bind]
  rw [wp_bind]
  iapply (wp_attendWith R X (h := h) (A' := fun d => (mix (c + 1) σ σ' d).a) hc (by omega) hoR hR hoV hV hoS hA _ _ _
    (by rw [mix_at_succ, hσ, mix_at]; rfl) (fun d hd => mix_miss Strip.a hd)) $$ [H2 H5 H8]
  · isplitl [H2]; · iexact H2
    isplitl [H5]; · iexact H5
    iexact H8
  iintro ⟨H2, H5, H8⟩
  rw [wp_bind]
  iapply (wp_scores R X (S' := fun d => (mix (c + 1) σ σ' d).s) hc hn hoK hK hoS hS hoQ hQ
    (by rw [mix_at_succ, hσ]; rfl) (fun d hd => mix_miss Strip.s hd)) $$ [H3 H4 H7]
  · isplitl [H3]; · iexact H3
    isplitl [H4]; · iexact H4
    iexact H7
  iintro ⟨H3, H4, H7⟩
  iapply (le_wp_ret _ _ _ (attendM (σ c).m (σ c).b (X.bias h n), maxV (scoreV (X.keys (n + 1)) (X.queries c))) _)
  rw [hσ, full_m, full_b]
  iapply HQ
  isplitl [H2]; · iexact H2
  isplitl [H3]; · iexact H3
  isplitl [H4]; · iexact H4
  isplitl [H5]; · iexact H5
  isplitl [H7]; · iexact H7
  iexact H8

/-- Strip `c`'s step on its last block. -/
theorem wp_edgeAt (R : Refs) (X : Arrays F) {σ σ' : ℕ → Strip F} (mask : F .f32) {h : Fin 8} {n : ℕ} (hn : n < 32)
    {oR : Fin 2 → ℕ} (hoR : oR = ![h.val, n]) (hR : ∀ a, oR a + S1x1.size a ≤ S8x32.size a)
    {oV : Fin 4 → ℕ} (hoV : oV = ![0, n, 0, 0]) (hV : ∀ a, oV a + S1x1x144x512.size a ≤ S1x32x144x512.size a)
    (c : ℕ) (hc : c < 16) (hσ : σ' c = Strip.edge mask h X c n (σ c)) {m : FVec F S1x256 .f32} (hm : m = (σ c).m)
    {key0 qry0 : BitVec 32} (hk : key0 = BitVec.ofNat 32 (512 * (c / 2))) (hq : qry0 = BitVec.ofNat 32 (256 * c))
    {oS : Fin 2 → ℕ} (hoS : oS = ![0, 256 * c]) (hS : ∀ a, oS a + S512x256.size a ≤ S512x4096.size a)
    (hA : ∀ a, oS a + S144x256.size a ≤ S144x4096.size a)
    {oQ : Fin 3 → ℕ} (hQ : ∀ a, oQ a + S1x256x256.size a ≤ S1x256x4096.size a)
    {Q : FVec F S1x256 .f32 → sProp (MT nD τ sig Unit (Elt F) ℕ U ℕ)} :
    held t R X (mix c σ σ')
    ⊢ iprop((held t R X (mix (c + 1) σ σ') -∗ Q (σ' c).m)
      -∗ wp frame (wpE defs 𝒱 t bd) E
        (edgeAt mask R.arg2 R.arg5 R.arg7 R.arg8 oR hR oV hV key0 qry0 m oS hS hA oQ hQ) Q) := by
  subst hm hk hq
  unfold held
  iintro ⟨H2, H3, H4, H5, H7, H8⟩ HQ
  have eS : (fun x => glueS (fun d => (mix c σ σ' d).s) ((Rect.unit (s := S512x4096) oS S512x256.size hS).emb x)) = (σ c).s :=
    funext fun x => (glueS_emb hc _ hoS hS x).trans (by rw [mix_at])
  have eg : glueS (fun d => (mix (c + 1) σ σ' d).s) = glueS fun d => (mix c σ σ' d).s := by
    congr 1
    funext d
    by_cases hd : d = c
    · subst hd; rw [mix_at_succ, mix_at, hσ]; rfl
    · exact mix_miss Strip.s hd
  rw [eg]
  unfold edgeAt
  iapply (wp_load_owns 𝒱 t bd E) $$ H7
  iintro H7
  rw [eS]
  erw [ret_bind]
  iapply (wp_attendWith R X (h := h) (A' := fun d => (mix (c + 1) σ σ' d).a) hc hn hoR hR hoV hV hoS hA (σ c).m
    (maxV (edgeS mask (BitVec.ofNat 32 (512 * (c / 2))) (BitVec.ofNat 32 (256 * c)) (σ c).s))
    (edgeS mask (BitVec.ofNat 32 (512 * (c / 2))) (BitVec.ofNat 32 (256 * c)) (σ c).s)
    (by rw [mix_at_succ, hσ, mix_at]; rfl) (fun d hd => mix_miss Strip.a hd)) $$ [H2 H5 H8]
  · isplitl [H2]; · iexact H2
    isplitl [H5]; · iexact H5
    iexact H8
  iintro ⟨H2, H5, H8⟩
  rw [hσ, edge_m]
  iapply HQ
  isplitl [H2]; · iexact H2
  isplitl [H3]; · iexact H3
  isplitl [H4]; · iexact H4
  isplitl [H5]; · iexact H5
  isplitl [H7]; · iexact H7
  iexact H8

/-- Strip `c`'s scores against block 0. -/
theorem wp_scoresAt (R : Refs) (X : Arrays F) {σ σ' : ℕ → Strip F}
    {oK : Fin 4 → ℕ} (hoK : oK = ![0, 0, 0, 0]) (hK : ∀ a, oK a + S1x1x512x256.size a ≤ S1x32x512x256.size a)
    (c : ℕ) (hc : c < 16) (hs : (σ' c).s = scoreAt X c 0) (hb : (σ' c).b = maxV (scoreV (X.keys 0) (X.queries c)))
    (ha : (σ' c).a = (σ c).a)
    {oS : Fin 2 → ℕ} (hoS : oS = ![0, 256 * c]) (hS : ∀ a, oS a + S512x256.size a ≤ S512x4096.size a)
    (hA : ∀ a, oS a + S144x256.size a ≤ S144x4096.size a)
    {oQ : Fin 3 → ℕ} (hoQ : oQ = ![0, 0, 256 * c]) (hQ : ∀ a, oQ a + S1x256x256.size a ≤ S1x256x4096.size a)
    {Q : FVec F S1x256 .f32 → sProp (MT nD τ sig Unit (Elt F) ℕ U ℕ)} :
    held t R X (mix c σ σ')
    ⊢ iprop((held t R X (mix (c + 1) σ σ') -∗ Q (σ' c).b)
      -∗ wp frame (wpE defs 𝒱 t bd) E (scoresAt R.arg3 R.arg4 R.arg7 oK hK oS hS hA oQ hQ) Q) := by
  unfold held
  iintro ⟨H2, H3, H4, H5, H7, H8⟩ HQ
  have eg : glueA (fun d => (mix (c + 1) σ σ' d).a) = glueA fun d => (mix c σ σ' d).a := by
    congr 1
    funext d
    by_cases hd : d = c
    · subst hd; rw [mix_at_succ, mix_at, ha]
    · exact mix_miss Strip.a hd
  rw [eg]
  unfold scoresAt
  iapply (wp_scores R X (S' := fun d => (mix (c + 1) σ σ' d).s) hc (by omega) hoK hK hoS hS hoQ hQ
    (by rw [mix_at_succ, hs]) (fun d hd => mix_miss Strip.s hd)) $$ [H3 H4 H7]
  · isplitl [H3]; · iexact H3
    isplitl [H4]; · iexact H4
    iexact H7
  iintro ⟨H3, H4, H7⟩
  rw [hb]
  iapply HQ
  isplitl [H2]; · iexact H2
  isplitl [H3]; · iexact H3
  isplitl [H4]; · iexact H4
  isplitl [H5]; · iexact H5
  isplitl [H7]; · iexact H7
  iexact H8

end Cert.KernelIdeal.Sweep

end
-- ==== Proof.Sweep.Run.lean ====
/- The body's pieces run one after the other. `Runs A p B v` says that `p`, started where `A` holds, ends where `B` holds and
   yields `v`; `Runs.bind` composes such statements as the program composes its pieces, so that each proof below is the list
   of the strips that its piece of the program visits. -/
module

public import proofs.«01_k».proof.Proof.Sweep.Steps
public import proofs.«01_k».proof.Proof.Gen.KernelIdeal

@[expose] public section

noncomputable section

namespace Cert.KernelIdeal.Sweep

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Facts₀ Facts Cert.Sweep

variable {F : FTy → Type} [FloatOps F]
variable {U : Type} [URA U] [Facts]
variable (defs : Defs nD τ sig (Elt F) Λ₀) (𝒱 : Variants) (t : Dev nD) (bd : Option 𝒱.V) (E : Set ℕ)

/-- From `A`, the program `p` yields `v` and leaves `B`. -/
def Runs {α : Type} (A : sProp (MT nD τ sig Unit (Elt F) ℕ U ℕ)) (p : P F α) (B : sProp (MT nD τ sig Unit (Elt F) ℕ U ℕ)) (v : α) :
    Prop :=
  ∀ Q : α → sProp (MT nD τ sig Unit (Elt F) ℕ U ℕ), A ⊢ iprop((B -∗ Q v) -∗ wp frame (wpE defs 𝒱 (t : Thread nD τ) bd) E p Q)

variable {defs 𝒱 t bd E}

theorem Runs.bind {α β : Type} {A B C : sProp (MT nD τ sig Unit (Elt F) ℕ U ℕ)} {p : P F α} {k : α → P F β} {v : α} {w : β}
    (hp : Runs defs 𝒱 t bd E A p B v) (hk : Runs defs 𝒱 t bd E B (k v) C w) : Runs defs 𝒱 t bd E A (p >>= k) C w := by
  intro Q
  rw [wp_bind]
  iintro HA HQ
  iapply (hp fun a => wp frame (wpE defs 𝒱 (t : Thread nD τ) bd) E (k a) Q) $$ HA
  iintro HB
  iapply (hk Q) $$ HB
  iexact HQ

theorem Runs.ret {α : Type} {A : sProp (MT nD τ sig Unit (Elt F) ℕ U ℕ)} {v : α} :
    Runs defs 𝒱 t bd E A (pure v : P F α) A v := by
  intro Q
  iintro HA HQ
  iapply (le_wp_ret _ _ _ v _)
  iapply HQ
  iexact HA

/-- A loop whose trips take one state to the next. -/
theorem Runs.loop {σ : Type} (l : Scf.Loop 32) (hok : l.OK) {body : Fin l.trips → σ → P F σ}
    (A : ℕ → sProp (MT nD τ sig Unit (Elt F) ℕ U ℕ)) (v : ℕ → σ)
    (h : ∀ k : Fin l.trips, Runs defs 𝒱 t bd E (A k) (body k (v k)) (A (k + 1)) (v (k + 1))) :
    Runs defs 𝒱 t bd E (A 0) (l.for hok (v 0) body) (A l.trips) (v l.trips) := by
  intro Q
  iintro HA HQ
  iapply (Scf.wp_for frame (wpE defs 𝒱 (t : Thread nD τ) bd) E l.lb l.ub l.st hok (v 0) body
    (fun n acc => iprop(⌜acc = v n⌝ ∗ A n)) fun k acc => by
      iintro ⟨%e, HA⟩
      subst e
      iapply (h k _) $$ HA
      iintro HA
      isplitr
      · ipureintro; rfl
      iexact HA)
  isplitl [HA]
  · isplitr
    · ipureintro; rfl
    iexact HA
  iintro %acc ⟨%e, HA⟩
  subst e
  iapply HQ
  iexact HA

/-- The sixteen strips' maxima, as the program carries them. -/
def tup (σ : ℕ → Strip F) : Carry F :=
  ((σ 0).m, (σ 0).b, (σ 1).m, (σ 1).b, (σ 2).m, (σ 2).b, (σ 3).m, (σ 3).b, (σ 4).m, (σ 4).b, (σ 5).m, (σ 5).b, (σ 6).m, (σ 6).b,
    (σ 7).m, (σ 7).b, (σ 8).m, (σ 8).b, (σ 9).m, (σ 9).b, (σ 10).m, (σ 10).b, (σ 11).m, (σ 11).b, (σ 12).m, (σ 12).b,
    (σ 13).m, (σ 13).b, (σ 14).m, (σ 14).b, (σ 15).m, (σ 15).b)

theorem held_mix_zero {R : Refs} {X : Arrays F} {σ σ' : ℕ → Strip F} :
    (held t R X (mix 0 σ σ') : sProp (MT nD τ sig Unit (Elt F) ℕ U ℕ)) = held t R X σ := by rw [mix_zero]

theorem held_mix_all {R : Refs} {X : Arrays F} {σ σ' : ℕ → Strip F} :
    (held t R X (mix 16 σ σ') : sProp (MT nD τ sig Unit (Elt F) ℕ U ℕ)) = held t R X σ' :=
  held_congr R X fun c hc => by unfold mix; rw [if_pos hc]

theorem held_mix_done {R : Refs} {X : Arrays F} {σ σ' : ℕ → Strip F} {n : ℕ} (h : ∀ c < n, σ' c = σ c) :
    (held t R X (mix n σ σ') : sProp (MT nD τ sig Unit (Elt F) ℕ U ℕ)) = held t R X σ :=
  held_congr R X fun c _ => by
    unfold mix
    by_cases hc : c < n
    · rw [if_pos hc, h c hc]
    · rw [if_neg hc]

section Strips

theorem inbS (c : ℕ) (hc : c < 16) : ∀ a, (![0, 256 * c] : Fin 2 → ℕ) a + S512x256.size a ≤ S512x4096.size a := by
  intro a
  fin_cases a
  · show 0 + 512 ≤ 512; omega
  · show 256 * c + 256 ≤ 4096; omega

theorem inbA (c : ℕ) (hc : c < 16) : ∀ a, (![0, 256 * c] : Fin 2 → ℕ) a + S144x256.size a ≤ S144x4096.size a := by
  intro a
  fin_cases a
  · show 0 + 144 ≤ 144; omega
  · show 256 * c + 256 ≤ 4096; omega

theorem inbQ (c : ℕ) (hc : c < 16) : ∀ a, (![0, 0, 256 * c] : Fin 3 → ℕ) a + S1x256x256.size a ≤ S1x256x4096.size a := by
  intro a
  fin_cases a
  · show 0 + 1 ≤ 1; omega
  · show 0 + 256 ≤ 256; omega
  · show 256 * c + 256 ≤ 4096; omega

variable (R : Refs) (X : Arrays F) {σ σ' : ℕ → Strip F} {h : Fin 8} {n : ℕ}

theorem runs_full (hn : n + 1 < 32)
    {oR : Fin 2 → ℕ} (hoR : oR = ![h.val, n]) (hR : ∀ a, oR a + S1x1.size a ≤ S8x32.size a)
    {oV : Fin 4 → ℕ} (hoV : oV = ![0, n, 0, 0]) (hV : ∀ a, oV a + S1x1x144x512.size a ≤ S1x32x144x512.size a)
    {oK : Fin 4 → ℕ} (hoK : oK = ![0, n + 1, 0, 0]) (hK : ∀ a, oK a + S1x1x512x256.size a ≤ S1x32x512x256.size a)
    (c : ℕ) (hc : c < 16) (hσ : σ' c = Strip.full h X c n (σ c)) :
    Runs (U := U) defs 𝒱 t bd E (held t R X (mix c σ σ'))
      (fullAt R.arg2 R.arg3 R.arg4 R.arg5 R.arg7 R.arg8 oR hR oV hV oK hK (σ c).m (σ c).b ![0, 256 * c] (inbS c hc) (inbA c hc) ![0, 0, 256 * c] (inbQ c hc))
      (held t R X (mix (c + 1) σ σ')) ((σ' c).m, (σ' c).b) :=
  fun _ => wp_fullAt R X hn hoR hR hoV hV hoK hK c hc hσ rfl rfl rfl (inbS c hc) (inbA c hc) rfl (inbQ c hc)

theorem runs_edge (mask : F .f32) (hn : n < 32)
    {oR : Fin 2 → ℕ} (hoR : oR = ![h.val, n]) (hR : ∀ a, oR a + S1x1.size a ≤ S8x32.size a)
    {oV : Fin 4 → ℕ} (hoV : oV = ![0, n, 0, 0]) (hV : ∀ a, oV a + S1x1x144x512.size a ≤ S1x32x144x512.size a)
    (c : ℕ) (hc : c < 16) (hσ : σ' c = Strip.edge mask h X c n (σ c)) :
    Runs (U := U) defs 𝒱 t bd E (held t R X (mix c σ σ'))
      (edgeAt mask R.arg2 R.arg5 R.arg7 R.arg8 oR hR oV hV (BitVec.ofNat 32 (512 * (c / 2))) (BitVec.ofNat 32 (256 * c)) (σ c).m ![0, 256 * c]
        (inbS c hc) (inbA c hc) ![0, 0, 256 * c] (inbQ c hc))
      (held t R X (mix (c + 1) σ σ')) (σ' c).m :=
  fun _ => wp_edgeAt R X mask hn hoR hR hoV hV c hc hσ rfl rfl rfl rfl (inbS c hc) (inbA c hc) (inbQ c hc)

/-- Sixteen strips on one full block. -/
theorem runs_block (hn : n + 1 < 32)
    {oR : Fin 2 → ℕ} (hoR : oR = ![h.val, n]) (hR : ∀ a, oR a + S1x1.size a ≤ S8x32.size a)
    {oV : Fin 4 → ℕ} (hoV : oV = ![0, n, 0, 0]) (hV : ∀ a, oV a + S1x1x144x512.size a ≤ S1x32x144x512.size a)
    {oK : Fin 4 → ℕ} (hoK : oK = ![0, n + 1, 0, 0]) (hK : ∀ a, oK a + S1x1x512x256.size a ≤ S1x32x512x256.size a)
    (hσ : ∀ c < 16, σ' c = Strip.full h X c n (σ c)) :
    Runs (U := U) defs 𝒱 t bd E (held t R X σ)
      (block (fullAt R.arg2 R.arg3 R.arg4 R.arg5 R.arg7 R.arg8 oR hR oV hV oK hK) (tup σ)) (held t R X σ') (tup σ') := by
  have G := fun c (hc : c < 16) => runs_full (U := U) (defs := defs) (𝒱 := 𝒱) (t := t) (bd := bd) (E := E) R X hn hoR hR hoV hV hoK hK c hc (hσ c hc)
  rw [← held_mix_zero (σ := σ) (σ' := σ'), ← held_mix_all (σ := σ) (σ' := σ')]
  unfold block tup
  exact .bind (G 0 (by decide)) <| .bind (G 1 (by decide)) <| .bind (G 2 (by decide)) <| .bind (G 3 (by decide)) <|
    .bind (G 4 (by decide)) <| .bind (G 5 (by decide)) <| .bind (G 6 (by decide)) <| .bind (G 7 (by decide)) <|
    .bind (G 8 (by decide)) <| .bind (G 9 (by decide)) <| .bind (G 10 (by decide)) <| .bind (G 11 (by decide)) <|
    .bind (G 12 (by decide)) <| .bind (G 13 (by decide)) <| .bind (G 14 (by decide)) <| .bind (G 15 (by decide)) .ret

end Strips

end Cert.KernelIdeal.Sweep

end
-- ==== Proof.Sweep.Diagonal.lean ====
/- The diagonal's eight blocks, the loops' trips, the start and the end of the body, each as a `Runs`. -/
module

public import proofs.«01_k».proof.Proof.Sweep.Run

@[expose] public section

noncomputable section

namespace Cert.KernelIdeal.Sweep

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Facts₀ Facts Cert.Sweep

variable {F : FTy → Type} [FloatOps F]
variable {U : Type} [URA U] [Facts]
variable {defs : Defs nD τ sig (Elt F) Λ₀} {𝒱 : Variants} {t : Dev nD} {bd : Option 𝒱.V} {E : Set ℕ}
variable (R : Refs) (X : Arrays F) (mask : F .f32) (i : grid0.Coords)

/-- The sixteen strips of grid point `i` after `N` blocks. -/
abbrev st (N c : ℕ) : Strip F := stateAt mask (i 0) X (i 1).val N c

theorem point_lt : (i 1).val < 4 := (i 1).isLt

theorem trips_eq : ∀ i : grid0.Coords, (k0_t1_loop i).trips = (i 1).val := by decide +kernel

/-- A trip of the loop over full blocks. -/
theorem runs_trip (k : Fin (k0_t1_loop i).trips) :
    Runs (U := U) defs 𝒱 t bd E (held t R X (st X mask i (8 * k.val)))
      (trip1 i R.arg2 R.arg3 R.arg4 R.arg5 R.arg7 R.arg8 k (tup (st X mask i (8 * k.val))))
      (held t R X (st X mask i (8 * (k.val + 1)))) (tup (st X mask i (8 * (k.val + 1)))) := by
  have hk : k.val < (i 1).val := trips_eq i ▸ k.isLt
  have hi := point_lt i
  have G := fun r : Fin 8 => runs_block (U := U) (defs := defs) (𝒱 := 𝒱) (t := t) (bd := bd) (E := E) R X
    (σ := st X mask i (8 * k.val + r.val)) (σ' := st X mask i (8 * k.val + r.val + 1)) (h := i 0) (by omega)
    (Gen.k0_off1_eq i k r) (k0_off1_inb i k r) (Gen.k0_off2_eq i k r) (k0_off2_inb i k r) (Gen.k0_off3_eq i k r) (k0_off3_inb i k r)
    (fun c _ => stateAt_full mask (i 0) X (by omega))
  have e : 8 * (k.val + 1) = 8 * k.val + 7 + 1 := by omega
  rw [e]
  unfold trip1
  exact .bind (G 0) <| .bind (G 1) <| .bind (G 2) <| .bind (G 3) <| .bind (G 4) <| .bind (G 5) <| .bind (G 6) (G 7)

section Diagonal

/-- A strip masked in block `r` of the diagonal. -/
theorem runs_last (r : Fin 8) (c : ℕ) (hc : c < 16) (h : c / 2 = r.val) :
    Runs (U := U) defs 𝒱 t bd E (held t R X (mix c (st X mask i (8 * (i 1).val + r.val)) (st X mask i (8 * (i 1).val + r.val + 1))))
      (edgeAt mask R.arg2 R.arg5 R.arg7 R.arg8 (k0_off7 i (BitVec.ofNat 32 r.val)) (k0_off7_inb i r) (k0_off8 i (BitVec.ofNat 32 r.val))
        (k0_off8_inb i r) (BitVec.ofNat 32 (512 * (c / 2))) (BitVec.ofNat 32 (256 * c)) (st X mask i (8 * (i 1).val + r.val) c).m
        ![0, 256 * c] (inbS c hc) (inbA c hc) ![0, 0, 256 * c] (inbQ c hc))
      (held t R X (mix (c + 1) (st X mask i (8 * (i 1).val + r.val)) (st X mask i (8 * (i 1).val + r.val + 1))))
      (st X mask i (8 * (i 1).val + r.val + 1) c).m :=
  have hi := point_lt i
  runs_edge R X mask (by omega) (Gen.k0_off7_eq i r) (k0_off7_inb i r) (Gen.k0_off8_eq i r) (k0_off8_inb i r) c hc
    (stateAt_edge mask (i 0) X (by omega))

/-- A strip beyond block `r` of the diagonal. -/
theorem runs_more (r : Fin 7) (c : ℕ) (hc : c < 16) (h : r.val < c / 2) :
    Runs (U := U) defs 𝒱 t bd E (held t R X (mix c (st X mask i (8 * (i 1).val + r.val)) (st X mask i (8 * (i 1).val + r.val + 1))))
      (fullAt R.arg2 R.arg3 R.arg4 R.arg5 R.arg7 R.arg8 (k0_off7 i (BitVec.ofNat 32 r.val)) (k0_off7_inb i r.castSucc)
        (k0_off8 i (BitVec.ofNat 32 r.val)) (k0_off8_inb i r.castSucc) (k0_off9 i (BitVec.ofNat 32 r.val)) (k0_off9_inb i r)
        (st X mask i (8 * (i 1).val + r.val) c).m (st X mask i (8 * (i 1).val + r.val) c).b
        ![0, 256 * c] (inbS c hc) (inbA c hc) ![0, 0, 256 * c] (inbQ c hc))
      (held t R X (mix (c + 1) (st X mask i (8 * (i 1).val + r.val)) (st X mask i (8 * (i 1).val + r.val + 1))))
      ((st X mask i (8 * (i 1).val + r.val + 1) c).m, (st X mask i (8 * (i 1).val + r.val + 1) c).b) :=
  have hi := point_lt i
  runs_full (n := 8 * (i 1).val + r.val) R X (by omega) (Gen.k0_off7_eq i r.castSucc) (k0_off7_inb i r.castSucc) (Gen.k0_off8_eq i r.castSucc)
    (k0_off8_inb i r.castSucc) (Gen.k0_off9_eq i r) (k0_off9_inb i r) c hc (stateAt_full mask (i 0) X (by omega))

theorem held_before (r : ℕ) (n : ℕ) (hn : n = 2 * r) :
    (held t R X (mix n (st X mask i (8 * (i 1).val + r)) (st X mask i (8 * (i 1).val + r + 1))) : sProp (MT nD τ sig Unit (Elt F) ℕ U ℕ))
      = held t R X (st X mask i (8 * (i 1).val + r)) :=
  held_mix_done fun c hc => stateAt_done mask (i 0) X (by omega)

/-- The maxima of the strips from 2 on. -/
def rest1 (σ : ℕ → Strip F) : Rest1 F :=
    ((σ 2).m, (σ 2).b, (σ 3).m, (σ 3).b, (σ 4).m, (σ 4).b, (σ 5).m, (σ 5).b, (σ 6).m, (σ 6).b, (σ 7).m, (σ 7).b, (σ 8).m, (σ
    8).b, (σ 9).m, (σ 9).b, (σ 10).m, (σ 10).b, (σ 11).m, (σ 11).b, (σ 12).m, (σ 12).b, (σ 13).m, (σ 13).b, (σ 14).m, (σ
    14).b, (σ 15).m, (σ 15).b)

/-- The maxima of the strips from 4 on. -/
def rest2 (σ : ℕ → Strip F) : Rest2 F :=
    ((σ 4).m, (σ 4).b, (σ 5).m, (σ 5).b, (σ 6).m, (σ 6).b, (σ 7).m, (σ 7).b, (σ 8).m, (σ 8).b, (σ 9).m, (σ 9).b, (σ 10).m,
    (σ 10).b, (σ 11).m, (σ 11).b, (σ 12).m, (σ 12).b, (σ 13).m, (σ 13).b, (σ 14).m, (σ 14).b, (σ 15).m, (σ 15).b)

/-- The maxima of the strips from 6 on. -/
def rest3 (σ : ℕ → Strip F) : Rest3 F :=
    ((σ 6).m, (σ 6).b, (σ 7).m, (σ 7).b, (σ 8).m, (σ 8).b, (σ 9).m, (σ 9).b, (σ 10).m, (σ 10).b, (σ 11).m, (σ 11).b, (σ
    12).m, (σ 12).b, (σ 13).m, (σ 13).b, (σ 14).m, (σ 14).b, (σ 15).m, (σ 15).b)

/-- The maxima of the strips from 8 on. -/
def rest4 (σ : ℕ → Strip F) : Rest4 F :=
    ((σ 8).m, (σ 8).b, (σ 9).m, (σ 9).b, (σ 10).m, (σ 10).b, (σ 11).m, (σ 11).b, (σ 12).m, (σ 12).b, (σ 13).m, (σ 13).b, (σ
    14).m, (σ 14).b, (σ 15).m, (σ 15).b)

/-- The maxima of the strips from 10 on. -/
def rest5 (σ : ℕ → Strip F) : Rest5 F :=
    ((σ 10).m, (σ 10).b, (σ 11).m, (σ 11).b, (σ 12).m, (σ 12).b, (σ 13).m, (σ 13).b, (σ 14).m, (σ 14).b, (σ 15).m, (σ 15).b)

/-- The maxima of the strips from 12 on. -/
def rest6 (σ : ℕ → Strip F) : Rest6 F :=
    ((σ 12).m, (σ 12).b, (σ 13).m, (σ 13).b, (σ 14).m, (σ 14).b, (σ 15).m, (σ 15).b)

/-- The maxima of the strips from 14 on. -/
def rest7 (σ : ℕ → Strip F) : Rest7 F :=
    ((σ 14).m, (σ 14).b, (σ 15).m, (σ 15).b)

theorem runs_diag0 :
    Runs (U := U) defs 𝒱 t bd E (held t R X (st X mask i (8 * (i 1).val + 0)))
      (diag0 mask i R.arg2 R.arg3 R.arg4 R.arg5 R.arg7 R.arg8 (tup (st X mask i (8 * (i 1).val + 0))))
      (held t R X (st X mask i (8 * (i 1).val + 1))) (rest1 (st X mask i (8 * (i 1).val + 1))) := by
  have L := runs_last (U := U) (defs := defs) (𝒱 := 𝒱) (t := t) (bd := bd) (E := E) R X mask i 0
  have G := runs_more (U := U) (defs := defs) (𝒱 := 𝒱) (t := t) (bd := bd) (E := E) R X mask i 0
  rw [← held_before R X mask i 0 0 rfl, ← held_mix_all (σ := st X mask i (8 * (i 1).val + 0)) (σ' := st X mask i (8 * (i 1).val + 1))]
  unfold diag0 tup rest1
  exact .bind (L 0 (by decide) (by decide)) <| .bind (L 1 (by decide) (by decide)) <| .bind (G 2 (by decide) (by decide)) <|
    .bind (G 3 (by decide) (by decide)) <| .bind (G 4 (by decide) (by decide)) <| .bind (G 5 (by decide) (by decide)) <|
    .bind (G 6 (by decide) (by decide)) <| .bind (G 7 (by decide) (by decide)) <| .bind (G 8 (by decide) (by decide)) <|
    .bind (G 9 (by decide) (by decide)) <| .bind (G 10 (by decide) (by decide)) <| .bind (G 11 (by decide) (by decide)) <|
    .bind (G 12 (by decide) (by decide)) <| .bind (G 13 (by decide) (by decide)) <| .bind (G 14 (by decide) (by decide)) <|
    .bind (G 15 (by decide) (by decide)) .ret

theorem runs_diag1 :
    Runs (U := U) defs 𝒱 t bd E (held t R X (st X mask i (8 * (i 1).val + 1)))
      (diag1 mask i R.arg2 R.arg3 R.arg4 R.arg5 R.arg7 R.arg8 (rest1 (st X mask i (8 * (i 1).val + 1))))
      (held t R X (st X mask i (8 * (i 1).val + 2))) (rest2 (st X mask i (8 * (i 1).val + 2))) := by
  have L := runs_last (U := U) (defs := defs) (𝒱 := 𝒱) (t := t) (bd := bd) (E := E) R X mask i 1
  have G := runs_more (U := U) (defs := defs) (𝒱 := 𝒱) (t := t) (bd := bd) (E := E) R X mask i 1
  rw [← held_before R X mask i 1 2 rfl, ← held_mix_all (σ := st X mask i (8 * (i 1).val + 1)) (σ' := st X mask i (8 * (i 1).val + 2))]
  unfold diag1 rest1 rest2
  exact .bind (L 2 (by decide) (by decide)) <| .bind (L 3 (by decide) (by decide)) <| .bind (G 4 (by decide) (by decide)) <|
    .bind (G 5 (by decide) (by decide)) <| .bind (G 6 (by decide) (by decide)) <| .bind (G 7 (by decide) (by decide)) <|
    .bind (G 8 (by decide) (by decide)) <| .bind (G 9 (by decide) (by decide)) <| .bind (G 10 (by decide) (by decide)) <|
    .bind (G 11 (by decide) (by decide)) <| .bind (G 12 (by decide) (by decide)) <| .bind (G 13 (by decide) (by decide)) <|
    .bind (G 14 (by decide) (by decide)) <| .bind (G 15 (by decide) (by decide)) .ret

theorem runs_diag2 :
    Runs (U := U) defs 𝒱 t bd E (held t R X (st X mask i (8 * (i 1).val + 2)))
      (diag2 mask i R.arg2 R.arg3 R.arg4 R.arg5 R.arg7 R.arg8 (rest2 (st X mask i (8 * (i 1).val + 2))))
      (held t R X (st X mask i (8 * (i 1).val + 3))) (rest3 (st X mask i (8 * (i 1).val + 3))) := by
  have L := runs_last (U := U) (defs := defs) (𝒱 := 𝒱) (t := t) (bd := bd) (E := E) R X mask i 2
  have G := runs_more (U := U) (defs := defs) (𝒱 := 𝒱) (t := t) (bd := bd) (E := E) R X mask i 2
  rw [← held_before R X mask i 2 4 rfl, ← held_mix_all (σ := st X mask i (8 * (i 1).val + 2)) (σ' := st X mask i (8 * (i 1).val + 3))]
  unfold diag2 rest2 rest3
  exact .bind (L 4 (by decide) (by decide)) <| .bind (L 5 (by decide) (by decide)) <| .bind (G 6 (by decide) (by decide)) <|
    .bind (G 7 (by decide) (by decide)) <| .bind (G 8 (by decide) (by decide)) <| .bind (G 9 (by decide) (by decide)) <|
    .bind (G 10 (by decide) (by decide)) <| .bind (G 11 (by decide) (by decide)) <| .bind (G 12 (by decide) (by decide)) <|
    .bind (G 13 (by decide) (by decide)) <| .bind (G 14 (by decide) (by decide)) <| .bind (G 15 (by decide) (by decide)) .ret

theorem runs_diag3 :
    Runs (U := U) defs 𝒱 t bd E (held t R X (st X mask i (8 * (i 1).val + 3)))
      (diag3 mask i R.arg2 R.arg3 R.arg4 R.arg5 R.arg7 R.arg8 (rest3 (st X mask i (8 * (i 1).val + 3))))
      (held t R X (st X mask i (8 * (i 1).val + 4))) (rest4 (st X mask i (8 * (i 1).val + 4))) := by
  have L := runs_last (U := U) (defs := defs) (𝒱 := 𝒱) (t := t) (bd := bd) (E := E) R X mask i 3
  have G := runs_more (U := U) (defs := defs) (𝒱 := 𝒱) (t := t) (bd := bd) (E := E) R X mask i 3
  rw [← held_before R X mask i 3 6 rfl, ← held_mix_all (σ := st X mask i (8 * (i 1).val + 3)) (σ' := st X mask i (8 * (i 1).val + 4))]
  unfold diag3 rest3 rest4
  exact .bind (L 6 (by decide) (by decide)) <| .bind (L 7 (by decide) (by decide)) <| .bind (G 8 (by decide) (by decide)) <|
    .bind (G 9 (by decide) (by decide)) <| .bind (G 10 (by decide) (by decide)) <| .bind (G 11 (by decide) (by decide)) <|
    .bind (G 12 (by decide) (by decide)) <| .bind (G 13 (by decide) (by decide)) <| .bind (G 14 (by decide) (by decide)) <|
    .bind (G 15 (by decide) (by decide)) .ret

theorem runs_diag4 :
    Runs (U := U) defs 𝒱 t bd E (held t R X (st X mask i (8 * (i 1).val + 4)))
      (diag4 mask i R.arg2 R.arg3 R.arg4 R.arg5 R.arg7 R.arg8 (rest4 (st X mask i (8 * (i 1).val + 4))))
      (held t R X (st X mask i (8 * (i 1).val + 5))) (rest5 (st X mask i (8 * (i 1).val + 5))) := by
  have L := runs_last (U := U) (defs := defs) (𝒱 := 𝒱) (t := t) (bd := bd) (E := E) R X mask i 4
  have G := runs_more (U := U) (defs := defs) (𝒱 := 𝒱) (t := t) (bd := bd) (E := E) R X mask i 4
  rw [← held_before R X mask i 4 8 rfl, ← held_mix_all (σ := st X mask i (8 * (i 1).val + 4)) (σ' := st X mask i (8 * (i 1).val + 5))]
  unfold diag4 rest4 rest5
  exact .bind (L 8 (by decide) (by decide)) <| .bind (L 9 (by decide) (by decide)) <| .bind (G 10 (by decide) (by decide)) <|
    .bind (G 11 (by decide) (by decide)) <| .bind (G 12 (by decide) (by decide)) <| .bind (G 13 (by decide) (by decide)) <|
    .bind (G 14 (by decide) (by decide)) <| .bind (G 15 (by decide) (by decide)) .ret

theorem runs_diag5 :
    Runs (U := U) defs 𝒱 t bd E (held t R X (st X mask i (8 * (i 1).val + 5)))
      (diag5 mask i R.arg2 R.arg3 R.arg4 R.arg5 R.arg7 R.arg8 (rest5 (st X mask i (8 * (i 1).val + 5))))
      (held t R X (st X mask i (8 * (i 1).val + 6))) (rest6 (st X mask i (8 * (i 1).val + 6))) := by
  have L := runs_last (U := U) (defs := defs) (𝒱 := 𝒱) (t := t) (bd := bd) (E := E) R X mask i 5
  have G := runs_more (U := U) (defs := defs) (𝒱 := 𝒱) (t := t) (bd := bd) (E := E) R X mask i 5
  rw [← held_before R X mask i 5 10 rfl, ← held_mix_all (σ := st X mask i (8 * (i 1).val + 5)) (σ' := st X mask i (8 * (i 1).val + 6))]
  unfold diag5 rest5 rest6
  exact .bind (L 10 (by decide) (by decide)) <| .bind (L 11 (by decide) (by decide)) <| .bind (G 12 (by decide) (by decide)) <|
    .bind (G 13 (by decide) (by decide)) <| .bind (G 14 (by decide) (by decide)) <| .bind (G 15 (by decide) (by decide)) .ret

theorem runs_diag6 :
    Runs (U := U) defs 𝒱 t bd E (held t R X (st X mask i (8 * (i 1).val + 6)))
      (diag6 mask i R.arg2 R.arg3 R.arg4 R.arg5 R.arg7 R.arg8 (rest6 (st X mask i (8 * (i 1).val + 6))))
      (held t R X (st X mask i (8 * (i 1).val + 7))) (rest7 (st X mask i (8 * (i 1).val + 7))) := by
  have L := runs_last (U := U) (defs := defs) (𝒱 := 𝒱) (t := t) (bd := bd) (E := E) R X mask i 6
  have G := runs_more (U := U) (defs := defs) (𝒱 := 𝒱) (t := t) (bd := bd) (E := E) R X mask i 6
  rw [← held_before R X mask i 6 12 rfl, ← held_mix_all (σ := st X mask i (8 * (i 1).val + 6)) (σ' := st X mask i (8 * (i 1).val + 7))]
  unfold diag6 rest6 rest7
  exact .bind (L 12 (by decide) (by decide)) <| .bind (L 13 (by decide) (by decide)) <| .bind (G 14 (by decide) (by decide)) <|
    .bind (G 15 (by decide) (by decide)) .ret

theorem runs_diag7 :
    Runs (U := U) defs 𝒱 t bd E (held t R X (st X mask i (8 * (i 1).val + 7)))
      (diag7 mask i R.arg2 R.arg3 R.arg4 R.arg5 R.arg7 R.arg8 (rest7 (st X mask i (8 * (i 1).val + 7))))
      (held t R X (st X mask i (8 * (i 1).val + 8))) ⟨⟩ := by
  have L := runs_last (U := U) (defs := defs) (𝒱 := 𝒱) (t := t) (bd := bd) (E := E) R X mask i 7
  rw [← held_before R X mask i 7 14 rfl, ← held_mix_all (σ := st X mask i (8 * (i 1).val + 7)) (σ' := st X mask i (8 * (i 1).val + 8))]
  unfold diag7 rest7
  exact .bind (L 14 (by decide) (by decide)) <| .bind (L 15 (by decide) (by decide)) .ret

end Diagonal

end Cert.KernelIdeal.Sweep

end
-- ==== Proof.Sweep.Whole.lean ====
/- The whole body of a grid point: from the four arrays, whatever the scratch buffers and the output block held, the output
   block ends at `outBlock` and the arrays are as they were. -/
module

public import proofs.«01_k».proof.Proof.Sweep.Diagonal

@[expose] public section

noncomputable section

namespace Cert.KernelIdeal.Sweep

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Facts₀ Facts Cert.Sweep

variable {F : FTy → Type} [FloatOps F]
variable {U : Type} [URA U] [Facts]
variable {defs : Defs nD τ sig (Elt F) Λ₀} {𝒱 : Variants} {t : Dev nD} {bd : Option 𝒱.V} {E : Set ℕ}

/-- What a piece of the body does not touch stays. -/
theorem Runs.frame {α : Type} {A B Z : sProp (MT nD τ sig Unit (Elt F) ℕ U ℕ)} {p : P F α} {v : α}
    (h : Runs defs 𝒱 t bd E A p B v) : Runs defs 𝒱 t bd E iprop(A ∗ Z) p iprop(B ∗ Z) v := by
  intro Q
  iintro ⟨HA, HZ⟩ HQ
  iapply (h Q) $$ HA
  iintro HB
  iapply HQ
  isplitl [HB]
  · iexact HB
  iexact HZ

theorem emb_zero2 {a b : ℕ} (hab : ∀ x, (![0, 0] : Fin 2 → ℕ) x + (![a, b] : Fin 2 → ℕ) x ≤ (![a, b] : Fin 2 → ℕ) x)
    (x : (Shape.mk 2 ![a, b]).Idx) : (Rect.unit (s := Shape.mk 2 ![a, b]) ![0, 0] ![a, b] hab).emb x = x := by
  funext d
  match d with
  | ⟨0, _⟩ => exact Fin.ext (by simp [Rect.emb_apply])
  | ⟨1, _⟩ => exact Fin.ext (by simp [Rect.emb_apply])

variable (R : Refs) (X : Arrays F) (mask : F .f32) (i : grid0.Coords)

/-- The strips before their start: the score buffer as it was found, the accumulator zeroed. -/
def raw (d : Vec F S512x4096 .f32) (c : ℕ) : Strip F where
  m := broadcast S1x256 mask
  b := broadcast S1x256 mask
  s := cutS d c
  a := fun _ => Scalar.ofBits (F := F) .f32 0x00000000#32

/-- The scores of block 0. -/
theorem runs_start (d : Vec F S512x4096 .f32) :
    Runs (U := U) defs 𝒱 t bd E (held t R X (raw mask d)) (start mask R.arg3 R.arg4 R.arg7)
      (held t R X (st X mask i (8 * 0))) (tup (st X mask i (8 * 0))) := by
  have e : st X mask i (8 * 0) = fun c => Strip.init mask X c := by
    funext c; unfold st stateAt; rw [if_pos (Nat.zero_le _)]; rfl
  rw [e]
  have G := fun c (hc : c < 16) Q => wp_scoresAt (U := U) (defs := defs) (𝒱 := 𝒱) (t := t) (bd := bd) (E := E) R X (σ := raw mask d)
    (σ' := fun c => Strip.init mask X c) (oK := ![0, 0, 0, 0]) rfl inb_S1x32x512x256_S1x1x512x256_0_0_0_0 c hc
    (by simp only [Strip.init]) (by simp only [Strip.init]) (by simp only [Strip.init, raw]) rfl (inbS c hc) (inbA c hc) rfl (inbQ c hc) (Q := Q)
  rw [← held_mix_zero (σ := raw mask d) (σ' := fun c => Strip.init mask X c),
    ← held_mix_all (σ := raw mask d) (σ' := fun c => Strip.init mask X c)]
  unfold start tup
  exact .bind (G 0 (by decide)) <| .bind (G 1 (by decide)) <| .bind (G 2 (by decide)) <| .bind (G 3 (by decide)) <|
    .bind (G 4 (by decide)) <| .bind (G 5 (by decide)) <| .bind (G 6 (by decide)) <| .bind (G 7 (by decide)) <|
    .bind (G 8 (by decide)) <| .bind (G 9 (by decide)) <| .bind (G 10 (by decide)) <| .bind (G 11 (by decide)) <|
    .bind (G 12 (by decide)) <| .bind (G 13 (by decide)) <| .bind (G 14 (by decide)) <| .bind (G 15 (by decide)) .ret

/-- The accumulator zeroed. -/
theorem runs_clear (d7 : Vec F S512x4096 .f32) (d8 : Vec F S144x4096 .f32) :
    Runs (U := U) defs 𝒱 t bd E
      iprop(owns (t : Thread nD τ) R.arg2 fullShare X.r ∗ owns (t : Thread nD τ) R.arg3 fullShare X.q
        ∗ owns (t : Thread nD τ) R.arg4 fullShare X.k ∗ owns (t : Thread nD τ) R.arg5 fullShare X.v
        ∗ owns (t : Thread nD τ) R.arg7 fullShare d7 ∗ owns (t : Thread nD τ) R.arg8 fullShare d8)
      (clear R.arg8) (held t R X (raw mask d7)) ⟨⟩ := by
  intro Q
  unfold held clear
  have e7 : glueS (fun c => (raw mask d7 c).s) = d7 := glueS_cut d7
  rw [e7]
  iintro ⟨H2, H3, H4, H5, H7, H8⟩ HQ
  iapply (wp_load_owns 𝒱 t bd E) $$ H8
  iintro H8
  iapply (wp_store_owns 𝒱 t bd E (Y := glueA fun c => (raw mask d7 c).a) (fun x => rfl) (fun y hy => (hy (Rect.mem_set_unit.mpr fun a => by
    match a with
    | ⟨0, _⟩ => exact ⟨Nat.zero_le _, (Nat.zero_add _).symm ▸ (y 0).isLt⟩
    | ⟨1, _⟩ => exact ⟨Nat.zero_le _, (Nat.zero_add _).symm ▸ (y 1).isLt⟩)).elim)) $$ H8
  iintro H8
  iapply (le_wp_ret _ _ _ _ _)
  iapply HQ
  isplitl [H2]; · iexact H2
  isplitl [H3]; · iexact H3
  isplitl [H4]; · iexact H4
  isplitl [H5]; · iexact H5
  isplitl [H7]; · iexact H7
  iexact H8

/-- The quotient. -/
theorem runs_finish (arg6 : Memref sig .tc .vmem S4096x128 .bf16) (harg6 : arg6.IsWhole) (σ : ℕ → Strip F) (d6 : Vec F S4096x128 .bf16) :
    Runs (U := U) defs 𝒱 t bd E iprop(held t R X σ ∗ owns (t : Thread nD τ) arg6 fullShare d6) (finish arg6 harg6 R.arg8)
      iprop(held t R X σ ∗ owns (t : Thread nD τ) arg6 fullShare (quotient (glueA fun c => (σ c).a))) ⟨⟩ := by
  intro Q
  unfold held finish
  iintro ⟨⟨H2, H3, H4, H5, H7, H8⟩, H6⟩ HQ
  iapply (wp_load_owns 𝒱 t bd E) $$ H8
  iintro H8
  iapply (wp_load_owns 𝒱 t bd E) $$ H8
  iintro H8
  iapply (wp_load_owns 𝒱 t bd E) $$ H6
  iintro H6
  iapply (wp_store_owns 𝒱 t bd E (Y := quotient (glueA fun c => (σ c).a)) (fun x => by
    rw [show (Rect.unit (s := S4096x128) ![0, 0] S4096x128.size inb_S4096x128_S4096x128_0_0).emb x = x from emb_zero2 _ x]; rfl)
    (fun y hy => (hy (Rect.mem_set_unit.mpr fun a => by
    match a with
    | ⟨0, _⟩ => exact ⟨Nat.zero_le _, (Nat.zero_add _).symm ▸ (y 0).isLt⟩
    | ⟨1, _⟩ => exact ⟨Nat.zero_le _, (Nat.zero_add _).symm ▸ (y 1).isLt⟩)).elim)) $$ H6
  iintro H6
  iapply (le_wp_ret _ _ _ _ _)
  iapply HQ
  isplitr [H6]
  · isplitl [H2]; · iexact H2
    isplitl [H3]; · iexact H3
    isplitl [H4]; · iexact H4
    isplitl [H5]; · iexact H5
    isplitl [H7]; · iexact H7
    iexact H8
  iexact H6

/-- The loop over the full blocks. -/
theorem runs_loop :
    Runs (U := U) defs 𝒱 t bd E (held t R X (st X mask i (8 * 0)))
      ((k0_t1_loop i).for (k0_t1_ok i) (tup (st X mask i (8 * 0))) fun k s => trip1 i R.arg2 R.arg3 R.arg4 R.arg5 R.arg7 R.arg8 k s)
      (held t R X (st X mask i (8 * (i 1).val + 0))) (tup (st X mask i (8 * (i 1).val + 0))) := by
  have h := Runs.loop (U := U) (defs := defs) (𝒱 := 𝒱) (t := t) (bd := bd) (E := E) (k0_t1_loop i) (k0_t1_ok i)
    (fun n => held t R X (st X mask i (8 * n))) (fun n => tup (st X mask i (8 * n)))
    (body := fun k s => trip1 i R.arg2 R.arg3 R.arg4 R.arg5 R.arg7 R.arg8 k s) (fun k => runs_trip R X mask i k)
  rw [show 8 * (i 1).val + 0 = 8 * (k0_t1_loop i).trips from by rw [trips_eq i, Nat.add_zero]]
  exact h

/-- The loop that makes no trip. -/
theorem runs_none (A : sProp (MT nD τ sig Unit (Elt F) ℕ U ℕ)) (v : Carry F) :
    Runs (U := U) defs 𝒱 t bd E A
      ((k0_t2_loop i).for (k0_t2_ok i) v fun k s => trip2 i R.arg2 R.arg3 R.arg4 R.arg5 R.arg7 R.arg8 k s) A v :=
  Runs.loop (k0_t2_loop i) (k0_t2_ok i) (fun _ => A) (fun _ => v) fun k =>
    absurd k.isLt (Nat.not_lt.mpr ((Gen.k0_t2_abs i).2.1.trans (Nat.zero_le _)))

theorem runs_body (arg6 : Memref sig .tc .vmem S4096x128 .bf16) (harg6 : arg6.IsWhole)
    (d6 : Vec F S4096x128 .bf16) (d7 : Vec F S512x4096 .f32) (d8 : Vec F S144x4096 .f32) :
    Runs (U := U) defs 𝒱 t bd E
      iprop((owns (t : Thread nD τ) R.arg2 fullShare X.r ∗ owns (t : Thread nD τ) R.arg3 fullShare X.q
        ∗ owns (t : Thread nD τ) R.arg4 fullShare X.k ∗ owns (t : Thread nD τ) R.arg5 fullShare X.v
        ∗ owns (t : Thread nD τ) R.arg7 fullShare d7 ∗ owns (t : Thread nD τ) R.arg8 fullShare d8)
        ∗ owns (t : Thread nD τ) arg6 fullShare d6)
      (body mask i R.arg2 R.arg3 R.arg4 R.arg5 arg6 harg6 R.arg7 R.arg8)
      iprop(held t R X (st X mask i (8 * (i 1).val + 8)) ∗ owns (t : Thread nD τ) arg6 fullShare (outBlock mask (i 0) X (i 1).val)) ⟨⟩ := by
  unfold body
  exact .bind (runs_clear R X mask d7 d8).frame <| .bind (runs_start R X mask i d7).frame <|
    .bind (runs_loop R X mask i).frame <| .bind (runs_none R i _ (tup (st X mask i (8 * (i 1).val + 0)))).frame <|
    .bind (runs_diag0 R X mask i).frame <| .bind (runs_diag1 R X mask i).frame <| .bind (runs_diag2 R X mask i).frame <|
    .bind (runs_diag3 R X mask i).frame <| .bind (runs_diag4 R X mask i).frame <| .bind (runs_diag5 R X mask i).frame <|
    .bind (runs_diag6 R X mask i).frame <| .bind (runs_diag7 R X mask i).frame <|
    runs_finish R X arg6 harg6 (st X mask i (8 * (i 1).val + 8)) d6

end Cert.KernelIdeal.Sweep

end
-- ==== Proof.Sweep.Equal.lean ====
/- The idealized call's body is the one of Body.lean, put together step by step. -/
module

public import proofs.«01_k».proof.Proof.Sweep.Body
public import Idealize.ShloMosaic.Lib.Tactic.ProgEq

@[expose] public section

noncomputable section

open Idealize.ShloMosaic Idealize.SL.Sem
open scoped Idealize.ShloMosaic.ProgEq

set_option maxHeartbeats 0
set_option maxRecDepth 100000

namespace Cert.KernelIdeal.Sweep

prog_eq body_eq : Cert.KernelIdeal.cc0_flash Cert.KernelIdeal.Sweep.bodyNamed from Cert.KernelIdeal to Cert.KernelIdeal at Ideal inferInstance by rfl

end Cert.KernelIdeal.Sweep

end
-- ==== Proof.Launch.Ideal.lean ====
/- The launch of the call's ideal form: the pipeline's data, with the output block of each grid point at what the body leaves
   there, the body at a grid point, the run, the frame. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Sweep.Whole
public import proofs.«01_k».proof.Proof.Sweep.Equal
public import Idealize.ShloMosaic.Lib.Pipeline.FrameBody
public import Idealize.ShloMosaic.Lib.Ring
public import Idealize.ShloMosaic.Lib.Claim

@[expose] public section

set_option maxRecDepth 16384

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ) (ρ : Dev nD → PrngReg)

/-! ## The launch up to the region -/

/-- The buffers when the region is entered: as launched. -/
abbrev V (c : Dev nD) (b : Ref sig .tc) : Buf (Elt Ideal) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := Ideal)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-! ## The windows' staging memrefs and the scratch buffers -/

abbrev ms0 (t : Fin cfg0.N) : Memref sig .tc .smem S8x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x4096 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32x144x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x128 .bf16 := win0_4.stage (cfg0.slots t 4)
abbrev hs4 (t : Fin cfg0.N) : (ms4 t).IsWhole := hstage0_4 ((cfg0.slots t 4).cast nbuf0_4)
abbrev sc0 : Memref sig .tc .vmem S512x4096 .f32 := Memref.whole cc0_scratch0
abbrev sc1 : Memref sig .tc .vmem S144x4096 .f32 := Memref.whole cc0_scratch1

theorem inv_eq (c : Dev nD) :
    (Pipeline.ΦA spec0 c : sProp (MT nD τ sig Unit (Elt Ideal) ℕ (UR sig nD τ) ℕ))
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## What the call leaves -/

/-- The arrays of a grid point. -/
def arrays (c : Dev nD) (t : Fin cfg0.N) : KernelIdeal.Sweep.Arrays Ideal where
  r := iblk m c 0 t
  q := iblk m c 1 t
  k := iblk m c 2 t
  v := iblk m c 3 t

/-- The output block after point `t`. -/
def outAt (c : Dev nD) (t : Fin cfg0.N) : Vec Ideal S4096x128 .bf16 :=
  KernelIdeal.Sweep.outBlock (Named.named (F := Ideal) κ "mask" 0xF149F2CA#32) (grid0.coords t 0) (arrays m c t) (grid0.coords t 1).val

/-- The pipeline's data: each input's buffer at its block, the output's at `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]

theorem after_4 (c : Dev nD) (t : Fin cfg0.N) : (dats m 0 c).after 4 t = outAt m c t := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body at a grid point -/

def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, inv_eq]
  iintro ⟨⟨⟨⟨%d7, H7⟩, ⟨%d8, H8⟩⟩, Hg⟩, Ho, ⟨%d0, H2⟩, ⟨%d1, H3⟩, ⟨%d2, H4⟩, ⟨%d3, H5⟩, ⟨%d6, H6⟩⟩
  rw [body_eq _ _ _ _ _ _ _ _ _ _ _ _ _ _ _ KernelIdeal.Gen.facts]
  unfold KernelIdeal.Sweep.bodyNamed
  iapply (KernelIdeal.Sweep.runs_body (F := Ideal) (U := UR sig nD τ) (defs := defs₀ (F := Ideal)) (𝒱 := Variants.none) (t := c) (bd := none)
    (E := Set.univ) ⟨ms0 t, ms1 t, ms2 t, ms3 t, sc0, sc1⟩ (arrays m c t) (Named.named (F := Ideal) κ "mask" 0xF149F2CA#32) (grid0.coords t) (ms4 t) (hs4 t)
    ((dats m 0 c).before 4 t d6) d7 d8 _) $$ [H2 H3 H4 H5 H6 H7 H8]
  · isplitr [H6]
    · isplitl [H2]; · iexact H2
      isplitl [H3]; · iexact H3
      isplitl [H4]; · iexact H4
      isplitl [H5]; · iexact H5
      isplitl [H7]; · iexact H7
      iexact H8
    iexact H6
  unfold KernelIdeal.Sweep.held
  iintro ⟨⟨H2, H3, H4, H5, H7, H8⟩, H6⟩
  isplitl [H7 H8 Hg]
  · isplitl [H7 H8]
    · isplitl [H7]
      · iexists _; iexact H7
      iexists _; iexact H8
    iexact Hg
  isplitl [Ho]; · iexact Ho
  isplitl [H2]; · iexact H2
  isplitl [H3]; · iexact H3
  isplitl [H4]; · iexact H4
  isplitl [H5]; · iexact H5
  iexact H6

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent :
    θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends, the arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).1 0).trans (((dats m 0 c).arrAt_in 0 rfl _).trans ((A_eq m c 0).trans rfl)),
      ((h.1 c).1 1).trans (((dats m 0 c).arrAt_in 1 rfl _).trans ((A_eq m c 1).trans rfl)),
      ((h.1 c).1 2).trans (((dats m 0 c).arrAt_in 2 rfl _).trans ((A_eq m c 2).trans rfl)),
      ((h.1 c).1 3).trans (((dats m 0 c).arrAt_in 3 rfl _).trans ((A_eq m c 3).trans rfl))⟩, h.2⟩)
    (run_main_quiescent m ρ)

end Cert.KernelIdeal.Attend

end
-- ==== Proof.Sweep.EqualWord.lean ====
/- The call's body at the machine's words is the one of Body.lean, put together step by step. -/
module

public import proofs.«01_k».proof.Kernel
public import proofs.«01_k».proof.Proof.Sweep.Body
public import Idealize.ShloMosaic.PureOps.BitExact
public import Idealize.ShloMosaic.Lib.Tactic.ProgEq

@[expose] public section

noncomputable section

open Idealize.ShloMosaic Idealize.SL.Sem
open scoped Idealize.ShloMosaic.ProgEq

set_option maxHeartbeats 0
set_option maxRecDepth 100000

namespace Cert.KernelIdeal.Sweep

prog_eq word_eq : Cert.Kernel.cc0_flash Cert.KernelIdeal.Sweep.bodyWord from Cert.Kernel to Cert.KernelIdeal at Bits inferInstance by rfl

end Cert.KernelIdeal.Sweep

end
-- ==== Proof.Launch.Word.lean ====
/- The launch of the call as it is: the pipeline's data, with the output block of each grid point at what the body leaves
   there, the body at a grid point, the run, the frame. -/
module

public import proofs.«01_k».proof.Proof.Gen.Kernel.Launch
public import proofs.«01_k».proof.Proof.Gen.Kernel.Skeleton
public import proofs.«01_k».proof.Proof.Gen.Kernel.Points
public import proofs.«01_k».proof.Proof.Sweep.Whole
public import proofs.«01_k».proof.Proof.Sweep.EqualWord
public import proofs.«01_k».proof.Proof.Gen.KernelIdeal
public import Idealize.ShloMosaic.Lib.Pipeline.FrameBody
public import Idealize.ShloMosaic.Lib.Ring
public import Idealize.ShloMosaic.Lib.Claim

@[expose] public section

set_option maxRecDepth 16384

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable (m : (ℓ : Loc nD τ sig) → Buf (Elt Bits) ℓ) (ρ : Dev nD → PrngReg)

/-! ## The launch up to the region -/

/-- The buffers when the region is entered: as launched. -/
abbrev V (c : Dev nD) (b : Ref sig .tc) : Buf (Elt Bits) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := Bits)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt Bits (cfg0.win w).elt :=
  ((cfg0.win w).blk t).view.read (Elt Bits) (V m c (Pipeline.arrRef spec0 w))

/-! ## The windows' staging memrefs and the scratch buffers -/

abbrev ms0 (t : Fin cfg0.N) : Memref sig .tc .smem S8x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x4096 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32x144x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x128 .bf16 := win0_4.stage (cfg0.slots t 4)
abbrev hs4 (t : Fin cfg0.N) : (ms4 t).IsWhole := hstage0_4 ((cfg0.slots t 4).cast nbuf0_4)
abbrev sc0 : Memref sig .tc .vmem S512x4096 .f32 := Memref.whole cc0_scratch0
abbrev sc1 : Memref sig .tc .vmem S144x4096 .f32 := Memref.whole cc0_scratch1

theorem inv_eq (c : Dev nD) :
    (Pipeline.ΦA spec0 c : sProp (MT nD τ sig Unit (Elt Bits) ℕ (UR sig nD τ) ℕ))
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## What the call leaves -/

/-- The arrays of a grid point. -/
def arrays (c : Dev nD) (t : Fin cfg0.N) : KernelIdeal.Sweep.Arrays Bits where
  r := iblk m c 0 t
  q := iblk m c 1 t
  k := iblk m c 2 t
  v := iblk m c 3 t

/-- The output block after point `t`. -/
def outAt (c : Dev nD) (t : Fin cfg0.N) : Vec Bits S4096x128 .bf16 :=
  KernelIdeal.Sweep.outBlock (Scalar.ofBits (F := Bits) .f32 0xF149F2CA#32) (grid0.coords t 0) (arrays m c t) (grid0.coords t 1).val

/-- The pipeline's data: each input's buffer at its block, the output's at `outAt`. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]

theorem after_4 (c : Dev nD) (t : Fin cfg0.N) : (dats m 0 c).after 4 t = outAt m c t := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body at a grid point -/

def bodyPre (c : Dev nD) (t : Fin cfg0.N) : sProp (MT nD τ sig Unit (Elt Bits) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp (MT nD τ sig Unit (Elt Bits) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 4000000 in
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, inv_eq]
  iintro ⟨⟨⟨⟨%d7, H7⟩, ⟨%d8, H8⟩⟩, Hg⟩, Ho, ⟨%d0, H2⟩, ⟨%d1, H3⟩, ⟨%d2, H4⟩, ⟨%d3, H5⟩, ⟨%d6, H6⟩⟩
  rw [word_eq _ _ _ _ _ _ _ _ _ _ _ _ _ _ _ KernelIdeal.Gen.facts]
  unfold KernelIdeal.Sweep.bodyWord
  iapply (KernelIdeal.Sweep.runs_body (F := Bits) (U := UR sig nD τ) (defs := defs₀ (F := Bits)) (𝒱 := Variants.none) (t := c) (bd := none)
    (E := Set.univ) ⟨ms0 t, ms1 t, ms2 t, ms3 t, sc0, sc1⟩ (arrays m c t) (Scalar.ofBits (F := Bits) .f32 0xF149F2CA#32) (grid0.coords t) (ms4 t) (hs4 t)
    ((dats m 0 c).before 4 t d6) d7 d8 _) $$ [H2 H3 H4 H5 H6 H7 H8]
  · isplitr [H6]
    · isplitl [H2]; · iexact H2
      isplitl [H3]; · iexact H3
      isplitl [H4]; · iexact H4
      isplitl [H5]; · iexact H5
      isplitl [H7]; · iexact H7
      iexact H8
    iexact H6
  unfold KernelIdeal.Sweep.held
  iintro ⟨⟨H2, H3, H4, H5, H7, H8⟩, H6⟩
  isplitl [H7 H8 Hg]
  · isplitl [H7 H8]
    · isplitl [H7]
      · iexists _; iexact H7
      iexists _; iexact H8
    iexact Hg
  isplitl [Ho]; · iexact Ho
  isplitl [H2]; · iexact H2
  isplitl [H3]; · iexact H3
  isplitl [H4]; · iexact H4
  isplitl [H5]; · iexact H5
  iexact H6

theorem defs₀_row (t : Fin cfg0.N) : defs₀ (F := Bits) .tc cfg0.body (cfg0.bodyArgs t (cfg0.slots t)) = bodyAt0 t := by
  unfold defs₀; rw [Defs.onTc_tc]

theorem body_obligation (c : Dev nD) : BodyObligation (dats m 0 c) (defs₀ (F := Bits)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent :
    θ_run defs (onTc (τ := τ) (main (F := Bits))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends, the arguments as they were and every counter at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).1 0).trans (((dats m 0 c).arrAt_in 0 rfl _).trans ((A_eq m c 0).trans rfl)),
      ((h.1 c).1 1).trans (((dats m 0 c).arrAt_in 1 rfl _).trans ((A_eq m c 1).trans rfl)),
      ((h.1 c).1 2).trans (((dats m 0 c).arrAt_in 2 rfl _).trans ((A_eq m c 2).trans rfl)),
      ((h.1 c).1 3).trans (((dats m 0 c).arrAt_in 3 rfl _).trans ((A_eq m c 3).trans rfl))⟩, h.2⟩)
    (run_main_quiescent m ρ)

end Cert.Kernel.Attend

end
-- ==== Proof.Value.Soft.lean ====
/- The mean of values weighted by powers of two, and the running form of it: a maximum and a sum, taken block by block. The
   running form need only know that its maximum is a number: the weighted mean does not depend on which. -/
module

public import Idealize.ShloMosaic.PureOps.Ideal

@[expose] public section

noncomputable section

namespace Cert.Soft

open Idealize.ShloMosaic

/-- The mean of `v` over the first `n` places, place `j` weighing `2 ^ l j`. -/
def soft (n : ℕ) (l v : ℕ → ℝ) : ℝ :=
  (∑ j ∈ Finset.range n, v j * Real.rpow 2 (l j)) / ∑ j ∈ Finset.range n, Real.rpow 2 (l j)

/-- What a running sum holds when its maximum is `M`. -/
def part (n : ℕ) (l v : ℕ → ℝ) (M : ℝ) : ℝ := ∑ j ∈ Finset.range n, v j * Real.rpow 2 (l j - M)

theorem rpow_shift (a b : ℝ) : Real.rpow 2 (a - b) = Real.rpow 2 a * Real.rpow 2 (-b) := by
  rw [sub_eq_add_neg]; exact Real.rpow_add (by norm_num) a (-b)

theorem rpow_pos' (a : ℝ) : 0 < Real.rpow 2 a := Real.rpow_pos_of_pos (by norm_num) a

theorem part_eq (n : ℕ) (l v : ℕ → ℝ) (M : ℝ) :
    part n l v M = (∑ j ∈ Finset.range n, v j * Real.rpow 2 (l j)) * Real.rpow 2 (-M) := by
  unfold part; rw [Finset.sum_mul]
  exact Finset.sum_congr rfl fun j _ => by rw [rpow_shift, mul_assoc]

theorem part_rescale (n : ℕ) (l v : ℕ → ℝ) (M M' : ℝ) :
    Real.rpow 2 (M - M') * part n l v M = part n l v M' := by
  unfold part; rw [Finset.mul_sum]
  refine Finset.sum_congr rfl fun j _ => ?_
  have : Real.rpow 2 (l j - M') = Real.rpow 2 (M - M') * Real.rpow 2 (l j - M) := by
    rw [show l j - M' = (M - M') + (l j - M) by ring]; exact Real.rpow_add (by norm_num) _ _
  rw [this]; ring

theorem part_add (n k : ℕ) (l v : ℕ → ℝ) (M : ℝ) :
    part (n + k) l v M = part n l v M + ∑ i ∈ Finset.range k, v (n + i) * Real.rpow 2 (l (n + i) - M) := by
  unfold part; exact Finset.sum_range_add _ _ _

theorem part_one_pos {n : ℕ} (hn : 0 < n) (l : ℕ → ℝ) (M : ℝ) : 0 < part n l (fun _ => 1) M := by
  unfold part
  exact Finset.sum_pos (fun j _ => by rw [one_mul]; exact rpow_pos' _) ⟨0, Finset.mem_range.2 hn⟩

/-- The quotient of two running sums is the weighted mean, whatever the maximum. -/
theorem part_div {n : ℕ} (l v : ℕ → ℝ) (M : ℝ) :
    part n l v M / part n l (fun _ => 1) M = soft n l v := by
  rw [part_eq, part_eq, soft, mul_div_mul_right _ _ (rpow_pos' (-M)).ne']
  simp only [one_mul]

/-! ## Over the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `w` places of which only the first `k` count. -/
theorem sum_first (w k : ℕ) (hk : k ≤ w) (f : ℕ → ℝ) :
    ∑ i : Fin w, (if i.val < k then f i.val else 0) = ∑ i ∈ Finset.range k, f i := by
  rw [Finset.sum_fin_eq_sum_range]
  rw [← Finset.sum_subset (Finset.range_subset_range.2 hk) (fun i hi hk' => ?_)]
  · refine Finset.sum_congr rfl fun i hi => ?_
    rw [Finset.mem_range] at hi
    rw [dif_pos (by omega), if_pos hi]
  · rw [Finset.mem_range] at hi hk'
    rw [dif_pos hi, if_neg hk']

/-- The maximum of `w` numbers, of which the first is there and the absent ones are `-∞`, is a number. -/
theorem fold_max_real {w k : ℕ} (hw : 0 < w) (hk : 0 < k) (f : Fin w → ℝ) (s : Fin w → EReal)
    (hs : ∀ i, s i = if i.val < k then (f i : EReal) else ⊥) :
    ∃ B : ℝ, Finset.univ.fold max ⊥ s = (B : EReal) := by
  have h1 : Finset.univ.fold max ⊥ s ≠ ⊤ := by
    refine ne_of_lt ?_
    rw [Finset.fold_max_lt]
    refine ⟨bot_lt_top, fun i _ => ?_⟩
    rw [hs]; split
    · exact EReal.coe_lt_top _
    · exact bot_lt_top
  have h2 : Finset.univ.fold max ⊥ s ≠ ⊥ := by
    refine ne_of_gt (lt_of_lt_of_le (EReal.bot_lt_coe (f ⟨0, hw⟩)) ?_)
    rw [Finset.le_fold_max]
    refine .inr ⟨⟨0, hw⟩, Finset.mem_univ _, ?_⟩
    rw [hs, if_pos hk]
  exact ⟨_, (EReal.coe_toReal h1 h2).symm⟩

/-- A running maximum and one row of the running sums after `n` places: nothing yet, or some number for the maximum. -/
def Holds (n : ℕ) (l v : ℕ → ℝ) (m a : EReal) : Prop :=
  (n = 0 ∧ m = ⊥ ∧ a = 0) ∨ ∃ M : ℝ, m = M ∧ a = (part n l v M : EReal)

theorem holds_start (l v : ℕ → ℝ) : Holds 0 l v ⊥ 0 := .inl ⟨rfl, rfl, rfl⟩

theorem term_eq (x y M r : ℝ) : (x : EReal) * Ideal.exp2 (((y + r : ℝ) : EReal) - ((M : EReal) + (r : EReal)))
    = ((x * Real.rpow 2 (y - M) : ℝ) : EReal) := by
  rw [← EReal.coe_add, ← EReal.coe_sub, Ideal.exp2_coe, ← EReal.coe_mul, show y + r - (M + r) = y - M by ring]

theorem term_bot (x M r : ℝ) : (x : EReal) * Ideal.exp2 (⊥ - ((M : EReal) + (r : EReal))) = ((0 : ℝ) : EReal) := by
  rw [EReal.bot_sub, Ideal.exp2_bot, mul_zero]; rfl

/-- A block of `w` places, the first `k` of which count, joins the running sums. -/
theorem holds_step {n w k : ℕ} (hw : 0 < w) (hk : 0 < k) (hkw : k ≤ w) {l v : ℕ → ℝ} {m a : EReal} (H : Holds n l v m a) (r : ℝ)
    (s x : Fin w → EReal) (hs : ∀ i, s i = if i.val < k then ((l (n + i.val) + r : ℝ) : EReal) else ⊥)
    (hx : ∀ i, x i = (v (n + i.val) : EReal)) (b : EReal) (hb : b = Finset.univ.fold max ⊥ s) :
    Holds (n + k) l v (max m (b - r))
      (Ideal.exp2 (m - max m (b - r)) * a + ∑ i, x i * Ideal.exp2 (s i - (max m (b - r) + r))) := by
  obtain ⟨B, hB⟩ := fold_max_real hw hk (fun i => l (n + i.val) + r) s hs
  have hM : ∃ M' : ℝ, max m (b - r) = (M' : EReal) := by
    rw [hb, hB, ← EReal.coe_sub]
    rcases H with ⟨_, rfl, _⟩ | ⟨M, rfl, _⟩
    · exact ⟨_, max_eq_right bot_le⟩
    · exact ⟨max M (B - r), (EReal.coe_strictMono.monotone.map_max).symm⟩
  obtain ⟨M', hM'⟩ := hM
  rw [hM']
  refine .inr ⟨M', rfl, ?_⟩
  have hsum : ∑ i, x i * Ideal.exp2 (s i - ((M' : EReal) + r))
      = ((∑ i ∈ Finset.range k, v (n + i) * Real.rpow 2 (l (n + i) - M') : ℝ) : EReal) := by
    rw [← sum_first w k hkw fun i => v (n + i) * Real.rpow 2 (l (n + i) - M'), coe_sum]
    refine Finset.sum_congr rfl fun i _ => ?_
    rw [hs, hx]; split
    · exact term_eq _ _ _ _
    · exact term_bot _ _ _
  rw [hsum, part_add, EReal.coe_add]
  congr 1
  rcases H with ⟨rfl, rfl, rfl⟩ | ⟨M, rfl, rfl⟩
  · rw [mul_zero]; unfold part; simp
  · rw [← EReal.coe_sub, Ideal.exp2_coe, ← EReal.coe_mul, part_rescale]

/-- At the end: a row of sums, by the sum of the weights, is the weighted mean. -/
theorem holds_finish {n : ℕ} (hn : 0 < n) {l v : ℕ → ℝ} {m a s : EReal} (Ha : Holds n l v m a)
    (Hs : Holds n l (fun _ => 1) m s) : a * Ideal.div 1 s = (soft n l v : EReal) := by
  rcases Ha with ⟨h, _⟩ | ⟨M, rfl, rfl⟩
  · omega
  rcases Hs with ⟨h, _⟩ | ⟨M', hM, rfl⟩
  · omega
  obtain rfl : M = M' := EReal.coe_injective hM
  rw [Ideal.div_coe (part_one_pos hn l M).ne', one_mul, ← EReal.coe_mul, mul_one_div, part_div]

/-- The softmax of a whole row of `w` logits, of which the first `n` are there, weighting `v`. -/
theorem row_soft {w n : ℕ} (hw : 0 < w) (hn : 0 < n) (hnw : n ≤ w) (l v : ℕ → ℝ) (s x : Fin w → EReal)
    (hs : ∀ i, s i = if i.val < n then (l i.val : EReal) else ⊥) (hx : ∀ i, x i = (v i.val : EReal)) :
    ∑ i, Ideal.div (Ideal.pow 2 (s i - Finset.univ.fold max ⊥ s)) (∑ k, Ideal.pow 2 (s k - Finset.univ.fold max ⊥ s)) * x i
      = (soft n l v : EReal) := by
  obtain ⟨M, hM⟩ := fold_max_real hw hn (fun i => l i.val) s hs
  rw [hM]
  have he : ∀ i, Ideal.pow 2 (s i - (M : EReal)) = ((if i.val < n then Real.rpow 2 (l i.val - M) else 0 : ℝ) : EReal) := by
    intro i
    rw [hs, show (2 : EReal) = ((2 : ℝ) : EReal) from rfl]; split
    · rw [← EReal.coe_sub, Ideal.pow_coe_coe]
    · rw [EReal.bot_sub, Ideal.pow_coe_bot, if_neg (by norm_num), if_pos (by norm_num)]; rfl
  have hsum : ∑ k, Ideal.pow 2 (s k - (M : EReal)) = (part n l (fun _ => 1) M : EReal) := by
    rw [part, Finset.sum_congr rfl fun i _ => he i, ← coe_sum, sum_first w n hnw fun i => Real.rpow 2 (l i - M)]
    simp only [one_mul]
  rw [hsum, ← part_div l v M]
  conv_rhs => rw [part.eq_1 n l v M, Finset.sum_div]
  rw [← sum_first w n hnw fun i => v i * Real.rpow 2 (l i - M) / part n l (fun _ => 1) M, coe_sum]
  refine Finset.sum_congr rfl fun i _ => ?_
  rw [he, hx, Ideal.div_coe (part_one_pos hn l M).ne', ← EReal.coe_mul, ← EReal.coe_mul]
  split
  · congr 1; ring
  · congr 1; ring

end Cert.Soft

end
-- ==== Proof.Value.Words.lean ====
/- The words the two programs spell numbers by, and the choice by a signed comparison. -/
module

public import Idealize.ShloMosaic.Lib.Pointwise

@[expose] public section

noncomputable section

namespace Cert.Soft

open Idealize.ShloMosaic

theorem neg_inf : Ideal.ofBits .f32 0xFF800000#32 = ⊥ := by simp [Ideal.ofBits, Ideal.ieee]

theorem two : Ideal.ofBits .f32 0x40000000#32 = 2 := by
  simp [Ideal.ofBits, Ideal.ieee, -EReal.coe_mul]; norm_num; rfl

theorem pick_sle {α : Type} (k q : BitVec 32) (a b : α) :
    Scalar.select (IntOp.cmpi .sle k q) a b = if k.sle q then a else b := by
  show (if BitVec.ofBool (k.sle q) = 1#1 then a else b) = _
  cases k.sle q <;> rfl

/-- Small naturals compare as their words do. -/
theorem sle_ofNat {a b : ℕ} (ha : a < 2 ^ 31) (hb : b < 2 ^ 31) :
    (BitVec.ofNat 32 a).sle (BitVec.ofNat 32 b) = true ↔ a ≤ b := by
  rw [BitVec.sle_iff_toInt_le,
    BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  omega

end Cert.Soft

end
-- ==== Proof.Value.Entry.lean ====
/- The steps of a strip entry by entry, over the extended reals. -/
module

public import proofs.«01_k».proof.Proof.Sweep.Values
public import proofs.«01_k».proof.Proof.Value.Soft
public import proofs.«01_k».proof.Proof.Value.Words

@[expose] public section

set_option maxRecDepth 16384

noncomputable section

namespace Cert.KernelIdeal.Sweep

open Idealize.ShloMosaic Idealize.SL.Sem
open Facts₀ Facts
open Cert.Soft

variable [Facts]

theorem scoreV_apply (k : Vec Ideal S1x1x512x256 .bf16) (q : Vec Ideal S1x256x256 .bf16) (i : Fin 512) (x : Fin 256) :
    scoreV k q (ix2 i x) = ∑ d : Fin 256, (k (ix4 0 0 i d) * q (ix3 0 d x) : EReal) := by
  unfold scoreV
  pointwise

theorem maxV_apply (s : Vec Ideal S512x256 .f32) (x : Fin 256) :
    maxV s (ix2 0 x) = Finset.univ.fold max ⊥ fun i : Fin 512 => (s (ix2 i x) : EReal) := by
  unfold maxV
  pointwise
  rw [neg_inf]

theorem attendM_apply (m b : FVec Ideal S1x256 .f32) (r : Elt Ideal .f32) (x : Fin 256) :
    attendM m b r (ix2 0 x) = max (m (ix2 0 x) : EReal) (b (ix2 0 x) - r) := by
  unfold attendM
  pointwise

theorem attendA_apply (m b : FVec Ideal S1x256 .f32) (r : Elt Ideal .f32) (s : Vec Ideal S512x256 .f32)
    (v : Vec Ideal S1x1x144x512 .bf16) (a : Vec Ideal S144x256 .f32) (y : Fin 144) (x : Fin 256) :
    attendA m b r s v a (ix2 y x) = (Ideal.exp2 (m (ix2 0 x) - max (m (ix2 0 x) : EReal) (b (ix2 0 x) - r)) * a (ix2 y x)
      + ∑ i : Fin 512, v (ix4 0 0 y i) * Ideal.exp2 (s (ix2 i x) - (max (m (ix2 0 x) : EReal) (b (ix2 0 x) - r) + r)) : EReal) := by
  unfold attendA
  pointwise
  rfl

theorem scoreAt_apply (X : Arrays Ideal) (c n : ℕ) (i : Fin 512) (x : Fin 256) :
    scoreAt X c n (ix2 i x) = scoreV (X.keys n) (X.queries c) (ix2 i x) := by
  unfold scoreAt
  pointwise

theorem edgeS_apply (mask : Ideal .f32) (key0 qry0 : BitVec 32) (s : Vec Ideal S512x256 .f32) (i : Fin 512) (x : Fin 256) :
    edgeS mask key0 qry0 s (ix2 i x)
      = if (key0 + BitVec.ofNat 32 i.val).sle (qry0 + BitVec.ofNat 32 x.val) then s (ix2 i x) else mask := by
  unfold edgeS
  pointwise
  exact pick_sle _ _ _ _

end Cert.KernelIdeal.Sweep

end
-- ==== Proof.Value.Column.lean ====
/- The call's output block over real arrays: each entry is the weighted mean of a row of values, the weights powers of two of
   a query's logits against the keys not after it. -/
module

public import proofs.«01_k».proof.Proof.Value.Entry
public import Idealize.ShloMosaic.Lib.Pointwise.IndexBridge

@[expose] public section

set_option maxRecDepth 16384

noncomputable section

namespace Cert.KernelIdeal.Sweep

open Idealize.ShloMosaic Idealize.SL.Sem
open Facts₀ Facts
open Cert.Soft

variable [Facts]

/-- The four arrays of a grid point hold real numbers: `r` a bias a block, `q` the queries (feature, query), `k` the keys
    (key, feature), `v` the values (row, key), a key counted over all the blocks. -/
structure Real (X : Arrays Ideal) (h : Fin 8) (r : ℕ → ℝ) (q k v : ℕ → ℕ → ℝ) : Prop where
  bias : ∀ n < 32, X.bias h n = (r n : EReal)
  queries : ∀ c < 16, ∀ (d : Fin 256) (x : Fin 256), X.queries c (ix3 0 d x) = (q d.val (256 * c + x.val) : EReal)
  keys : ∀ n < 32, ∀ (i : Fin 512) (d : Fin 256), X.keys n (ix4 0 0 i d) = (k (512 * n + i.val) d.val : EReal)
  vals : ∀ n < 32, ∀ (y : Fin 144) (i : Fin 512), X.vals n (ix4 0 0 y i) = (v y.val (512 * n + i.val) : EReal)

/-- The logit of key `j` for query `t`. -/
def logit (r : ℕ → ℝ) (q k : ℕ → ℕ → ℝ) (t j : ℕ) : ℝ := ∑ d : Fin 256, k j d.val * q d.val t - r (j / 512)

variable {X : Arrays Ideal} {h : Fin 8} {r : ℕ → ℝ} {q k v : ℕ → ℕ → ℝ} (R : Real X h r q k v)
include R

theorem score_real {c n : ℕ} (hc : c < 16) (hn : n < 32) (i : Fin 512) (x : Fin 256) :
    scoreV (X.keys n) (X.queries c) (ix2 i x) = ((logit r q k (256 * c + x.val) (512 * n + i.val) + r n : ℝ) : EReal) := by
  rw [scoreV_apply, logit, show (512 * n + i.val) / 512 = n by omega, sub_add_cancel, coe_sum]
  refine Finset.sum_congr rfl fun d _ => ?_
  rw [R.keys n hn, R.queries c hc, ← EReal.coe_mul]

omit R in
/-- What is known of strip `c` after `N` full blocks. -/
def Known (r : ℕ → ℝ) (q k v : ℕ → ℕ → ℝ) (c N : ℕ) (σ : Strip Ideal) : Prop :=
  ∀ x : Fin 256,
    (∀ i : Fin 512, σ.s (ix2 i x) = ((logit r q k (256 * c + x.val) (512 * N + i.val) + r N : ℝ) : EReal))
    ∧ σ.b (ix2 0 x) = Finset.univ.fold max ⊥ (fun i : Fin 512 => (σ.s (ix2 i x) : EReal))
    ∧ ∀ y : Fin 144, Holds (512 * N) (logit r q k (256 * c + x.val)) (v y.val) (σ.m (ix2 0 x)) (σ.a (ix2 y x))

theorem waiting {c n : ℕ} (hc : c < 16) (hn : n < 32) (x : Fin 256) :
    (∀ i : Fin 512, scoreAt X c n (ix2 i x) = ((logit r q k (256 * c + x.val) (512 * n + i.val) + r n : ℝ) : EReal))
    ∧ maxV (scoreV (X.keys n) (X.queries c)) (ix2 0 x) = Finset.univ.fold max ⊥ (fun i : Fin 512 => (scoreAt X c n (ix2 i x) : EReal)) :=
  ⟨fun i => (scoreAt_apply X c n i x).trans (score_real R hc hn i x),
    (maxV_apply _ x).trans (by simp only [scoreAt_apply])⟩

theorem known_init {mask : Ideal .f32} (hm : mask = (⊥ : EReal)) {c : ℕ} (hc : c < 16) :
    Known r q k v c 0 (Strip.init mask X c) := by
  intro x
  simp only [Strip.init]
  refine ⟨(waiting R hc (by decide) x).1, (waiting R hc (by decide) x).2, fun y => ?_⟩
  have ha : Scalar.ofBits (F := Ideal) .f32 0x00000000#32 = (0 : EReal) := by
    show Ideal.ofBits .f32 0x00000000#32 = 0
    simp [Ideal.ofBits, Ideal.ieee]
  rw [ha, hm]
  exact holds_start _ _

theorem known_full {c N : ℕ} (hc : c < 16) (hN : N + 1 < 32) {σ : Strip Ideal} (K : Known r q k v c N σ) :
    Known r q k v c (N + 1) (Strip.full h X c N σ) := by
  intro x
  obtain ⟨hs, hb, hh⟩ := K x
  simp only [Strip.full]
  refine ⟨(waiting R hc hN x).1, (waiting R hc hN x).2, fun y => ?_⟩
  have := holds_step (w := 512) (k := 512) (by decide) (by decide) le_rfl (hh y) (r N)
    (fun i => σ.s (ix2 i x)) (fun i => X.vals N (ix4 0 0 y i)) (fun i => by rw [hs, if_pos i.isLt])
    (fun i => R.vals N (by omega) y i) (σ.b (ix2 0 x)) hb
  rw [← R.bias N (by omega)] at this
  rw [attendM_apply, attendA_apply]
  exact this

theorem known_chain {mask : Ideal .f32} (hm : mask = (⊥ : EReal)) {c : ℕ} (hc : c < 16) :
    ∀ N < 32, Known r q k v c N (chain mask h X c N)
  | 0, _ => known_init R hm hc
  | N + 1, hN => known_full R hc hN (known_chain hm hc N (by omega))

omit R in
/-- Which keys of its last block a query sees. -/
theorem seen_iff {c : ℕ} (hc : c < 16) (i : Fin 512) (x : Fin 256) :
    (BitVec.ofNat 32 (512 * (c / 2)) + BitVec.ofNat 32 i.val).sle (BitVec.ofNat 32 (256 * c) + BitVec.ofNat 32 x.val) = true
      ↔ i.val < 256 * (c % 2) + x.val + 1 := by
  have hi := i.isLt
  have hx := x.isLt
  rw [← BitVec.ofNat_add, ← BitVec.ofNat_add, sle_ofNat (by omega) (by omega)]
  omega

/-- A strip after its last block: the running sums over the keys up to each of its queries. -/
theorem known_edge {mask : Ideal .f32} (hm : mask = (⊥ : EReal)) {c N : ℕ} (hc : c < 16) (hN : N < 32) {σ : Strip Ideal}
    (K : Known r q k v c N σ) (x : Fin 256) (y : Fin 144) :
    Holds (512 * N + (256 * (c % 2) + x.val + 1)) (logit r q k (256 * c + x.val)) (v y.val)
      ((Strip.edge mask h X c N σ).m (ix2 0 x)) ((Strip.edge mask h X c N σ).a (ix2 y x)) := by
  obtain ⟨hs, -, hh⟩ := K x
  have hx := x.isLt
  have := holds_step (w := 512) (k := 256 * (c % 2) + x.val + 1) (by decide) (by omega) (by omega) (hh y) (r N)
    (fun i => edgeS mask (BitVec.ofNat 32 (512 * (c / 2))) (BitVec.ofNat 32 (256 * c)) σ.s (ix2 i x)) (fun i => X.vals N (ix4 0 0 y i))
    (fun i => by
      rw [edgeS_apply, hs, hm]
      by_cases hi : i.val < 256 * (c % 2) + x.val + 1
      · rw [if_pos hi, if_pos ((seen_iff hc i x).2 hi)]
      · rw [if_neg hi, if_neg (fun e => hi ((seen_iff hc i x).1 e))])
    (fun i => R.vals N hN y i) _ (maxV_apply _ x)
  rw [← R.bias N hN] at this
  have e1 : (Strip.edge mask h X c N σ).m (ix2 0 x) = _ :=
    attendM_apply σ.m (maxV (edgeS mask (BitVec.ofNat 32 (512 * (c / 2))) (BitVec.ofNat 32 (256 * c)) σ.s)) (X.bias h N) x
  have e2 : (Strip.edge mask h X c N σ).a (ix2 y x) = _ := attendA_apply σ.m (maxV (edgeS mask (BitVec.ofNat 32 (512 * (c / 2))) (BitVec.ofNat 32 (256 * c)) σ.s))
    (X.bias h N) (edgeS mask (BitVec.ofNat 32 (512 * (c / 2))) (BitVec.ofNat 32 (256 * c)) σ.s) (X.vals N) σ.a y x
  rw [e1, e2]; exact this

omit R in
theorem glueA_apply (A : ℕ → Vec Ideal S144x256 .f32) (y : Fin 144) (t : Fin 4096) :
    glueA A (ix2 y t) = A (t.val / 256) (ix2 y ⟨t.val % 256, Nat.mod_lt _ (by decide)⟩) := by
  rw [ix2_eq_valueIdx, ix2_eq_valueIdx]; rfl

omit R in
theorem quotient_apply (A : Vec Ideal S144x4096 .f32) (t : Fin 4096) (d : Fin 128) :
    quotient A (ix2 t d) = (A (ix2 ⟨d.val, by omega⟩ t) * Ideal.div 1 (A (ix2 128 t)) : EReal) := by
  have e0 : ∀ x : S1x4096.Idx, (Rect.unit (s := S144x4096) ![128, 0] S1x4096.size inb_S144x4096_S1x4096_128_0).emb x = ix2 128 (x 1) := by
    intro x
    have h0 : (x 0).val = 0 := Nat.lt_one_iff.1 (x 0).isLt
    funext a
    match a with
    | ⟨0, _⟩ => exact Fin.ext (by simp [Rect.emb_apply, h0, ix2])
    | ⟨1, _⟩ => exact Fin.ext (by simp [Rect.emb_apply, ix2])
  have e1 : ∀ x : S128x4096.Idx, (Rect.unit (s := S144x4096) ![0, 0] S128x4096.size inb_S144x4096_S128x4096_0_0).emb x
      = ix2 ⟨(x 0).val, lt_trans (x 0).isLt (by decide)⟩ (x 1) := by
    intro x
    funext a
    match a with
    | ⟨0, _⟩ => exact Fin.ext (by simp [Rect.emb_apply, ix2])
    | ⟨1, _⟩ => exact Fin.ext (by simp [Rect.emb_apply, ix2])
  unfold quotient
  pointwise [e0, e1]

/-- The output block, entry by entry. -/
theorem outBlock_real {mask : Ideal .f32} (hm : mask = (⊥ : EReal)) {qi : ℕ} (hq : qi < 4) (hv : ∀ j, v 128 j = 1) (t : Fin 4096) (d : Fin 128) :
    outBlock mask h X qi (ix2 t d) = (soft (4096 * qi + t.val + 1) (logit r q k t.val) (v d.val) : EReal) := by
  have ht := t.isLt
  unfold outBlock
  rw [quotient_apply, glueA_apply, glueA_apply]
  have key : ∀ y : Fin 144, Holds (4096 * qi + t.val + 1) (logit r q k t.val) (v y.val)
      ((stateAt mask h X qi (8 * qi + 8) (t.val / 256)).m (ix2 0 ⟨t.val % 256, Nat.mod_lt _ (by decide)⟩))
      ((stateAt mask h X qi (8 * qi + 8) (t.val / 256)).a (ix2 y ⟨t.val % 256, Nat.mod_lt _ (by decide)⟩)) := by
    intro y
    unfold stateAt
    rw [if_neg (by omega)]
    have := known_edge R hm (c := t.val / 256) (N := 8 * qi + t.val / 256 / 2) (by omega) (by omega)
      (known_chain R hm (c := t.val / 256) (by omega) (8 * qi + t.val / 256 / 2) (by omega)) ⟨t.val % 256, Nat.mod_lt _ (by decide)⟩ y
    rw [show 512 * (8 * qi + t.val / 256 / 2) + (256 * (t.val / 256 % 2) + t.val % 256 + 1) = 4096 * qi + t.val + 1 by omega,
      show 256 * (t.val / 256) + t.val % 256 = t.val by omega] at this
    exact this
  have k1 := key 128
  rw [show v (128 : Fin 144).val = fun _ => 1 from funext hv] at k1
  exact holds_finish (by omega) (key ⟨d.val, by omega⟩) k1

end Cert.KernelIdeal.Sweep

end
-- ==== Proof.Value.Tile.lean ====
/- The call's result as one array: each grid point writes one tile of it, and over real arguments every entry is the weighted
   mean that the reference computes. -/
module

public import proofs.«01_k».proof.Proof.Launch.Ideal
public import proofs.«01_k».proof.Proof.Value.Column
public import Idealize.ShloMosaic.Lib.Pipeline.ValueKit

@[expose] public section

set_option maxRecDepth 16384

noncomputable section

namespace Cert.KernelIdeal.Attend

open Idealize.ShloMosaic Idealize.ShloMosaic.TcCoe Idealize.ShloMosaic.Tactic Idealize.SL.Sem
open Idealize.ShloMosaic.Pipeline (Dat Cfg Window)
open Cert.KernelIdeal.Gen Cert.KernelIdeal.Sweep
open Cert.Soft

variable (m : (ℓ : Loc nD τ sig) → Buf (Elt Ideal) ℓ)

theorem at0 : ∀ t : Fin cfg0.N, win0_0.index t = ![0, 0] := (by decide +kernel : ∀ t : Fin grid0.N, _)
theorem at1 : ∀ t : Fin cfg0.N, win0_1.index t = ![(grid0.coords t 0).val, 0, (grid0.coords t 1).val] := (by decide +kernel : ∀ t : Fin grid0.N, _)
theorem at2 : ∀ t : Fin cfg0.N, win0_2.index t = ![(grid0.coords t 0).val, 0, 0, 0] := (by decide +kernel : ∀ t : Fin grid0.N, _)
theorem at3 : ∀ t : Fin cfg0.N, win0_3.index t = ![(grid0.coords t 0).val, 0, 0, 0] := (by decide +kernel : ∀ t : Fin grid0.N, _)
theorem at4 : ∀ t : Fin cfg0.N, win0_4.index t = ![(grid0.coords t 1).val, (grid0.coords t 0).val] := (by decide +kernel : ∀ t : Fin grid0.N, _)

theorem bias_at (c : Dev nD) (t : Fin cfg0.N) (a : Fin 8) (b : Fin 32) :
    (arrays m c t).r (ValueIdx.ix2 a b) = m ((c : Thread nD τ).loc main_arg0) (ix2 a b) := by
  show iblk m c 0 t (ValueIdx.ix2 a b) = _
  blk_simp [iblk]
  refine congrArg (m ((c : Thread nD τ).loc main_arg0)) ?_
  blk_ext [at0]

theorem queries_at (c : Dev nD) (t : Fin cfg0.N) (d : Fin 256) (x : Fin 4096) :
    (arrays m c t).q (ValueIdx.ix3 0 d x) = m ((c : Thread nD τ).loc main_arg1)
      (ix3 (grid0.coords t 0) d ⟨4096 * (grid0.coords t 1).val + x.val, by have := (grid0.coords t 1).isLt; have : (grid0.coords t 1).val < 4 := this; omega⟩) := by
  show iblk m c 1 t (ValueIdx.ix3 0 d x) = _
  blk_simp [iblk]
  refine congrArg (m ((c : Thread nD τ).loc main_arg1)) ?_
  blk_ext [at1]
  show (grid0.coords t 1).val * 4096 + x.val = 4096 * (grid0.coords t 1).val + x.val
  omega

theorem keys_at (c : Dev nD) (t : Fin cfg0.N) (n : Fin 32) (i : Fin 512) (d : Fin 256) :
    (arrays m c t).k (ValueIdx.ix4 0 n i d) = m ((c : Thread nD τ).loc main_arg2) (ix4 (grid0.coords t 0) n i d) := by
  show iblk m c 2 t (ValueIdx.ix4 0 n i d) = _
  blk_simp [iblk]
  refine congrArg (m ((c : Thread nD τ).loc main_arg2)) ?_
  blk_ext [at2]

theorem vals_at (c : Dev nD) (t : Fin cfg0.N) (n : Fin 32) (y : Fin 144) (i : Fin 512) :
    (arrays m c t).v (ValueIdx.ix4 0 n y i) = m ((c : Thread nD τ).loc main_arg3) (ix4 (grid0.coords t 0) n y i) := by
  show iblk m c 3 t (ValueIdx.ix4 0 n y i) = _
  blk_simp [iblk]
  refine congrArg (m ((c : Thread nD τ).loc main_arg3)) ?_
  blk_ext [at3]

variable {m} {c : Dev nD} {r' : ℕ → ℕ → ℝ} {q' k' v' : ℕ → ℕ → ℕ → ℝ}
  (hr : ∀ h n, m ((c : Thread nD τ).loc main_arg0) (ix2 h n) = (r' h.val n.val : EReal))
  (hq : ∀ h d t, m ((c : Thread nD τ).loc main_arg1) (ix3 h d t) = (q' h.val d.val t.val : EReal))
  (hk : ∀ h n i d, m ((c : Thread nD τ).loc main_arg2) (ix4 h n i d) = (k' h.val (512 * n.val + i.val) d.val : EReal))
  (hv : ∀ h n y i, m ((c : Thread nD τ).loc main_arg3) (ix4 h n y i) = (v' h.val y.val (512 * n.val + i.val) : EReal))
include hr hq hk hv

/-- A grid point's arrays hold its head's share of the arguments. -/
theorem arrays_real (t : Fin cfg0.N) :
    Real (arrays m c t) (grid0.coords t 0) (r' (grid0.coords t 0).val)
      (fun d x => q' (grid0.coords t 0).val d (4096 * (grid0.coords t 1).val + x)) (k' (grid0.coords t 0).val) (v' (grid0.coords t 0).val) where
  bias n hn := by
    refine ((bias_at m c t (grid0.coords t 0) ⟨n % 32, Nat.mod_lt _ (by decide)⟩).trans (hr _ _)).trans ?_
    show ((r' _ (n % 32) : ℝ) : EReal) = _
    rw [Nat.mod_eq_of_lt hn]
  queries cc hc d x := by
    refine ((queries_at m c t d ⟨(256 * cc + x.val) % 4096, Nat.mod_lt _ (by decide)⟩).trans (hq _ _ _)).trans ?_
    show ((q' _ _ (4096 * (grid0.coords t 1).val + (256 * cc + x.val) % 4096) : ℝ) : EReal) = _
    rw [Nat.mod_eq_of_lt (by omega)]
  keys n hn i d := by
    refine ((keys_at m c t ⟨n % 32, Nat.mod_lt _ (by decide)⟩ i d).trans (hk _ _ _ _)).trans ?_
    show ((k' _ (512 * (n % 32) + i.val) _ : ℝ) : EReal) = _
    rw [Nat.mod_eq_of_lt hn]
  vals n hn y i := by
    refine ((vals_at m c t ⟨n % 32, Nat.mod_lt _ (by decide)⟩ y i).trans (hv _ _ _ _)).trans ?_
    show ((v' _ _ (512 * (n % 32) + i.val) : ℝ) : EReal) = _
    rw [Nat.mod_eq_of_lt hn]

/-- What the call leaves in its result: an entry is the weighted mean of a row of values, the weights powers of two of the
    query's logits against the keys not after it. -/
theorem result_real (hone : ∀ h j, v' h 128 j = 1) (W : FVec Ideal S16384x1024 .bf16)
    (hW : ∀ (t : Fin 16384) (e : Fin 1024), W (ix2 t e)
      = (soft (t.val + 1) (fun j => ∑ d : Fin 256, k' (e.val / 128) j d.val * q' (e.val / 128) d.val t.val - r' (e.val / 128) (j / 512))
          (v' (e.val / 128) (e.val % 128)) : EReal)) :
    (dats m 0 c).arrAt 4 cfg0.N = W := by
  refine (dats m 0 c).arrAt_eq_of_covers 4 _ (by decide +kernel) fun t hf y => ?_
  blk_simp
  rw [after_4]
  have h0 : (grid0.coords t 0).val < 8 := (grid0.coords t 0).isLt
  have h1 : (grid0.coords t 1).val < 4 := (grid0.coords t 1).isLt
  obtain ⟨a, b, rfl⟩ : ∃ (a : Fin 4096) (b : Fin 128), y = ix2 a b := ⟨y 0, y 1, eq_ix2 y⟩
  have e : ((cfg0.win 4).blk t).view.emb (ix2 a b)
      = ix2 ⟨4096 * (grid0.coords t 1).val + a.val, by omega⟩ ⟨128 * (grid0.coords t 0).val + b.val, by omega⟩ := by
    blk_ext [at4]
  rw [e, hW]
  refine (outBlock_real (arrays_real hr hq hk hv t) rfl h1 (hone _) a b).trans ?_
  unfold logit
  have e1 : (128 * (grid0.coords t 0).val + b.val) / 128 = (grid0.coords t 0).val := by omega
  have e2 : (128 * (grid0.coords t 0).val + b.val) % 128 = b.val := by omega
  simp only [e1, e2]

end Cert.KernelIdeal.Attend

end
-- ==== Proof.Value.Reference.lean ====
/- The reference's result, stage by stage and entry by entry: the logits masked, the weights of each row over their sum, the
   weighted values. -/
module

public import proofs.«01_k».proof.Proof.Gen.ReferenceIdeal.Run
public import proofs.«01_k».proof.Proof.Value.Soft
public import proofs.«01_k».proof.Proof.Value.Words

@[expose] public section

set_option maxRecDepth 16384

noncomputable section

namespace Cert.ReferenceIdeal.Value

open Idealize.ShloMosaic Idealize.ShloMosaic.TcCoe Idealize.SL.Sem
open Facts₀ Facts
open Cert.Soft

variable [Facts]

/-- The logits, those of the keys after a query at `-∞`. -/
def logits (r : FVec Ideal S8x32 .f32) (q : FVec Ideal S8x256x16384 .bf16) (k : FVec Ideal S8x32x512x256 .bf16) :
    FVec Ideal S8x16384x16384 .f32 :=
  select (broadcastInDim S8x16384x16384 ![1, 2] bcast_S16384x16384_S8x16384x16384_1_2
      (cmpi .sle (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0)))))
    (subf (Host.dotGeneral dot_S8x256x16384_S8x16384x256_S8x16384x16384_1_2_2_1_0_0 none q (shapeCast _ k shapeCasts_S8x32x512x256_S8x16384x256))
      (broadcastInDim S8x16384x16384 ![0, 1, 2] bcast_S8x1x16384_S8x16384x16384_0_1_2 (broadcastInDim S8x1x16384 ![0, 2] bcast_S8x16384_S8x1x16384_0_2
        (shapeCast _ (broadcastInDim S8x32x512 ![0, 1, 2] bcast_S8x32x1_S8x32x512_0_1_2 (broadcastInDim S8x32x1 ![0, 1] bcast_S8x32_S8x32x1_0_1 r)) shapeCasts_S8x32x512_S8x16384))))
    (broadcastInDim S8x16384x16384 ![] bcast_S_S8x16384x16384 (constant S_ .f32 0xFF800000#32))

/-- A row's weights, before their sum is divided out. -/
def weights (L : FVec Ideal S8x16384x16384 .f32) : FVec Ideal S8x16384x16384 .f32 :=
  Host.powf (broadcastInDim S8x16384x16384 ![] bcast_S_S8x16384x16384 (constant S_ .f32 0x40000000#32))
    (subf L (broadcastInDim S8x16384x16384 ![0, 1, 2] bcast_S8x16384x1_S8x16384x16384_0_1_2 (broadcastInDim S8x16384x1 ![0, 1] bcast_S8x16384_S8x16384x1_0_1
      (Host.reduce FloatOps.maximumf L (constant S_ .f32 0xFF800000#32) reducesTo_S8x16384x16384_S8x16384_d2 h_S_))))

/-- The weights over their sums. -/
def shares (W : FVec Ideal S8x16384x16384 .f32) : FVec Ideal S8x16384x16384 .bf16 :=
  truncf .bf16 (Host.divf W (broadcastInDim S8x16384x16384 ![0, 1, 2] bcast_S8x16384x1_S8x16384x16384_0_1_2 (broadcastInDim S8x16384x1 ![0, 1] bcast_S8x16384_S8x16384x1_0_1
    (Host.reduceAdd W (constant S_ .f32 0x00000000#32) reducesTo_S8x16384x16384_S8x16384_d2 h_S_)))) bitsLt_bf16_f32

/-- The values, by key. -/
def values (v : FVec Ideal S8x32x144x512 .bf16) : FVec Ideal S8x16384x128 .bf16 :=
  extractStridedSlice S8x16384x128 ![0, 0, 0] (shapeCast _ (transpose S8x32x512x144 [0, 1, 3, 2] v transposes_S8x32x144x512_S8x32x512x144_0_1_3_2)
    shapeCasts_S8x32x512x144_S8x16384x144) slices_S8x16384x144_S8x16384x128_0_0_0

/-- The result, a head's columns side by side. -/
def mixed (P : FVec Ideal S8x16384x16384 .bf16) (V : FVec Ideal S8x16384x128 .bf16) : FVec Ideal S16384x1024 .bf16 :=
  truncf .bf16 (shapeCast _ (transpose S16384x8x128 [1, 0, 2] (Host.dotGeneral dot_S8x16384x16384_S8x16384x128_S8x16384x128_2_1_1_2_0_0 none P V)
    transposes_S8x16384x128_S16384x8x128_1_0_2) shapeCasts_S16384x8x128_S16384x1024) bitsLt_bf16_f32

theorem result_eq (m : (ℓ : Loc nD τ sig) → Buf (Elt Ideal) ℓ) (c : Dev nD) :
    res_out0 m c = mixed (shares (weights (logits (m ((c.tc : Thread nD τ).loc main_arg0)) (m ((c.tc : Thread nD τ).loc main_arg1))
      (m ((c.tc : Thread nD τ).loc main_arg2))))) (values (m ((c.tc : Thread nD τ).loc main_arg3))) := rfl

theorem logits_apply (r : FVec Ideal S8x32 .f32) (q : FVec Ideal S8x256x16384 .bf16) (k : FVec Ideal S8x32x512x256 .bf16)
    (h : Fin 8) (t j : Fin 16384) :
    logits r q k (ix3 h t j) = if (BitVec.ofNat 32 j.val).sle (BitVec.ofNat 32 t.val)
      then ((∑ d : Fin 256, (q (ix3 h d t) * k (ix4 h ⟨j.val / 512, by omega⟩ ⟨j.val % 512, Nat.mod_lt _ (by decide)⟩ d) : EReal))
        - r (ix2 h ⟨j.val / 512, by omega⟩) : EReal) else (⊥ : EReal) := by
  unfold logits
  pointwise
  rw [neg_inf, pick_sle]

theorem weights_apply (L : FVec Ideal S8x16384x16384 .f32) (h : Fin 8) (t j : Fin 16384) :
    weights L (ix3 h t j) = Ideal.pow 2 (L (ix3 h t j) - Finset.univ.fold max ⊥ fun j : Fin 16384 => (L (ix3 h t j) : EReal)) := by
  unfold weights
  pointwise
  rw [neg_inf, two]

theorem shares_apply (W : FVec Ideal S8x16384x16384 .f32) (h : Fin 8) (t j : Fin 16384) :
    shares W (ix3 h t j) = Ideal.div (W (ix3 h t j)) (∑ j : Fin 16384, (W (ix3 h t j) : EReal)) := by
  unfold shares
  pointwise

theorem values_apply (v : FVec Ideal S8x32x144x512 .bf16) (h : Fin 8) (j : Fin 16384) (d : Fin 128) :
    values v (ix3 h j d) = v (ix4 h ⟨j.val / 512, by omega⟩ ⟨d.val, by omega⟩ ⟨j.val % 512, Nat.mod_lt _ (by decide)⟩) := by
  unfold values
  pointwise

theorem mixed_apply (P : FVec Ideal S8x16384x16384 .bf16) (V : FVec Ideal S8x16384x128 .bf16) (t : Fin 16384) (e : Fin 1024) :
    mixed P V (ix2 t e) = ∑ j : Fin 16384, (P (ix3 ⟨e.val / 128, by omega⟩ t j) * V (ix3 ⟨e.val / 128, by omega⟩ j ⟨e.val % 128, Nat.mod_lt _ (by decide)⟩) : EReal) := by
  unfold mixed
  pointwise

variable {r : FVec Ideal S8x32 .f32} {q : FVec Ideal S8x256x16384 .bf16} {k : FVec Ideal S8x32x512x256 .bf16} {v : FVec Ideal S8x32x144x512 .bf16}
  {r' : ℕ → ℕ → ℝ} {q' k' v' : ℕ → ℕ → ℕ → ℝ}

/-- Over real arrays an entry of the result is the weighted mean of a row of values, the weights powers of two of the query's
    logits against the keys not after it. -/
theorem result_real (hr : ∀ h n, r (ix2 h n) = (r' h.val n.val : EReal)) (hq : ∀ h d t, q (ix3 h d t) = (q' h.val d.val t.val : EReal))
    (hk : ∀ h n i d, k (ix4 h n i d) = (k' h.val (512 * n.val + i.val) d.val : EReal))
    (hv : ∀ h n y i, v (ix4 h n y i) = (v' h.val y.val (512 * n.val + i.val) : EReal)) (t : Fin 16384) (e : Fin 1024) :
    mixed (shares (weights (logits r q k))) (values v) (ix2 t e)
      = (soft (t.val + 1) (fun j => ∑ d : Fin 256, k' (e.val / 128) j d.val * q' (e.val / 128) d.val t.val - r' (e.val / 128) (j / 512))
          (v' (e.val / 128) (e.val % 128)) : EReal) := by
  rw [mixed_apply]
  simp only [shares_apply, weights_apply]
  refine row_soft (by decide) (Nat.succ_pos _) t.isLt _ _ _ _ (fun j => ?_) (fun j => ?_)
  · rw [logits_apply]
    by_cases hj : j.val < t.val + 1
    · rw [if_pos ((sle_ofNat (by omega) (by omega)).2 (by omega)), if_pos hj, hr, EReal.coe_sub, coe_sum]
      congr 1
      refine Finset.sum_congr rfl fun d _ => ?_
      rw [hq, hk, ← EReal.coe_mul, mul_comm, Nat.div_add_mod]
    · rw [if_neg (fun e => hj (by have := (sle_ofNat (by omega) (by omega)).1 e; omega)), if_neg hj]
  · rw [values_apply, hv, Nat.div_add_mod]

end Cert.ReferenceIdeal.Value

end
-- ==== Proof.Value.Given.lean ====
/- What the precondition gives: real arrays that the four operands are read from, the values' row 128 constantly one. -/
module

public import proofs.«01_k».proof.Pre_well_formed
public import proofs.«01_k».proof.Proof.Value.Words

@[expose] public section

set_option maxRecDepth 16384

noncomputable section

namespace Cert.Pre_well_formed

open Idealize.ShloMosaic

theorem pos_inf : Ideal.ofBits .f32 0x7F800000#32 = ⊤ := by simp [Ideal.ofBits, Ideal.ieee]

theorem one : Ideal.ofBits .f32 0x3F800000#32 = 1 := by
  simp [Ideal.ofBits, Ideal.ieee, -EReal.coe_mul]; norm_num

/-- A number strictly between the two infinities is its real part. -/
theorem real_of_flags {x : EReal} (h : IntOp.andi (BitVec.ofBool (decide (x < Ideal.ofBits .f32 0x7F800000#32)))
    (BitVec.ofBool (decide (Ideal.ofBits .f32 0xFF800000#32 < x))) = 1#1) : x = (x.toReal : EReal) := by
  rw [pos_inf, Cert.Soft.neg_inf] at h
  by_cases a : x < ⊤
  · by_cases b : ⊥ < x
    · exact (EReal.coe_toReal a.ne b.ne').symm
    · simp [a, b, IntOp.andi] at h
  · by_cases b : ⊥ < x <;> simp [a, b, IntOp.andi] at h

theorem one_of_flag {x : EReal} (h : BitVec.ofBool (decide (x = Ideal.ofBits .f32 0x3F800000#32)) = 1#1) : x = 1 := by
  rw [one] at h
  by_contra a
  simp [a] at h

theorem ofNat_self {n : ℕ} [NeZero n] (a : Fin n) : Fin.ofNat n a.val = a := Fin.ext (Nat.mod_eq_of_lt a.isLt)

theorem ofNat_add (n : ℕ) (i : Fin 512) : Fin.ofNat 512 (512 * n + i.val) = i :=
  Fin.ext ((Nat.mul_add_mod ..).trans (Nat.mod_eq_of_lt i.isLt))

/-- The shapes that the predicate's operations ask to fit do fit. -/
theorem facts : Facts where
  bcast_S_S8x32 := by decide
  bitsLt_bf16_f32 := by decide
  bcast_S_S8x256x16384 := by decide
  bcast_S_S8x32x512x256 := by decide
  bcast_S_S8x32x144x512 := by decide
  slices_S8x32x144x512_S8x32x1x512_0_0_128_0 := by decide
  shapeCasts_S8x32x1x512_S8x32x512 := by decide
  bcast_S_S8x32x512 := by decide

variable [Facts] {r : FVec Ideal S8x32 .f32} {q : FVec Ideal S8x256x16384 .bf16} {k : FVec Ideal S8x32x512x256 .bf16}
  {v : FVec Ideal S8x32x144x512 .bf16}

theorem bias_real (h : (fn r q k v).1 = fun _ => 1#1) (i) : r i = ((r i).toReal : EReal) := real_of_flags (congrFun h i)
theorem query_real (h : (fn r q k v).2.1 = fun _ => 1#1) (i) : q i = ((q i).toReal : EReal) := real_of_flags (congrFun h i)
theorem key_real (h : (fn r q k v).2.2.1 = fun _ => 1#1) (i) : k i = ((k i).toReal : EReal) := real_of_flags (congrFun h i)
theorem value_real (h : (fn r q k v).2.2.2.1 = fun _ => 1#1) (i) : v i = ((v i).toReal : EReal) := real_of_flags (congrFun h i)

theorem row_one (h : (fn r q k v).2.2.2.2 = fun _ => 1#1) (a : Fin 8) (n : Fin 32) (i : Fin 512) : v (ix4 a n 128 i) = 1 := by
  have e := congrFun h (ix3 a n i)
  refine .trans (congrArg v ?_) (one_of_flag e)
  pointwise
  funext x; refine Fin.ext ?_; fin_cases x <;> simp [ix4]

/-- The real arrays. -/
theorem reals (hr : (fn r q k v).1 = fun _ => 1#1) (hq : (fn r q k v).2.1 = fun _ => 1#1) (hk : (fn r q k v).2.2.1 = fun _ => 1#1)
    (hv : (fn r q k v).2.2.2.1 = fun _ => 1#1) (ho : (fn r q k v).2.2.2.2 = fun _ => 1#1) :
    ∃ (r' : ℕ → ℕ → ℝ) (q' k' v' : ℕ → ℕ → ℕ → ℝ),
      (∀ h n, r (ix2 h n) = (r' h.val n.val : EReal)) ∧ (∀ h d t, q (ix3 h d t) = (q' h.val d.val t.val : EReal))
      ∧ (∀ h n i d, k (ix4 h n i d) = (k' h.val (512 * n.val + i.val) d.val : EReal))
      ∧ (∀ h n y i, v (ix4 h n y i) = (v' h.val y.val (512 * n.val + i.val) : EReal)) ∧ ∀ h j, v' h 128 j = 1 := by
  refine ⟨fun h n => (r (ix2 (Fin.ofNat 8 h) (Fin.ofNat 32 n))).toReal,
    fun h d t => (q (ix3 (Fin.ofNat 8 h) (Fin.ofNat 256 d) (Fin.ofNat 16384 t))).toReal,
    fun h j d => (k (ix4 (Fin.ofNat 8 h) (Fin.ofNat 32 (j / 512)) (Fin.ofNat 512 j) (Fin.ofNat 256 d))).toReal,
    fun h y j => (v (ix4 (Fin.ofNat 8 h) (Fin.ofNat 32 (j / 512)) (Fin.ofNat 144 y) (Fin.ofNat 512 j))).toReal,
    fun h n => ?_, fun h d t => ?_, fun h n i d => ?_, fun h n y i => ?_, fun h j => ?_⟩
  · beta_reduce; rw [ofNat_self, ofNat_self]; exact bias_real hr _
  · beta_reduce; rw [ofNat_self, ofNat_self, ofNat_self]; exact query_real hq _
  · beta_reduce; rw [ofNat_self, ofNat_self, (by have := i.isLt; omega : (512 * n.val + i.val) / 512 = n.val), ofNat_self, ofNat_add]; exact key_real hk _
  · beta_reduce; rw [ofNat_self, ofNat_self, (by have := i.isLt; omega : (512 * n.val + i.val) / 512 = n.val), ofNat_self, ofNat_add]; exact value_real hv _
  · beta_reduce; rw [(by rfl : Fin.ofNat 144 128 = 128), row_one ho]; rfl

end Cert.Pre_well_formed

end
-- ==== Proof.Value.Match.lean ====
/- From agreeing operands the call and the reference compute one array: the weighted means of Value/Tile.lean and
   Value/Reference.lean are over the same real arrays. -/
module

public import proofs.«01_k».proof.Defs
public import proofs.«01_k».proof.Proof.Value.Tile
public import proofs.«01_k».proof.Proof.Value.Reference
public import proofs.«01_k».proof.Proof.Value.Given

@[expose] public section

set_option maxRecDepth 16384

noncomputable section

namespace Cert.Match

open Idealize.ShloMosaic Idealize.ShloMosaic.TcCoe Idealize.SL.Sem
open Cert.KernelIdeal Cert.KernelIdeal.Gen

variable [Cert.ReferenceIdeal.Facts] [Cert.Pre_well_formed.Facts]
variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The reference's result from its four operands. -/
def mean (r : FVec Ideal S8x32 .f32) (q : FVec Ideal S8x256x16384 .bf16) (k : FVec Ideal S8x32x512x256 .bf16)
    (v : FVec Ideal S8x32x144x512 .bf16) : FVec Ideal S16384x1024 .bf16 :=
  Cert.ReferenceIdeal.Value.mixed (Cert.ReferenceIdeal.Value.shares (Cert.ReferenceIdeal.Value.weights
    (Cert.ReferenceIdeal.Value.logits r q k))) (Cert.ReferenceIdeal.Value.values v)

theorem reference_eq (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Cert.ReferenceIdeal.Value.res_main_v32 m' c = mean (m ((c.tc : Thread nD τ).loc main_arg0)) (m ((c.tc : Thread nD τ).loc main_arg1))
      (m ((c.tc : Thread nD τ).loc main_arg2)) (m ((c.tc : Thread nD τ).loc main_arg3)) := by
  rw [← h0, ← h1, ← h2, ← h3]
  exact Cert.ReferenceIdeal.Value.result_eq m' c

theorem call_eq (h : Cert.Pre_KernelIdeal_well_formed m) :
    (Attend.dats m 0 c).arrAt 4 cfg0.N = mean (m ((c.tc : Thread nD τ).loc main_arg0)) (m ((c.tc : Thread nD τ).loc main_arg1))
      (m ((c.tc : Thread nD τ).loc main_arg2)) (m ((c.tc : Thread nD τ).loc main_arg3)) := by
  obtain ⟨h0, h1, h2, h3, h4⟩ := h c
  obtain ⟨r', q', k', v', hr, hq, hk, hv, ho⟩ := Cert.Pre_well_formed.reals h0 h1 h2 h3 h4
  exact Attend.result_real hr hq hk hv ho _ (Cert.ReferenceIdeal.Value.result_real hr hq hk hv)

end Cert.Match

end
-- ==== Proof.Rows.Norm.lean ====
/- A row over the root of its mean square, times a row of gains: what the layer norms before a projection, as one formula over the
   extended reals. -/
module

public import Idealize.ShloMosaic.Lib.Pointwise

@[expose] public section

noncomputable section

namespace Cert.Rows

open Idealize.ShloMosaic

/-- An entry of the normed row, the mean taken over 2048 entries and a millionth added under the root. -/
def normed {n : ℕ} (x g : Fin n → EReal) (d : Fin n) : EReal :=
  x d * Ideal.rsqrt (Ideal.div (∑ e, x e * x e) (Ideal.ofBits .f32 0x45000000#32) + Ideal.ofBits .f32 0x358637BD#32) * g d

/-- A hidden unit: the square of the positive part of a row's product with a column. -/
def unit {n : ℕ} (h u : Fin n → EReal) : EReal :=
  max (∑ d, h d * u d) (Ideal.ofBits .f32 0x00000000#32) * max (∑ d, h d * u d) (Ideal.ofBits .f32 0x00000000#32)

end Cert.Rows

end
-- ==== Proof.Rows.FfCases.lean ====
/- What the body of the feed-forward leaves behind: the first block of hidden columns norms the rows and keeps them and starts the
   sum at the rows themselves, every block adds its share, and the last one norms the sum. -/
module

public import proofs.«01_k».proof.Proof.Gen.FfIdeal.Frame
public import proofs.«01_k».proof.Proof.Rows.Norm
public import Idealize.ShloMosaic.Lib.Pipeline.Value
public import Idealize.ShloMosaic.Lib.Tactic

@[expose] public section

set_option maxRecDepth 16384

noncomputable section

namespace Cert.FfIdeal.Gen

open Idealize.ShloMosaic Idealize.ShloMosaic.TcCoe Idealize.ShloMosaic.Tactic Idealize.SL.Sem
open Facts₀ Facts
open Cert.Rows

theorem at_start : (![0, 0] : Fin 2 → Nat) = fun _ => 0 := by decide

theorem kept_A (c : Dev nD) (i : grid0.Coords) (a2 : Memref sig .tc .vmem S512x2048 .f32) (h2 : a2.IsWhole) (a3 : Memref sig .tc .vmem S1x2048 .f32) (h3 : a3.IsWhole) (a4 : Memref sig .tc
    .vmem S2048x2048 .bf16) (h4 : a4.IsWhole) (a5 : Memref sig .tc .vmem S2048x2048 .bf16) (h5 : a5.IsWhole) (a6 : Memref sig .tc .vmem S1x2048
    .f32) (h6 : a6.IsWhole) (a7 : Memref sig .tc .vmem S512x2048 .f32) (h7 : a7.IsWhole) (a8 : Memref sig .tc .vmem S512x2048 .bf16) (h8 :
    a8.IsWhole)
    (hc0 : cond0_0 i) (hc1 : ¬cond0_1 i) (x : Vec Ideal S512x2048 .f32) (g : Vec Ideal S1x2048 .f32) (u : Vec Ideal S2048x2048 .bf16) (w : Vec Ideal S2048x2048 .bf16)
    (gf : Vec Ideal S1x2048 .f32) :
    sout0_A_0 c i a2 h2 a3 h3 a4 h4 a5 h5 a6 h6 a7 h7 a8 h8 hc0 hc1 x g u w gf = k0_pay1 x g := by
  unfold sout0_A_0
  rw [View.read_writes_eq_canon _ _ _ (scover0_A_0 c i a2 h2 a3 h3 a4 h4 a5 h5 a6 h6 a7 h7 a8 h8 hc0 hc1 x g u w gf)]
  unfold kernelRun0_A; dsimp only
  sl_unfold_words
  rw [View.canon_unit_zero at_start]
  simp only [View.readAt_eq_ld, h2.read_unread, h3.read_unread, h4.read_unread, h5.read_unread, h6.read_unread, h7.read_unread, h8.read_unread,
    View.ld_unit_zero (S := S512x2048) at_start, View.ld_unit_zero (S := S1x2048) at_start,
    View.ld_unit_zero (S := S2048x2048) at_start]

theorem left_A (c : Dev nD) (i : grid0.Coords) (a2 : Memref sig .tc .vmem S512x2048 .f32) (h2 : a2.IsWhole) (a3 : Memref sig .tc .vmem S1x2048 .f32) (h3 : a3.IsWhole) (a4 : Memref sig .tc
    .vmem S2048x2048 .bf16) (h4 : a4.IsWhole) (a5 : Memref sig .tc .vmem S2048x2048 .bf16) (h5 : a5.IsWhole) (a6 : Memref sig .tc .vmem S1x2048
    .f32) (h6 : a6.IsWhole) (a7 : Memref sig .tc .vmem S512x2048 .f32) (h7 : a7.IsWhole) (a8 : Memref sig .tc .vmem S512x2048 .bf16) (h8 :
    a8.IsWhole)
    (hc0 : cond0_0 i) (hc1 : ¬cond0_1 i) (x : Vec Ideal S512x2048 .f32) (g : Vec Ideal S1x2048 .f32) (u : Vec Ideal S2048x2048 .bf16) (w : Vec Ideal S2048x2048 .bf16)
    (gf : Vec Ideal S1x2048 .f32) :
    out0_A_5 c i a2 h2 a3 h3 a4 h4 a5 h5 a6 h6 a7 h7 a8 h8 hc0 hc1 x g u w gf = k0_pay2 (k0_pay1 x g) u x w := by
  unfold out0_A_5
  rw [View.read_writes_eq_canon _ _ _ (cover0_A_5 c i a2 h2 a3 h3 a4 h4 a5 h5 a6 h6 a7 h7 a8 h8 hc0 hc1 x g u w gf)]
  unfold kernelRun0_A; dsimp only
  sl_unfold_words
  rw [View.canon_cons_unit_zero (S := S512x2048) at_start]
  simp only [View.readCov_unit_zero (S := S512x2048) _ at_start]
  simp only [View.readAt_eq_ld, h2.read_unread, h3.read_unread, h4.read_unread, h5.read_unread, h6.read_unread, h7.read_unread, h8.read_unread,
    View.ld_unit_zero (S := S512x2048) at_start, View.ld_unit_zero (S := S1x2048) at_start,
    View.ld_unit_zero (S := S2048x2048) at_start]

theorem left_B (c : Dev nD) (i : grid0.Coords) (a2 : Memref sig .tc .vmem S512x2048 .f32) (h2 : a2.IsWhole) (a3 : Memref sig .tc .vmem S1x2048 .f32) (h3 : a3.IsWhole) (a4 : Memref sig .tc
    .vmem S2048x2048 .bf16) (h4 : a4.IsWhole) (a5 : Memref sig .tc .vmem S2048x2048 .bf16) (h5 : a5.IsWhole) (a6 : Memref sig .tc .vmem S1x2048
    .f32) (h6 : a6.IsWhole) (a7 : Memref sig .tc .vmem S512x2048 .f32) (h7 : a7.IsWhole) (a8 : Memref sig .tc .vmem S512x2048 .bf16) (h8 :
    a8.IsWhole)
    (hc0 : ¬cond0_0 i) (hc1 : ¬cond0_1 i) (x : Vec Ideal S512x2048 .f32) (g : Vec Ideal S1x2048 .f32) (u : Vec Ideal S2048x2048 .bf16) (w : Vec Ideal S2048x2048 .bf16)
    (gf : Vec Ideal S1x2048 .f32) (s : Vec Ideal S512x2048 .f32) (k : Vec Ideal S512x2048 .bf16) :
    out0_B_5 c i a2 h2 a3 h3 a4 h4 a5 h5 a6 h6 a7 h7 a8 h8 hc0 hc1 x g u w gf s k = k0_pay2 k u s w := by
  unfold out0_B_5
  rw [View.read_writes_eq_canon _ _ _ (cover0_B_5 c i a2 h2 a3 h3 a4 h4 a5 h5 a6 h6 a7 h7 a8 h8 hc0 hc1 x g u w gf s k)]
  unfold kernelRun0_B; dsimp only
  sl_unfold_words
  rw [View.canon_unit_zero at_start]
  simp only [View.readAt_eq_ld, h2.read_unread, h3.read_unread, h4.read_unread, h5.read_unread, h6.read_unread, h7.read_unread, h8.read_unread,
    View.ld_unit_zero (S := S512x2048) at_start, View.ld_unit_zero (S := S1x2048) at_start,
    View.ld_unit_zero (S := S2048x2048) at_start]

theorem left_C (c : Dev nD) (i : grid0.Coords) (a2 : Memref sig .tc .vmem S512x2048 .f32) (h2 : a2.IsWhole) (a3 : Memref sig .tc .vmem S1x2048 .f32) (h3 : a3.IsWhole) (a4 : Memref sig .tc
    .vmem S2048x2048 .bf16) (h4 : a4.IsWhole) (a5 : Memref sig .tc .vmem S2048x2048 .bf16) (h5 : a5.IsWhole) (a6 : Memref sig .tc .vmem S1x2048
    .f32) (h6 : a6.IsWhole) (a7 : Memref sig .tc .vmem S512x2048 .f32) (h7 : a7.IsWhole) (a8 : Memref sig .tc .vmem S512x2048 .bf16) (h8 :
    a8.IsWhole)
    (hc0 : ¬cond0_0 i) (hc1 : cond0_1 i) (x : Vec Ideal S512x2048 .f32) (g : Vec Ideal S1x2048 .f32) (u : Vec Ideal S2048x2048 .bf16) (w : Vec Ideal S2048x2048 .bf16)
    (gf : Vec Ideal S1x2048 .f32) (s : Vec Ideal S512x2048 .f32) (k : Vec Ideal S512x2048 .bf16) :
    out0_C_5 c i a2 h2 a3 h3 a4 h4 a5 h5 a6 h6 a7 h7 a8 h8 hc0 hc1 x g u w gf s k = k0_pay3 (k0_pay2 k u s w) gf := by
  unfold out0_C_5
  rw [View.read_writes_eq_canon _ _ _ (cover0_C_5 c i a2 h2 a3 h3 a4 h4 a5 h5 a6 h6 a7 h7 a8 h8 hc0 hc1 x g u w gf s k)]
  unfold kernelRun0_C; dsimp only
  sl_unfold_words
  rw [View.canon_cons_unit_zero (S := S512x2048) at_start]
  simp only [View.readCov_unit_zero (S := S512x2048) _ at_start]
  simp only [View.readAt_eq_ld, h2.read_unread, h3.read_unread, h4.read_unread, h5.read_unread, h6.read_unread, h7.read_unread, h8.read_unread,
    View.ld_unit_zero (S := S512x2048) at_start, View.ld_unit_zero (S := S1x2048) at_start,
    View.ld_unit_zero (S := S2048x2048) at_start]

theorem normed_apply (x : Vec Ideal S512x2048 .f32) (g : Vec Ideal S1x2048 .f32) (a : Fin 512) (d : Fin 2048) :
    k0_pay1 x g (ix2 a d) = normed (fun e => x (ix2 a e)) (fun e => g (ix2 0 e)) d := by
  unfold k0_pay1 normed
  pointwise

theorem ended_apply (x : Vec Ideal S512x2048 .f32) (g : Vec Ideal S1x2048 .f32) (a : Fin 512) (d : Fin 2048) :
    k0_pay3 x g (ix2 a d) = normed (fun e => x (ix2 a e)) (fun e => g (ix2 0 e)) d := by
  unfold k0_pay3 normed
  pointwise

theorem added_apply (h : Vec Ideal S512x2048 .bf16) (u : Vec Ideal S2048x2048 .bf16) (s : Vec Ideal S512x2048 .f32) (w : Vec Ideal S2048x2048 .bf16)
    (a : Fin 512) (b : Fin 2048) :
    k0_pay2 h u s w (ix2 a b) = s (ix2 a b) + ∑ f : Fin 2048, Rows.unit (fun d => h (ix2 a d)) (fun d => u (ix2 d f)) * w (ix2 f b) := by
  unfold k0_pay2 Rows.unit
  pointwise

end Cert.FfIdeal.Gen

end
-- ==== Proof.Rows.FfTile.lean ====
/- The feed-forward's result as one array: four grid points work at one tile of rows, each adding the products of a quarter of the
   hidden units, and the last of them norms the sum and leaves the tile. -/
module

public import proofs.«01_k».proof.Proof.Rows.FfCases
public import Idealize.ShloMosaic.Lib.Pipeline.ValueKit

@[expose] public section

set_option maxRecDepth 16384

noncomputable section

namespace Cert.FfIdeal.Gen

open Idealize.ShloMosaic Idealize.ShloMosaic.TcCoe Idealize.ShloMosaic.Tactic Idealize.SL.Sem
open Idealize.ShloMosaic.Pipeline (Dat Cfg Window)
open Cert.Rows

variable (m : (ℓ : Loc nD τ sig) → Buf (Elt Ideal) ℓ) (c : Dev nD)

theorem at0 : ∀ t : Fin cfg0.N, win0_0.index t = ![t.val / 4, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, t.val % 4] := (by decide +kernel : ∀ t : Fin grid0.N, _)
theorem at3 : ∀ t : Fin cfg0.N, win0_3.index t = ![t.val % 4, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val / 4, 0] := (by decide +kernel : ∀ t : Fin grid0.N, _)

theorem points (t : Fin cfg0.N) : t.val < 128 := t.isLt

/-- The row of the argument that a tile's row is. -/
def row (n : ℕ) (hn : n < 128) (a : Fin 512) : Fin 16384 := ⟨512 * (n / 4) + a.val, by omega⟩

/-- The hidden unit that a block's column is. -/
def hid (n : ℕ) (f : Fin 2048) : Fin 8192 := ⟨2048 * (n % 4) + f.val, by omega⟩

theorem rows_at (t : Fin cfg0.N) (a : Fin 512) (d : Fin 2048) :
    (iblk m c 0 t : Vec Ideal S512x2048 .f32) (ix2 a d) = m ((c : Thread nD τ).loc main_arg0) (ix2 (row t.val (points t) a) d) := by
  blk_simp [iblk]
  refine congrArg (m ((c : Thread nD τ).loc main_arg0)) ?_
  blk_ext [at0]
  show t.val / 4 * 512 + a.val = 512 * (t.val / 4) + a.val
  omega

theorem gains_at (t : Fin cfg0.N) (d : Fin 2048) :
    (iblk m c 1 t : Vec Ideal S1x2048 .f32) (ix2 0 d) = m ((c : Thread nD τ).loc main_arg1) (ix2 0 d) := by
  blk_simp [iblk]
  refine congrArg (m ((c : Thread nD τ).loc main_arg1)) ?_
  blk_ext [at1]

theorem ups_at (t : Fin cfg0.N) (d : Fin 2048) (f : Fin 2048) :
    (iblk m c 2 t : Vec Ideal S2048x2048 .bf16) (ix2 d f) = m ((c : Thread nD τ).loc main_arg2) (ix2 d (hid t.val f)) := by
  blk_simp [iblk]
  refine congrArg (m ((c : Thread nD τ).loc main_arg2)) ?_
  blk_ext [at2]
  show t.val % 4 * 2048 + f.val = 2048 * (t.val % 4) + f.val
  omega

theorem downs_at (t : Fin cfg0.N) (f : Fin 2048) (b : Fin 2048) :
    (iblk m c 3 t : Vec Ideal S2048x2048 .bf16) (ix2 f b) = m ((c : Thread nD τ).loc main_arg3) (ix2 (hid t.val f) b) := by
  blk_simp [iblk]
  refine congrArg (m ((c : Thread nD τ).loc main_arg3)) ?_
  blk_ext [at3]
  show t.val % 4 * 2048 + f.val = 2048 * (t.val % 4) + f.val
  omega

theorem ends_at (t : Fin cfg0.N) (d : Fin 2048) :
    (iblk m c 4 t : Vec Ideal S1x2048 .f32) (ix2 0 d) = m ((c : Thread nD τ).loc main_arg4) (ix2 0 d) := by
  blk_simp [iblk]
  refine congrArg (m ((c : Thread nD τ).loc main_arg4)) ?_
  blk_ext [at4]

/-- An entry of the rows themselves. -/
def base (r : Fin 16384) (b : Fin 2048) : EReal := m ((c : Thread nD τ).loc main_arg0) (ix2 r b)

/-- The normed entries of a row of the argument. -/
def entry (r : Fin 16384) : Fin 2048 → EReal :=
  normed (fun e => m ((c : Thread nD τ).loc main_arg0) (ix2 r e)) fun e => m ((c : Thread nD τ).loc main_arg1) (ix2 0 e)

/-- What a hidden unit adds to an entry of the result. -/
def part (r : Fin 16384) (b : Fin 2048) (f : Fin 8192) : EReal :=
  Rows.unit (entry m c r) (fun e => m ((c : Thread nD τ).loc main_arg2) (ix2 e f)) * m ((c : Thread nD τ).loc main_arg3) (ix2 f b)

/-- The same, the unit by a number that may run on. -/
def partAt (r : Fin 16384) (b : Fin 2048) (i : ℕ) : EReal := part m c r b ⟨i % 8192, Nat.mod_lt _ (by decide)⟩

theorem part_hid (r : Fin 16384) (b : Fin 2048) (n : ℕ) (f : Fin 2048) : part m c r b (hid n f) = partAt m c r b (2048 * (n % 4) + f.val) := by
  refine congrArg (part m c r b) (Fin.ext ?_)
  show 2048 * (n % 4) + f.val = (2048 * (n % 4) + f.val) % 8192
  omega

theorem parts_all (r : Fin 16384) (b : Fin 2048) : ∑ i ∈ Finset.range 8192, partAt m c r b i = ∑ f : Fin 8192, part m c r b f := by
  rw [Finset.sum_range]
  refine Finset.sum_congr rfl fun f _ => congrArg (part m c r b) (Fin.ext ?_)
  exact Nat.mod_eq_of_lt f.isLt

theorem fresh (t : Fin cfg0.N) (a : Fin 512) (d : Fin 2048) :
    k0_pay1 (iblk m c 0 t) (iblk m c 1 t) (ix2 a d) = entry m c (row t.val (points t) a) d := by
  refine (normed_apply _ _ a d).trans ?_
  unfold entry
  simp only [rows_at, gains_at]

/-- Points of one tile share its rows. -/
theorem row_succ (n : ℕ) (hn : n + 1 < 128) (h0 : ¬(n + 1) % 4 = 0) (a : Fin 512) : row n (Nat.lt_of_succ_lt hn) a = row (n + 1) hn a := by
  refine Fin.ext ?_
  show 512 * (n / 4) + a.val = 512 * ((n + 1) / 4) + a.val
  omega

/-- The rows kept at a point are the normed rows of its tile. -/
theorem kept (n : ℕ) (hn : n < cfg0.N) (a : Fin 512) (d : Fin 2048) :
    (outsAt0 m c n hn).2 (ix2 a d) = entry m c (row n hn a) d := by
  induction n with
  | zero =>
    rw [show outsAt0 m c 0 hn = _ from outsAt0_A m c ⟨0, hn⟩ rfl (show ¬(0 : ℕ) % 4 = 3 by decide)]
    dsimp only
    rw [kept_A]
    exact fresh m c ⟨0, hn⟩ a d
  | succ n ih =>
    by_cases h0 : (n + 1) % 4 = 0
    · rw [show outsAt0 m c (n + 1) hn = _ from outsAt0_A m c ⟨n + 1, hn⟩ h0 (show ¬(n + 1) % 4 = 3 by omega)]
      dsimp only
      rw [kept_A]
      exact fresh m c ⟨n + 1, hn⟩ a d
    · have e := (ih (Nat.lt_of_succ_lt hn)).trans (congrArg (fun r => entry m c r d) (row_succ n hn h0 a))
      by_cases h1 : (n + 1) % 4 = 3
      · rw [show outsAt0 m c (n + 1) hn = _ from outsAt0_C m c ⟨n + 1, hn⟩ h0 h1]
        exact e
      · rw [show outsAt0 m c (n + 1) hn = _ from outsAt0_B m c ⟨n + 1, hn⟩ h0 h1]
        exact e

/-- What one step adds, the normed rows given. -/
theorem step (t : Fin cfg0.N) (k : Vec Ideal S512x2048 .bf16) (s : Vec Ideal S512x2048 .f32) (a : Fin 512) (b : Fin 2048)
    (hk : ∀ d, k (ix2 a d) = entry m c (row t.val (points t) a) d) :
    k0_pay2 k (iblk m c 2 t) s (iblk m c 3 t) (ix2 a b)
      = s (ix2 a b) + ∑ i ∈ Finset.range 2048, partAt m c (row t.val (points t) a) b (2048 * (t.val % 4) + i) := by
  refine (added_apply _ _ _ _ a b).trans (congrArg (s (ix2 a b) + ·) ?_)
  rw [Finset.sum_range]
  refine Finset.sum_congr rfl fun f _ => ?_
  rw [← part_hid, downs_at]
  simp only [hk, ups_at]
  rfl

/-- The sum after a point that is not its tile's last. -/
theorem summed (n : ℕ) (hn : n < cfg0.N) (h1 : ¬n % 4 = 3) (a : Fin 512) (b : Fin 2048) :
    (outsAt0 m c n hn).1 (ix2 a b) = base m c (row n hn a) b
      + ∑ i ∈ Finset.range (2048 * (n % 4 + 1)), partAt m c (row n hn a) b i := by
  induction n with
  | zero =>
    rw [show outsAt0 m c 0 hn = _ from outsAt0_A m c ⟨0, hn⟩ rfl (show ¬(0 : ℕ) % 4 = 3 by decide)]
    dsimp only
    rw [left_A]
    refine (step m c ⟨0, hn⟩ _ _ a b (fresh m c ⟨0, hn⟩ a)).trans ?_
    rw [rows_at]
    simp [base]
  | succ n ih =>
    by_cases h0 : (n + 1) % 4 = 0
    · rw [show outsAt0 m c (n + 1) hn = _ from outsAt0_A m c ⟨n + 1, hn⟩ h0 h1]
      dsimp only
      rw [left_A]
      refine (step m c ⟨n + 1, hn⟩ _ _ a b (fresh m c ⟨n + 1, hn⟩ a)).trans ?_
      rw [rows_at]
      simp [base, h0]
    · have hk := fun d => (kept m c n (Nat.lt_of_succ_lt hn) a d).trans (congrArg (fun r => entry m c r d) (row_succ n hn h0 a))
      have hs := ih (Nat.lt_of_succ_lt hn) (by omega)
      rw [show outsAt0 m c (n + 1) hn = _ from outsAt0_B m c ⟨n + 1, hn⟩ h0 h1]
      dsimp only
      rw [left_B]
      refine (step m c ⟨n + 1, hn⟩ _ _ a b hk).trans ?_
      refine (congrArg (· + _) hs).trans ?_
      rw [row_succ n hn h0 a, add_assoc]
      refine congrArg (_ + ·) ?_
      have e : (n + 1) % 4 = n % 4 + 1 := by omega
      rw [show 2048 * ((n + 1) % 4 + 1) = 2048 * (n % 4 + 1) + 2048 by omega, Finset.sum_range_add]
      dsimp only
      rw [e]

/-- What the last point of a tile leaves. -/
theorem written (t : Fin cfg0.N) (h1 : t.val % 4 = 3) (a : Fin 512) (b : Fin 2048) :
    (outsAt0 m c t.val t.isLt).1 (ix2 a b) = normed (fun b => base m c (row t.val (points t) a) b
      + ∑ f : Fin 8192, part m c (row t.val (points t) a) b f) (fun e => m ((c : Thread nD τ).loc main_arg4) (ix2 0 e)) b := by
  obtain ⟨n, hn⟩ := t
  obtain _ | n := n
  · exact absurd h1 (show ¬(0 : ℕ) % 4 = 3 by decide)
  · have h1' : (n + 1) % 4 = 3 := h1
    have h0 : ¬(n + 1) % 4 = 0 := by omega
    have hk := fun d => (kept m c n (Nat.lt_of_succ_lt hn) a d).trans (congrArg (fun r => entry m c r d) (row_succ n hn h0 a))
    have hs := fun b => summed m c n (Nat.lt_of_succ_lt hn) (by omega) a b
    rw [outsAt0_C m c ⟨n + 1, hn⟩ h0 h1]
    dsimp only
    rw [left_C]
    refine (ended_apply _ _ a b).trans ?_
    refine congrArg₂ (fun u v => normed u v b) (funext fun b => ?_) (funext fun e => ends_at m c ⟨n + 1, hn⟩ e)
    refine (step m c ⟨n + 1, hn⟩ _ _ a b hk).trans ?_
    refine (congrArg (· + _) (hs b)).trans ?_
    rw [row_succ n hn h0 a, add_assoc, ← parts_all]
    refine congrArg (_ + ·) ?_
    have e : (n + 1) % 4 = n % 4 + 1 := by omega
    rw [show 8192 = 2048 * (n % 4 + 1) + 2048 by omega, Finset.sum_range_add]
    dsimp only
    rw [e]

/-- What the call leaves in its result. -/
theorem result_eq (W : FVec Ideal S16384x2048 .f32)
    (hW : ∀ (r : Fin 16384) (d : Fin 2048), W (ix2 r d) = normed (fun b => base m c r b
      + ∑ f : Fin 8192, part m c r b f) (fun e => m ((c : Thread nD τ).loc main_arg4) (ix2 0 e)) d) :
    (dats m 0 c).arrAt 5 cfg0.N = W := by
  refine (dats m 0 c).arrAt_eq_of_covers 5 _ (by decide +kernel) fun t hf y => ?_
  blk_simp
  rw [after0_5]
  obtain ⟨a, b, rfl⟩ : ∃ (a : Fin 512) (b : Fin 2048), y = ix2 a b := ⟨y 0, y 1, eq_ix2 y⟩
  have e : ((cfg0.win 5).blk t).view.emb (ix2 a b) = ix2 (row t.val (points t) a) b := by
    blk_ext [at5]
    show t.val / 4 * 512 + a.val = 512 * (t.val / 4) + a.val
    omega
  rw [e, hW]
  exact written m c t ((flush0_5 t).mp hf) a b

end Cert.FfIdeal.Gen

end
-- ==== Proof.Rows.FfReference.lean ====
/- The reference of the feed-forward entry by entry: a row plus its hidden units' products with a column, the sum normed. -/
module

public import proofs.«01_k».proof.Proof.Gen.FfReferenceIdeal.Run
public import proofs.«01_k».proof.Proof.Rows.Norm

@[expose] public section

set_option maxRecDepth 16384

noncomputable section

namespace Cert.FfReferenceIdeal.Value

open Idealize.ShloMosaic Idealize.ShloMosaic.TcCoe Idealize.SL.Sem
open Facts₀ Facts
open Cert.Rows

/-- The rows normed. -/
def norms (x : FVec Ideal S16384x2048 .f32) (g : FVec Ideal S1x2048 .f32) : FVec Ideal S16384x2048 .f32 :=
  mulf (mulf x (broadcastInDim S16384x2048 ![0, 1] bcast_S16384x1_S16384x2048_0_1
      (Host.rsqrt (addf (Host.divf (broadcastInDim S16384x1 ![0] bcast_S16384_S16384x1_0
          (Host.reduceAdd (mulf x x) (constant S_ .f32 0x00000000#32) reducesTo_S16384x2048_S16384_d1 h_S_))
        (broadcastInDim S16384x1 ![] bcast_S_S16384x1 (constant S_ .f32 0x45000000#32)))
        (broadcastInDim S16384x1 ![] bcast_S_S16384x1 (constant S_ .f32 0x358637BD#32))))))
    (broadcastInDim S16384x2048 ![0, 1] bcast_S1x2048_S16384x2048_0_1 g)

/-- The positive parts of the normed rows' products with the hidden columns. -/
def positive (h : FVec Ideal S16384x2048 .f32) (u : FVec Ideal S2048x8192 .bf16) : FVec Ideal S16384x8192 .f32 :=
  maximumf (Host.dotGeneral dot_S16384x2048_S2048x8192_S16384x8192_1_0_0_1_n_n none h (extf .f32 u bitsLt_bf16_f32))
    (broadcastInDim S16384x8192 ![] bcast_S_S16384x8192 (constant S_ .f32 0x00000000#32))

/-- The rows plus their squared hidden units' products with the way back. -/
def summed (x : FVec Ideal S16384x2048 .f32) (p : FVec Ideal S16384x8192 .f32) (w : FVec Ideal S8192x2048 .bf16) : FVec Ideal S16384x2048 .f32 :=
  addf x (Host.dotGeneral dot_S16384x8192_S8192x2048_S16384x2048_1_0_0_1_n_n none (mulf p p) (extf .f32 w bitsLt_bf16_f32))

/-- The whole feed-forward. -/
def forward (x : FVec Ideal S16384x2048 .f32) (g : FVec Ideal S1x2048 .f32) (u : FVec Ideal S2048x8192 .bf16) (w : FVec Ideal S8192x2048 .bf16)
    (gf : FVec Ideal S1x2048 .f32) : FVec Ideal S16384x2048 .f32 :=
  norms (summed x (positive (norms x g) u) w) gf

theorem result_eq (m : (ℓ : Loc nD τ sig) → Buf (Elt Ideal) ℓ) (c : Dev nD) :
    res_main_v30 m c = forward (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem norms_apply (x : FVec Ideal S16384x2048 .f32) (g : FVec Ideal S1x2048 .f32) (r : Fin 16384) (d : Fin 2048) :
    norms x g (ix2 r d) = normed (fun e => x (ix2 r e)) (fun e => g (ix2 0 e)) d := by
  unfold norms normed
  pointwise

theorem positive_apply (h : FVec Ideal S16384x2048 .f32) (u : FVec Ideal S2048x8192 .bf16) (r : Fin 16384) (f : Fin 8192) :
    positive h u (ix2 r f) = max (∑ d : Fin 2048, h (ix2 r d) * u (ix2 d f)) (Ideal.ofBits .f32 0x00000000#32) := by
  unfold positive
  pointwise

theorem summed_apply (x : FVec Ideal S16384x2048 .f32) (p : FVec Ideal S16384x8192 .f32) (w : FVec Ideal S8192x2048 .bf16) (r : Fin 16384) (b : Fin 2048) :
    summed x p w (ix2 r b) = x (ix2 r b) + ∑ f : Fin 8192, (p (ix2 r f) * p (ix2 r f) * w (ix2 f b) : EReal) := by
  unfold summed
  pointwise

theorem forward_apply (x : FVec Ideal S16384x2048 .f32) (g : FVec Ideal S1x2048 .f32) (u : FVec Ideal S2048x8192 .bf16) (w : FVec Ideal S8192x2048 .bf16)
    (gf : FVec Ideal S1x2048 .f32) (r : Fin 16384) (d : Fin 2048) :
    forward x g u w gf (ix2 r d) = normed (fun b => x (ix2 r b) + ∑ f : Fin 8192,
      Rows.unit (normed (fun e => x (ix2 r e)) (fun e => g (ix2 0 e))) (fun e => u (ix2 e f)) * w (ix2 f b)) (fun e => gf (ix2 0 e)) d := by
  unfold forward Rows.unit
  simp only [norms_apply, summed_apply, positive_apply]

end Cert.FfReferenceIdeal.Value

end
-- ==== Proof.Rows.FfMatch.lean ====
/- From agreeing operands the feed-forward's call and its reference compute one array. -/
module

public import proofs.«01_k».proof.Defs
public import proofs.«01_k».proof.Proof.Rows.FfTile
public import proofs.«01_k».proof.Proof.Rows.FfReference

@[expose] public section

set_option maxRecDepth 16384

noncomputable section

namespace Cert.FfMatch

open Idealize.ShloMosaic Idealize.ShloMosaic.TcCoe Idealize.SL.Sem
open Cert.FfIdeal Cert.FfIdeal.Gen
open Cert.Rows

variable (m : (ℓ : Loc nD τ sig) → Buf (Elt Ideal) ℓ)
  (m' : (ℓ : Loc Cert.FfReferenceIdeal.nD Cert.FfReferenceIdeal.τ Cert.FfReferenceIdeal.sig) → Buf (Elt Ideal) ℓ) (c : Dev nD)

theorem call_eq (h0 : m' ((c.tc : Thread Cert.FfReferenceIdeal.nD Cert.FfReferenceIdeal.τ).loc Cert.FfReferenceIdeal.main_arg0) = m ((c.tc : Thread nD τ).loc main_arg0))
    (h1 : m' ((c.tc : Thread Cert.FfReferenceIdeal.nD Cert.FfReferenceIdeal.τ).loc Cert.FfReferenceIdeal.main_arg1) = m ((c.tc : Thread nD τ).loc main_arg1))
    (h2 : m' ((c.tc : Thread Cert.FfReferenceIdeal.nD Cert.FfReferenceIdeal.τ).loc Cert.FfReferenceIdeal.main_arg2) = m ((c.tc : Thread nD τ).loc main_arg2))
    (h3 : m' ((c.tc : Thread Cert.FfReferenceIdeal.nD Cert.FfReferenceIdeal.τ).loc Cert.FfReferenceIdeal.main_arg3) = m ((c.tc : Thread nD τ).loc main_arg3))
    (h4 : m' ((c.tc : Thread Cert.FfReferenceIdeal.nD Cert.FfReferenceIdeal.τ).loc Cert.FfReferenceIdeal.main_arg4) = m ((c.tc : Thread nD τ).loc main_arg4)) :
    (dats m 0 c).arrAt 5 cfg0.N = Cert.FfReferenceIdeal.Value.res_main_v30 m' c := by
  refine Cert.FfIdeal.Gen.result_eq m c _ fun r d => ?_
  rw [Cert.FfReferenceIdeal.Value.result_eq, h0, h1, h2, h3, h4]
  exact Cert.FfReferenceIdeal.Value.forward_apply _ _ _ _ _ r d

end Cert.FfMatch

end
-- ==== Proof.Rows.InnerCases.lean ====
/- What the body of the feed-forward without its last norm leaves behind: the first block of hidden columns norms the rows and keeps
   them and starts the sum at the rows themselves, and every block adds its share. -/
module

public import proofs.«01_k».proof.Proof.Gen.InnerIdeal.Frame
public import proofs.«01_k».proof.Proof.Rows.Norm
public import Idealize.ShloMosaic.Lib.Pipeline.Value
public import Idealize.ShloMosaic.Lib.Tactic

@[expose] public section

set_option maxRecDepth 16384

noncomputable section

namespace Cert.InnerIdeal.Gen

open Idealize.ShloMosaic Idealize.ShloMosaic.TcCoe Idealize.ShloMosaic.Tactic Idealize.SL.Sem
open Facts₀ Facts
open Cert.Rows

theorem at_start : (![0, 0] : Fin 2 → Nat) = fun _ => 0 := by decide

theorem kept_A (c : Dev nD) (i : grid0.Coords) (a2 : Memref sig .tc .vmem S512x2048 .f32) (h2 : a2.IsWhole) (a3 : Memref sig .tc .vmem S1x2048 .f32) (h3 : a3.IsWhole) (a4 : Memref sig .tc
    .vmem S2048x2048 .bf16) (h4 : a4.IsWhole) (a5 : Memref sig .tc .vmem S2048x2048 .bf16) (h5 : a5.IsWhole) (a6 : Memref sig .tc .vmem S1x2048
    .f32) (h6 : a6.IsWhole) (a7 : Memref sig .tc .vmem S512x2048 .f32) (h7 : a7.IsWhole) (a8 : Memref sig .tc .vmem S512x2048 .bf16) (h8 :
    a8.IsWhole)
    (hc0 : cond0_0 i) (x : Vec Ideal S512x2048 .f32) (g : Vec Ideal S1x2048 .f32) (u : Vec Ideal S2048x2048 .bf16) (w : Vec Ideal S2048x2048 .bf16)
    (gf : Vec Ideal S1x2048 .f32) :
    sout0_A_0 c i a2 h2 a3 h3 a4 h4 a5 h5 a6 h6 a7 h7 a8 h8 hc0 x g u w gf = k0_pay1 x g := by
  unfold sout0_A_0
  rw [View.read_writes_eq_canon _ _ _ (scover0_A_0 c i a2 h2 a3 h3 a4 h4 a5 h5 a6 h6 a7 h7 a8 h8 hc0 x g u w gf)]
  unfold kernelRun0_A; dsimp only
  sl_unfold_words
  rw [View.canon_unit_zero at_start]
  simp only [View.readAt_eq_ld, h2.read_unread, h3.read_unread, h4.read_unread, h5.read_unread, h6.read_unread, h7.read_unread, h8.read_unread,
    View.ld_unit_zero (S := S512x2048) at_start, View.ld_unit_zero (S := S1x2048) at_start,
    View.ld_unit_zero (S := S2048x2048) at_start]

theorem left_A (c : Dev nD) (i : grid0.Coords) (a2 : Memref sig .tc .vmem S512x2048 .f32) (h2 : a2.IsWhole) (a3 : Memref sig .tc .vmem S1x2048 .f32) (h3 : a3.IsWhole) (a4 : Memref sig .tc
    .vmem S2048x2048 .bf16) (h4 : a4.IsWhole) (a5 : Memref sig .tc .vmem S2048x2048 .bf16) (h5 : a5.IsWhole) (a6 : Memref sig .tc .vmem S1x2048
    .f32) (h6 : a6.IsWhole) (a7 : Memref sig .tc .vmem S512x2048 .f32) (h7 : a7.IsWhole) (a8 : Memref sig .tc .vmem S512x2048 .bf16) (h8 :
    a8.IsWhole)
    (hc0 : cond0_0 i) (x : Vec Ideal S512x2048 .f32) (g : Vec Ideal S1x2048 .f32) (u : Vec Ideal S2048x2048 .bf16) (w : Vec Ideal S2048x2048 .bf16)
    (gf : Vec Ideal S1x2048 .f32) :
    out0_A_5 c i a2 h2 a3 h3 a4 h4 a5 h5 a6 h6 a7 h7 a8 h8 hc0 x g u w gf = k0_pay2 (k0_pay1 x g) u x w := by
  unfold out0_A_5
  rw [View.read_writes_eq_canon _ _ _ (cover0_A_5 c i a2 h2 a3 h3 a4 h4 a5 h5 a6 h6 a7 h7 a8 h8 hc0 x g u w gf)]
  unfold kernelRun0_A; dsimp only
  sl_unfold_words
  rw [View.canon_cons_unit_zero (S := S512x2048) at_start]
  simp only [View.readCov_unit_zero (S := S512x2048) _ at_start]
  simp only [View.readAt_eq_ld, h2.read_unread, h3.read_unread, h4.read_unread, h5.read_unread, h6.read_unread, h7.read_unread, h8.read_unread,
    View.ld_unit_zero (S := S512x2048) at_start, View.ld_unit_zero (S := S1x2048) at_start,
    View.ld_unit_zero (S := S2048x2048) at_start]

theorem left_B (c : Dev nD) (i : grid0.Coords) (a2 : Memref sig .tc .vmem S512x2048 .f32) (h2 : a2.IsWhole) (a3 : Memref sig .tc .vmem S1x2048 .f32) (h3 : a3.IsWhole) (a4 : Memref sig .tc
    .vmem S2048x2048 .bf16) (h4 : a4.IsWhole) (a5 : Memref sig .tc .vmem S2048x2048 .bf16) (h5 : a5.IsWhole) (a6 : Memref sig .tc .vmem S1x2048
    .f32) (h6 : a6.IsWhole) (a7 : Memref sig .tc .vmem S512x2048 .f32) (h7 : a7.IsWhole) (a8 : Memref sig .tc .vmem S512x2048 .bf16) (h8 :
    a8.IsWhole)
    (hc0 : ¬cond0_0 i) (x : Vec Ideal S512x2048 .f32) (g : Vec Ideal S1x2048 .f32) (u : Vec Ideal S2048x2048 .bf16) (w : Vec Ideal S2048x2048 .bf16)
    (gf : Vec Ideal S1x2048 .f32) (s : Vec Ideal S512x2048 .f32) (k : Vec Ideal S512x2048 .bf16) :
    out0_B_5 c i a2 h2 a3 h3 a4 h4 a5 h5 a6 h6 a7 h7 a8 h8 hc0 x g u w gf s k = k0_pay2 k u s w := by
  unfold out0_B_5
  rw [View.read_writes_eq_canon _ _ _ (cover0_B_5 c i a2 h2 a3 h3 a4 h4 a5 h5 a6 h6 a7 h7 a8 h8 hc0 x g u w gf s k)]
  unfold kernelRun0_B; dsimp only
  sl_unfold_words
  rw [View.canon_unit_zero at_start]
  simp only [View.readAt_eq_ld, h2.read_unread, h3.read_unread, h4.read_unread, h5.read_unread, h6.read_unread, h7.read_unread, h8.read_unread,
    View.ld_unit_zero (S := S512x2048) at_start, View.ld_unit_zero (S := S1x2048) at_start,
    View.ld_unit_zero (S := S2048x2048) at_start]

theorem normed_apply (x : Vec Ideal S512x2048 .f32) (g : Vec Ideal S1x2048 .f32) (a : Fin 512) (d : Fin 2048) :
    k0_pay1 x g (ix2 a d) = normed (fun e => x (ix2 a e)) (fun e => g (ix2 0 e)) d := by
  unfold k0_pay1 normed
  pointwise

theorem added_apply (h : Vec Ideal S512x2048 .bf16) (u : Vec Ideal S2048x2048 .bf16) (s : Vec Ideal S512x2048 .f32) (w : Vec Ideal S2048x2048 .bf16)
    (a : Fin 512) (b : Fin 2048) :
    k0_pay2 h u s w (ix2 a b) = s (ix2 a b) + ∑ f : Fin 2048, Rows.unit (fun d => h (ix2 a d)) (fun d => u (ix2 d f)) * w (ix2 f b) := by
  unfold k0_pay2 Rows.unit
  pointwise

end Cert.InnerIdeal.Gen

end
-- ==== Proof.Rows.InnerTile.lean ====
/- The result of the feed-forward without its last norm as one array: four grid points work at one tile of rows, each adding the
   products of a quarter of the hidden units. -/
module

public import proofs.«01_k».proof.Proof.Rows.InnerCases
public import Idealize.ShloMosaic.Lib.Pipeline.ValueKit

@[expose] public section

set_option maxRecDepth 16384

noncomputable section

namespace Cert.InnerIdeal.Gen

open Idealize.ShloMosaic Idealize.ShloMosaic.TcCoe Idealize.ShloMosaic.Tactic Idealize.SL.Sem
open Idealize.ShloMosaic.Pipeline (Dat Cfg Window)
open Cert.Rows

variable (m : (ℓ : Loc nD τ sig) → Buf (Elt Ideal) ℓ) (c : Dev nD)

theorem at0 : ∀ t : Fin cfg0.N, win0_0.index t = ![t.val / 4, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, t.val % 4] := (by decide +kernel : ∀ t : Fin grid0.N, _)
theorem at3 : ∀ t : Fin cfg0.N, win0_3.index t = ![t.val % 4, 0] := (by decide +kernel : ∀ t : Fin grid0.N, _)
theorem at5 : ∀ t : Fin cfg0.N, win0_5.index t = ![t.val / 4, 0] := (by decide +kernel : ∀ t : Fin grid0.N, _)

theorem points (t : Fin cfg0.N) : t.val < 128 := t.isLt

/-- The row of the argument that a tile's row is. -/
def row (n : ℕ) (hn : n < 128) (a : Fin 512) : Fin 16384 := ⟨512 * (n / 4) + a.val, by omega⟩

/-- The hidden unit that a block's column is. -/
def hid (n : ℕ) (f : Fin 2048) : Fin 8192 := ⟨2048 * (n % 4) + f.val, by omega⟩

theorem rows_at (t : Fin cfg0.N) (a : Fin 512) (d : Fin 2048) :
    (iblk m c 0 t : Vec Ideal S512x2048 .f32) (ix2 a d) = m ((c : Thread nD τ).loc main_arg0) (ix2 (row t.val (points t) a) d) := by
  blk_simp [iblk]
  refine congrArg (m ((c : Thread nD τ).loc main_arg0)) ?_
  blk_ext [at0]
  show t.val / 4 * 512 + a.val = 512 * (t.val / 4) + a.val
  omega

theorem gains_at (t : Fin cfg0.N) (d : Fin 2048) :
    (iblk m c 1 t : Vec Ideal S1x2048 .f32) (ix2 0 d) = m ((c : Thread nD τ).loc main_arg1) (ix2 0 d) := by
  blk_simp [iblk]
  refine congrArg (m ((c : Thread nD τ).loc main_arg1)) ?_
  blk_ext [at1]

theorem ups_at (t : Fin cfg0.N) (d : Fin 2048) (f : Fin 2048) :
    (iblk m c 2 t : Vec Ideal S2048x2048 .bf16) (ix2 d f) = m ((c : Thread nD τ).loc main_arg2) (ix2 d (hid t.val f)) := by
  blk_simp [iblk]
  refine congrArg (m ((c : Thread nD τ).loc main_arg2)) ?_
  blk_ext [at2]
  show t.val % 4 * 2048 + f.val = 2048 * (t.val % 4) + f.val
  omega

theorem downs_at (t : Fin cfg0.N) (f : Fin 2048) (b : Fin 2048) :
    (iblk m c 3 t : Vec Ideal S2048x2048 .bf16) (ix2 f b) = m ((c : Thread nD τ).loc main_arg3) (ix2 (hid t.val f) b) := by
  blk_simp [iblk]
  refine congrArg (m ((c : Thread nD τ).loc main_arg3)) ?_
  blk_ext [at3]
  show t.val % 4 * 2048 + f.val = 2048 * (t.val % 4) + f.val
  omega

/-- An entry of the rows themselves. -/
def base (r : Fin 16384) (b : Fin 2048) : EReal := m ((c : Thread nD τ).loc main_arg0) (ix2 r b)

/-- The normed entries of a row of the argument. -/
def entry (r : Fin 16384) : Fin 2048 → EReal :=
  normed (fun e => m ((c : Thread nD τ).loc main_arg0) (ix2 r e)) fun e => m ((c : Thread nD τ).loc main_arg1) (ix2 0 e)

/-- What a hidden unit adds to an entry of the result. -/
def part (r : Fin 16384) (b : Fin 2048) (f : Fin 8192) : EReal :=
  Rows.unit (entry m c r) (fun e => m ((c : Thread nD τ).loc main_arg2) (ix2 e f)) * m ((c : Thread nD τ).loc main_arg3) (ix2 f b)

/-- The same, the unit by a number that may run on. -/
def partAt (r : Fin 16384) (b : Fin 2048) (i : ℕ) : EReal := part m c r b ⟨i % 8192, Nat.mod_lt _ (by decide)⟩

theorem part_hid (r : Fin 16384) (b : Fin 2048) (n : ℕ) (f : Fin 2048) : part m c r b (hid n f) = partAt m c r b (2048 * (n % 4) + f.val) := by
  refine congrArg (part m c r b) (Fin.ext ?_)
  show 2048 * (n % 4) + f.val = (2048 * (n % 4) + f.val) % 8192
  omega

theorem parts_all (r : Fin 16384) (b : Fin 2048) : ∑ i ∈ Finset.range 8192, partAt m c r b i = ∑ f : Fin 8192, part m c r b f := by
  rw [Finset.sum_range]
  refine Finset.sum_congr rfl fun f _ => congrArg (part m c r b) (Fin.ext ?_)
  exact Nat.mod_eq_of_lt f.isLt

theorem fresh (t : Fin cfg0.N) (a : Fin 512) (d : Fin 2048) :
    k0_pay1 (iblk m c 0 t) (iblk m c 1 t) (ix2 a d) = entry m c (row t.val (points t) a) d := by
  refine (normed_apply _ _ a d).trans ?_
  unfold entry
  simp only [rows_at, gains_at]

/-- Points of one tile share its rows. -/
theorem row_succ (n : ℕ) (hn : n + 1 < 128) (h0 : ¬(n + 1) % 4 = 0) (a : Fin 512) : row n (Nat.lt_of_succ_lt hn) a = row (n + 1) hn a := by
  refine Fin.ext ?_
  show 512 * (n / 4) + a.val = 512 * ((n + 1) / 4) + a.val
  omega

/-- The rows kept at a point are the normed rows of its tile. -/
theorem kept (n : ℕ) (hn : n < cfg0.N) (a : Fin 512) (d : Fin 2048) :
    (outsAt0 m c n hn).2 (ix2 a d) = entry m c (row n hn a) d := by
  induction n with
  | zero =>
    rw [show outsAt0 m c 0 hn = _ from outsAt0_A m c ⟨0, hn⟩ rfl]
    dsimp only
    rw [kept_A]
    exact fresh m c ⟨0, hn⟩ a d
  | succ n ih =>
    by_cases h0 : (n + 1) % 4 = 0
    · rw [show outsAt0 m c (n + 1) hn = _ from outsAt0_A m c ⟨n + 1, hn⟩ h0]
      dsimp only
      rw [kept_A]
      exact fresh m c ⟨n + 1, hn⟩ a d
    · have e := (ih (Nat.lt_of_succ_lt hn)).trans (congrArg (fun r => entry m c r d) (row_succ n hn h0 a))
      rw [show outsAt0 m c (n + 1) hn = _ from outsAt0_B m c ⟨n + 1, hn⟩ h0]
      exact e

/-- What one step adds, the normed rows given. -/
theorem step (t : Fin cfg0.N) (k : Vec Ideal S512x2048 .bf16) (s : Vec Ideal S512x2048 .f32) (a : Fin 512) (b : Fin 2048)
    (hk : ∀ d, k (ix2 a d) = entry m c (row t.val (points t) a) d) :
    k0_pay2 k (iblk m c 2 t) s (iblk m c 3 t) (ix2 a b)
      = s (ix2 a b) + ∑ i ∈ Finset.range 2048, partAt m c (row t.val (points t) a) b (2048 * (t.val % 4) + i) := by
  refine (added_apply _ _ _ _ a b).trans (congrArg (s (ix2 a b) + ·) ?_)
  rw [Finset.sum_range]
  refine Finset.sum_congr rfl fun f _ => ?_
  rw [← part_hid, downs_at]
  simp only [hk, ups_at]
  rfl

/-- The sum after a point. -/
theorem summed (n : ℕ) (hn : n < cfg0.N) (a : Fin 512) (b : Fin 2048) :
    (outsAt0 m c n hn).1 (ix2 a b) = base m c (row n hn a) b
      + ∑ i ∈ Finset.range (2048 * (n % 4 + 1)), partAt m c (row n hn a) b i := by
  induction n with
  | zero =>
    rw [show outsAt0 m c 0 hn = _ from outsAt0_A m c ⟨0, hn⟩ rfl]
    dsimp only
    rw [left_A]
    refine (step m c ⟨0, hn⟩ _ _ a b (fresh m c ⟨0, hn⟩ a)).trans ?_
    rw [rows_at]
    simp [base]
  | succ n ih =>
    by_cases h0 : (n + 1) % 4 = 0
    · rw [show outsAt0 m c (n + 1) hn = _ from outsAt0_A m c ⟨n + 1, hn⟩ h0]
      dsimp only
      rw [left_A]
      refine (step m c ⟨n + 1, hn⟩ _ _ a b (fresh m c ⟨n + 1, hn⟩ a)).trans ?_
      rw [rows_at]
      simp [base, h0]
    · have hk := fun d => (kept m c n (Nat.lt_of_succ_lt hn) a d).trans (congrArg (fun r => entry m c r d) (row_succ n hn h0 a))
      have hs := ih (Nat.lt_of_succ_lt hn)
      rw [show outsAt0 m c (n + 1) hn = _ from outsAt0_B m c ⟨n + 1, hn⟩ h0]
      dsimp only
      rw [left_B]
      refine (step m c ⟨n + 1, hn⟩ _ _ a b hk).trans ?_
      refine (congrArg (· + _) hs).trans ?_
      rw [row_succ n hn h0 a, add_assoc]
      refine congrArg (_ + ·) ?_
      have e : (n + 1) % 4 = n % 4 + 1 := by omega
      rw [show 2048 * ((n + 1) % 4 + 1) = 2048 * (n % 4 + 1) + 2048 by omega, Finset.sum_range_add]
      dsimp only
      rw [e]

/-- What the call leaves in its result. -/
theorem result_eq (W : FVec Ideal S16384x2048 .f32)
    (hW : ∀ (r : Fin 16384) (b : Fin 2048), W (ix2 r b) = base m c r b + ∑ f : Fin 8192, part m c r b f) :
    (dats m 0 c).arrAt 5 cfg0.N = W := by
  refine (dats m 0 c).arrAt_eq_of_covers 5 _ (by decide +kernel) fun t hf y => ?_
  blk_simp
  rw [after0_5]
  obtain ⟨a, b, rfl⟩ : ∃ (a : Fin 512) (b : Fin 2048), y = ix2 a b := ⟨y 0, y 1, eq_ix2 y⟩
  have e : ((cfg0.win 5).blk t).view.emb (ix2 a b) = ix2 (row t.val (points t) a) b := by
    blk_ext [at5]
    show t.val / 4 * 512 + a.val = 512 * (t.val / 4) + a.val
    omega
  rw [e, hW, ← parts_all]
  refine (summed m c t.val t.isLt a b).trans ?_
  rw [(flush0_5 t).mp hf]

end Cert.InnerIdeal.Gen

end
-- ==== Proof.Rows.InnerReference.lean ====
/- The reference of a feed-forward that is not the last, entry by entry: a row plus its hidden units' products with a column. -/
module

public import proofs.«01_k».proof.Proof.Gen.InnerReferenceIdeal.Run
public import proofs.«01_k».proof.Proof.Rows.Norm

@[expose] public section

set_option maxRecDepth 16384

noncomputable section

namespace Cert.InnerReferenceIdeal.Value

open Idealize.ShloMosaic Idealize.ShloMosaic.TcCoe Idealize.SL.Sem
open Facts₀ Facts
open Cert.Rows

/-- The rows normed. -/
def norms (x : FVec Ideal S16384x2048 .f32) (g : FVec Ideal S1x2048 .f32) : FVec Ideal S16384x2048 .f32 :=
  mulf (mulf x (broadcastInDim S16384x2048 ![0, 1] bcast_S16384x1_S16384x2048_0_1
      (Host.rsqrt (addf (Host.divf (broadcastInDim S16384x1 ![0] bcast_S16384_S16384x1_0
          (Host.reduceAdd (mulf x x) (constant S_ .f32 0x00000000#32) reducesTo_S16384x2048_S16384_d1 h_S_))
        (broadcastInDim S16384x1 ![] bcast_S_S16384x1 (constant S_ .f32 0x45000000#32)))
        (broadcastInDim S16384x1 ![] bcast_S_S16384x1 (constant S_ .f32 0x358637BD#32))))))
    (broadcastInDim S16384x2048 ![0, 1] bcast_S1x2048_S16384x2048_0_1 g)

/-- The positive parts of the normed rows' products with the hidden columns. -/
def positive (h : FVec Ideal S16384x2048 .f32) (u : FVec Ideal S2048x8192 .bf16) : FVec Ideal S16384x8192 .f32 :=
  maximumf (Host.dotGeneral dot_S16384x2048_S2048x8192_S16384x8192_1_0_0_1_n_n none h (extf .f32 u bitsLt_bf16_f32))
    (broadcastInDim S16384x8192 ![] bcast_S_S16384x8192 (constant S_ .f32 0x00000000#32))

/-- The rows plus their squared hidden units' products with the way back. -/
def summed (x : FVec Ideal S16384x2048 .f32) (p : FVec Ideal S16384x8192 .f32) (w : FVec Ideal S8192x2048 .bf16) : FVec Ideal S16384x2048 .f32 :=
  addf x (Host.dotGeneral dot_S16384x8192_S8192x2048_S16384x2048_1_0_0_1_n_n none (mulf p p) (extf .f32 w bitsLt_bf16_f32))

/-- The whole feed-forward. -/
def forward (x : FVec Ideal S16384x2048 .f32) (g : FVec Ideal S1x2048 .f32) (u : FVec Ideal S2048x8192 .bf16) (w : FVec Ideal S8192x2048 .bf16)
    : FVec Ideal S16384x2048 .f32 :=
  summed x (positive (norms x g) u) w

theorem norms_apply (x : FVec Ideal S16384x2048 .f32) (g : FVec Ideal S1x2048 .f32) (r : Fin 16384) (d : Fin 2048) :
    norms x g (ix2 r d) = normed (fun e => x (ix2 r e)) (fun e => g (ix2 0 e)) d := by
  unfold norms normed
  pointwise

theorem positive_apply (h : FVec Ideal S16384x2048 .f32) (u : FVec Ideal S2048x8192 .bf16) (r : Fin 16384) (f : Fin 8192) :
    positive h u (ix2 r f) = max (∑ d : Fin 2048, h (ix2 r d) * u (ix2 d f)) (Ideal.ofBits .f32 0x00000000#32) := by
  unfold positive
  pointwise

theorem summed_apply (x : FVec Ideal S16384x2048 .f32) (p : FVec Ideal S16384x8192 .f32) (w : FVec Ideal S8192x2048 .bf16) (r : Fin 16384) (b : Fin 2048) :
    summed x p w (ix2 r b) = x (ix2 r b) + ∑ f : Fin 8192, (p (ix2 r f) * p (ix2 r f) * w (ix2 f b) : EReal) := by
  unfold summed
  pointwise

theorem forward_apply (x : FVec Ideal S16384x2048 .f32) (g : FVec Ideal S1x2048 .f32) (u : FVec Ideal S2048x8192 .bf16) (w : FVec Ideal S8192x2048 .bf16)
    (r : Fin 16384) (b : Fin 2048) :
    forward x g u w (ix2 r b) = x (ix2 r b) + ∑ f : Fin 8192,
      Rows.unit (normed (fun e => x (ix2 r e)) (fun e => g (ix2 0 e))) (fun e => u (ix2 e f)) * w (ix2 f b) := by
  unfold forward Rows.unit
  simp only [norms_apply, summed_apply, positive_apply]

end Cert.InnerReferenceIdeal.Value

end
-- ==== Proof.Rows.InnerMatch.lean ====
/- From agreeing operands the inner feed-forward's call and its reference compute one array. -/
module

public import proofs.«01_k».proof.Defs
public import proofs.«01_k».proof.Proof.Rows.InnerTile
public import proofs.«01_k».proof.Proof.Rows.InnerReference

@[expose] public section

set_option maxRecDepth 16384

noncomputable section

namespace Cert.InnerMatch

open Idealize.ShloMosaic Idealize.ShloMosaic.TcCoe Idealize.SL.Sem
open Cert.InnerIdeal Cert.InnerIdeal.Gen
open Cert.Rows

variable (m : (ℓ : Loc nD τ sig) → Buf (Elt Ideal) ℓ)
  (m' : (ℓ : Loc Cert.InnerReferenceIdeal.nD Cert.InnerReferenceIdeal.τ Cert.InnerReferenceIdeal.sig) → Buf (Elt Ideal) ℓ) (c : Dev nD)

theorem call_eq (h0 : m' ((c.tc : Thread Cert.InnerReferenceIdeal.nD Cert.InnerReferenceIdeal.τ).loc Cert.InnerReferenceIdeal.main_arg0) = m ((c.tc : Thread nD τ).loc main_arg0))
    (h1 : m' ((c.tc : Thread Cert.InnerReferenceIdeal.nD Cert.InnerReferenceIdeal.τ).loc Cert.InnerReferenceIdeal.main_arg1) = m ((c.tc : Thread nD τ).loc main_arg1))
    (h2 : m' ((c.tc : Thread Cert.InnerReferenceIdeal.nD Cert.InnerReferenceIdeal.τ).loc Cert.InnerReferenceIdeal.main_arg2) = m ((c.tc : Thread nD τ).loc main_arg2))
    (h3 : m' ((c.tc : Thread Cert.InnerReferenceIdeal.nD Cert.InnerReferenceIdeal.τ).loc Cert.InnerReferenceIdeal.main_arg3) = m ((c.tc : Thread nD τ).loc main_arg3))
    (_ : m' ((c.tc : Thread Cert.InnerReferenceIdeal.nD Cert.InnerReferenceIdeal.τ).loc Cert.InnerReferenceIdeal.main_arg4) = m ((c.tc : Thread nD τ).loc main_arg4)) :
    (dats m 0 c).arrAt 5 cfg0.N =
      Cert.InnerReferenceIdeal.Value.forward (m' ((c.tc : Thread Cert.InnerReferenceIdeal.nD Cert.InnerReferenceIdeal.τ).loc Cert.InnerReferenceIdeal.main_arg0))
      (m' ((c.tc : Thread Cert.InnerReferenceIdeal.nD Cert.InnerReferenceIdeal.τ).loc Cert.InnerReferenceIdeal.main_arg1))
      (m' ((c.tc : Thread Cert.InnerReferenceIdeal.nD Cert.InnerReferenceIdeal.τ).loc Cert.InnerReferenceIdeal.main_arg2))
      (m' ((c.tc : Thread Cert.InnerReferenceIdeal.nD Cert.InnerReferenceIdeal.τ).loc Cert.InnerReferenceIdeal.main_arg3)) := by
  refine Cert.InnerIdeal.Gen.result_eq m c _ fun r b => ?_
  rw [h0, h1, h2, h3]
  exact Cert.InnerReferenceIdeal.Value.forward_apply _ _ _ _ r b

end Cert.InnerMatch

end
-- ==== Proof.Rows.InprojCases.lean ====
/- What the body of the input projection leaves behind: the first column block of a row of blocks norms the rows and keeps them,
   and every block writes the product of the kept rows with its block of the weights. -/
module

public import proofs.«01_k».proof.Proof.Gen.InprojIdeal.Frame
public import proofs.«01_k».proof.Proof.Rows.Norm
public import Idealize.ShloMosaic.Lib.Pipeline.Value
public import Idealize.ShloMosaic.Lib.Tactic

@[expose] public section

set_option maxRecDepth 16384

noncomputable section

namespace Cert.InprojIdeal.Gen

open Idealize.ShloMosaic Idealize.ShloMosaic.TcCoe Idealize.ShloMosaic.Tactic Idealize.SL.Sem
open Facts₀ Facts
open Cert.Rows

theorem at_start : (![0, 0] : Fin 2 → Nat) = fun _ => 0 := by decide

theorem kept_A (c : Dev nD) (i : grid0.Coords) (a2 : Memref sig .tc .vmem S1024x2048 .f32) (h2 : a2.IsWhole) (a3 : Memref sig .tc .vmem S1x2048 .f32)
    (h3 : a3.IsWhole) (a4 : Memref sig .tc .vmem S2048x1792 .bf16) (h4 : a4.IsWhole) (a5 : Memref sig .tc .vmem S1024x1792 .bf16) (h5 : a5.IsWhole)
    (a6 : Memref sig .tc .vmem S1024x2048 .bf16) (h6 : a6.IsWhole) (hc : cond0_0 i) (x : Vec Ideal S1024x2048 .f32) (g : Vec Ideal S1x2048 .f32)
    (w : Vec Ideal S2048x1792 .bf16) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A; dsimp only
  sl_unfold_words
  rw [View.canon_unit_zero at_start]
  simp only [View.readAt_eq_ld, h2.read_unread, h3.read_unread, View.ld_unit_zero (S := S1024x2048) at_start, View.ld_unit_zero (S := S1x2048) at_start]

theorem left_A (c : Dev nD) (i : grid0.Coords) (a2 : Memref sig .tc .vmem S1024x2048 .f32) (h2 : a2.IsWhole) (a3 : Memref sig .tc .vmem S1x2048 .f32)
    (h3 : a3.IsWhole) (a4 : Memref sig .tc .vmem S2048x1792 .bf16) (h4 : a4.IsWhole) (a5 : Memref sig .tc .vmem S1024x1792 .bf16) (h5 : a5.IsWhole)
    (a6 : Memref sig .tc .vmem S1024x2048 .bf16) (h6 : a6.IsWhole) (hc : cond0_0 i) (x : Vec Ideal S1024x2048 .f32) (g : Vec Ideal S1x2048 .f32)
    (w : Vec Ideal S2048x1792 .bf16) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A; dsimp only
  sl_unfold_words
  rw [View.canon_unit_zero at_start]
  rw [View.readCov_unit_zero (S := S1024x2048) _ at_start]
  simp only [View.readAt_eq_ld, h2.read_unread, h3.read_unread, h4.read_unread, View.ld_unit_zero (S := S1024x2048) at_start,
    View.ld_unit_zero (S := S1x2048) at_start, View.ld_unit_zero (S := S2048x1792) at_start]

theorem left_B (c : Dev nD) (i : grid0.Coords) (a2 : Memref sig .tc .vmem S1024x2048 .f32) (h2 : a2.IsWhole) (a3 : Memref sig .tc .vmem S1x2048 .f32)
    (h3 : a3.IsWhole) (a4 : Memref sig .tc .vmem S2048x1792 .bf16) (h4 : a4.IsWhole) (a5 : Memref sig .tc .vmem S1024x1792 .bf16) (h5 : a5.IsWhole)
    (a6 : Memref sig .tc .vmem S1024x2048 .bf16) (h6 : a6.IsWhole) (hc : ¬cond0_0 i) (x : Vec Ideal S1024x2048 .f32) (g : Vec Ideal S1x2048 .f32)
    (w : Vec Ideal S2048x1792 .bf16) (k : Vec Ideal S1024x2048 .bf16) :
    out0_B_3 c i a2 h2 a3 h3 a4 h4 a5 h5 a6 h6 hc x g w k = k0_pay2 k w := by
  unfold out0_B_3
  rw [View.read_writes_eq_canon _ _ _ (cover0_B_3 c i a2 h2 a3 h3 a4 h4 a5 h5 a6 h6 hc x g w k)]
  unfold kernelRun0_B; dsimp only
  rw [View.canon_unit_zero at_start]
  simp only [View.readAt_eq_ld, h4.read_unread, h6.read_unread, View.ld_unit_zero (S := S1024x2048) at_start, View.ld_unit_zero (S := S2048x1792) at_start]

theorem normed_apply (x : Vec Ideal S1024x2048 .f32) (g : Vec Ideal S1x2048 .f32) (a : Fin 1024) (d : Fin 2048) :
    k0_pay1 x g (ix2 a d) = normed (fun e => x (ix2 a e)) (fun e => g (ix2 0 e)) d := by
  unfold k0_pay1 normed
  pointwise

theorem product_apply (h : Vec Ideal S1024x2048 .bf16) (w : Vec Ideal S2048x1792 .bf16) (a : Fin 1024) (b : Fin 1792) :
    k0_pay2 h w (ix2 a b) = ∑ d : Fin 2048, (h (ix2 a d) * w (ix2 d b) : EReal) := by
  unfold k0_pay2
  pointwise

end Cert.InprojIdeal.Gen

end
-- ==== Proof.Rows.InprojTile.lean ====
/- The input projection's result as one array: each grid point writes one tile of it, the product of the tile's normed rows with its
   block of columns. -/
module

public import proofs.«01_k».proof.Proof.Rows.InprojCases
public import Idealize.ShloMosaic.Lib.Pipeline.ValueKit

@[expose] public section

set_option maxRecDepth 16384

noncomputable section

namespace Cert.InprojIdeal.Gen

open Idealize.ShloMosaic Idealize.ShloMosaic.TcCoe Idealize.ShloMosaic.Tactic Idealize.SL.Sem
open Idealize.ShloMosaic.Pipeline (Dat Cfg Window)
open Cert.Rows

variable (m : (ℓ : Loc nD τ sig) → Buf (Elt Ideal) ℓ) (c : Dev nD)

theorem at0 : ∀ t : Fin cfg0.N, win0_0.index t = ![t.val / 4, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, t.val % 4] := (by decide +kernel : ∀ t : Fin grid0.N, _)
theorem at3 : ∀ t : Fin cfg0.N, win0_3.index t = ![t.val / 4, t.val % 4] := (by decide +kernel : ∀ t : Fin grid0.N, _)

theorem points (t : Fin cfg0.N) : t.val < 64 := t.isLt

/-- The row of the argument that a tile's row is. -/
def row (n : ℕ) (hn : n < 64) (a : Fin 1024) : Fin 16384 := ⟨1024 * (n / 4) + a.val, by omega⟩

/-- The column of the argument that a tile's column is. -/
def col (n : ℕ) (b : Fin 1792) : Fin 7168 := ⟨1792 * (n % 4) + b.val, by omega⟩

theorem rows_at (t : Fin cfg0.N) (a : Fin 1024) (d : Fin 2048) :
    (iblk m c 0 t : Vec Ideal S1024x2048 .f32) (ix2 a d) = m ((c : Thread nD τ).loc main_arg0) (ix2 (row t.val (points t) a) d) := by
  blk_simp [iblk]
  refine congrArg (m ((c : Thread nD τ).loc main_arg0)) ?_
  blk_ext [at0]
  show t.val / 4 * 1024 + a.val = 1024 * (t.val / 4) + a.val
  omega

theorem gains_at (t : Fin cfg0.N) (d : Fin 2048) :
    (iblk m c 1 t : Vec Ideal S1x2048 .f32) (ix2 0 d) = m ((c : Thread nD τ).loc main_arg1) (ix2 0 d) := by
  blk_simp [iblk]
  refine congrArg (m ((c : Thread nD τ).loc main_arg1)) ?_
  blk_ext [at1]

theorem weights_at (t : Fin cfg0.N) (d : Fin 2048) (b : Fin 1792) :
    (iblk m c 2 t : Vec Ideal S2048x1792 .bf16) (ix2 d b) = m ((c : Thread nD τ).loc main_arg2) (ix2 d (col t.val b)) := by
  blk_simp [iblk]
  refine congrArg (m ((c : Thread nD τ).loc main_arg2)) ?_
  blk_ext [at2]
  show t.val % 4 * 1792 + b.val = 1792 * (t.val % 4) + b.val
  omega

/-- The normed entry of a row of the argument. -/
def entry (r : Fin 16384) (d : Fin 2048) : EReal :=
  normed (fun e => m ((c : Thread nD τ).loc main_arg0) (ix2 r e)) (fun e => m ((c : Thread nD τ).loc main_arg1) (ix2 0 e)) d

theorem fresh (t : Fin cfg0.N) (a : Fin 1024) (d : Fin 2048) :
    k0_pay1 (iblk m c 0 t) (iblk m c 1 t) (ix2 a d) = entry m c (row t.val (points t) a) d := by
  refine (normed_apply _ _ a d).trans ?_
  unfold entry
  simp only [rows_at, gains_at]

/-- The rows kept at a point are the normed rows of its tile. -/
theorem kept (n : ℕ) (hn : n < cfg0.N) (a : Fin 1024) (d : Fin 2048) :
    (outsAt0 m c n hn).2 (ix2 a d) = entry m c (row n hn a) d := by
  induction n with
  | zero =>
    rw [show outsAt0 m c 0 hn = _ from outsAt0_A m c ⟨0, hn⟩ rfl]
    dsimp only
    rw [kept_A]
    exact fresh m c ⟨0, hn⟩ a d
  | succ n ih =>
    by_cases h0 : (n + 1) % 4 = 0
    · rw [show outsAt0 m c (n + 1) hn = _ from outsAt0_A m c ⟨n + 1, hn⟩ h0]
      dsimp only
      rw [kept_A]
      exact fresh m c ⟨n + 1, hn⟩ a d
    · rw [show outsAt0 m c (n + 1) hn = _ from outsAt0_B m c ⟨n + 1, hn⟩ h0]
      refine (ih (Nat.lt_of_succ_lt hn)).trans (congrArg (fun r => entry m c r d) (Fin.ext ?_))
      show 1024 * (n / 4) + a.val = 1024 * ((n + 1) / 4) + a.val
      omega

/-- What a point writes. -/
theorem written (t : Fin cfg0.N) (a : Fin 1024) (b : Fin 1792) :
    (outsAt0 m c t.val t.isLt).1 (ix2 a b)
      = ∑ d : Fin 2048, entry m c (row t.val (points t) a) d * m ((c : Thread nD τ).loc main_arg2) (ix2 d (col t.val b)) := by
  by_cases h0 : t.val % 4 = 0
  · rw [outsAt0_A m c t h0]
    dsimp only
    rw [left_A]
    refine (product_apply _ _ a b).trans (Finset.sum_congr rfl fun d _ => ?_)
    rw [fresh, weights_at]
  · have hk := fun d => kept m c t.val t.isLt a d
    rw [outsAt0_B m c t h0] at hk ⊢
    dsimp only at hk ⊢
    rw [left_B]
    refine (product_apply _ _ a b).trans (Finset.sum_congr rfl fun d _ => ?_)
    rw [weights_at]
    exact congrArg (· * _) (hk d)

/-- What the call leaves in its result. -/
theorem result_eq (W : FVec Ideal S16384x7168 .bf16)
    (hW : ∀ (r : Fin 16384) (f : Fin 7168), W (ix2 r f) = ∑ d : Fin 2048, entry m c r d * m ((c : Thread nD τ).loc main_arg2) (ix2 d f)) :
    (dats m 0 c).arrAt 3 cfg0.N = W := by
  refine (dats m 0 c).arrAt_eq_of_covers 3 _ (by decide +kernel) fun t hf y => ?_
  blk_simp
  rw [after0_3]
  obtain ⟨a, b, rfl⟩ : ∃ (a : Fin 1024) (b : Fin 1792), y = ix2 a b := ⟨y 0, y 1, eq_ix2 y⟩
  have e : ((cfg0.win 3).blk t).view.emb (ix2 a b) = ix2 (row t.val (points t) a) (col t.val b) := by
    blk_ext [at3]
    · show t.val / 4 * 1024 + a.val = 1024 * (t.val / 4) + a.val
      omega
    · show t.val % 4 * 1792 + b.val = 1792 * (t.val % 4) + b.val
      omega
  rw [e, hW]
  exact written m c t a b

end Cert.InprojIdeal.Gen

end
-- ==== Proof.Rows.InprojReference.lean ====
/- The reference of the input projection entry by entry: the product of a normed row with a column of the weights. -/
module

public import proofs.«01_k».proof.Proof.Gen.InprojReferenceIdeal.Run
public import proofs.«01_k».proof.Proof.Rows.Norm

@[expose] public section

set_option maxRecDepth 16384

noncomputable section

namespace Cert.InprojReferenceIdeal.Value

open Idealize.ShloMosaic Idealize.ShloMosaic.TcCoe Idealize.SL.Sem
open Facts₀ Facts
open Cert.Rows

/-- The rows normed. -/
def norms (x : FVec Ideal S16384x2048 .f32) (g : FVec Ideal S1x2048 .f32) : FVec Ideal S16384x2048 .f32 :=
  mulf (mulf x (broadcastInDim S16384x2048 ![0, 1] bcast_S16384x1_S16384x2048_0_1
      (Host.rsqrt (addf (Host.divf (broadcastInDim S16384x1 ![0] bcast_S16384_S16384x1_0
          (Host.reduceAdd (mulf x x) (constant S_ .f32 0x00000000#32) reducesTo_S16384x2048_S16384_d1 h_S_))
        (broadcastInDim S16384x1 ![] bcast_S_S16384x1 (constant S_ .f32 0x45000000#32)))
        (broadcastInDim S16384x1 ![] bcast_S_S16384x1 (constant S_ .f32 0x358637BD#32))))))
    (broadcastInDim S16384x2048 ![0, 1] bcast_S1x2048_S16384x2048_0_1 g)

/-- Their product with the weights. -/
def projected (x : FVec Ideal S16384x2048 .f32) (g : FVec Ideal S1x2048 .f32) (w : FVec Ideal S2048x7168 .bf16) : FVec Ideal S16384x7168 .bf16 :=
  truncf .bf16 (Host.dotGeneral dot_S16384x2048_S2048x7168_S16384x7168_1_0_0_1_n_n none (norms x g) (extf .f32 w bitsLt_bf16_f32)) bitsLt_bf16_f32

theorem norms_apply (x : FVec Ideal S16384x2048 .f32) (g : FVec Ideal S1x2048 .f32) (r : Fin 16384) (d : Fin 2048) :
    norms x g (ix2 r d) = normed (fun e => x (ix2 r e)) (fun e => g (ix2 0 e)) d := by
  unfold norms normed
  pointwise

theorem projected_apply (x : FVec Ideal S16384x2048 .f32) (g : FVec Ideal S1x2048 .f32) (w : FVec Ideal S2048x7168 .bf16) (r : Fin 16384) (f : Fin 7168) :
    projected x g w (ix2 r f) = ∑ d : Fin 2048, normed (fun e => x (ix2 r e)) (fun e => g (ix2 0 e)) d * w (ix2 d f) := by
  unfold projected
  pointwise
  simp only [norms_apply]

end Cert.InprojReferenceIdeal.Value

end
-- ==== Proof.Rows.InprojMatch.lean ====
/- From agreeing operands the input projection's call and its reference compute one array. -/
module

public import proofs.«01_k».proof.Defs
public import proofs.«01_k».proof.Proof.Rows.InprojTile
public import proofs.«01_k».proof.Proof.Rows.InprojReference

@[expose] public section

set_option maxRecDepth 16384

noncomputable section

namespace Cert.InprojMatch

open Idealize.ShloMosaic Idealize.ShloMosaic.TcCoe Idealize.SL.Sem
open Cert.InprojIdeal Cert.InprojIdeal.Gen
open Cert.Rows

variable (m : (ℓ : Loc nD τ sig) → Buf (Elt Ideal) ℓ)
  (m' : (ℓ : Loc Cert.InprojReferenceIdeal.nD Cert.InprojReferenceIdeal.τ Cert.InprojReferenceIdeal.sig) → Buf (Elt Ideal) ℓ) (c : Dev nD)

theorem call_eq (h0 : m' ((c.tc : Thread Cert.InprojReferenceIdeal.nD Cert.InprojReferenceIdeal.τ).loc Cert.InprojReferenceIdeal.main_arg0) = m ((c.tc : Thread nD τ).loc main_arg0))
    (h1 : m' ((c.tc : Thread Cert.InprojReferenceIdeal.nD Cert.InprojReferenceIdeal.τ).loc Cert.InprojReferenceIdeal.main_arg1) = m ((c.tc : Thread nD τ).loc main_arg1))
    (h2 : m' ((c.tc : Thread Cert.InprojReferenceIdeal.nD Cert.InprojReferenceIdeal.τ).loc Cert.InprojReferenceIdeal.main_arg2) = m ((c.tc : Thread nD τ).loc main_arg2)) :
    (dats m 0 c).arrAt 3 cfg0.N =
      Cert.InprojReferenceIdeal.Value.projected (m' ((c.tc : Thread Cert.InprojReferenceIdeal.nD Cert.InprojReferenceIdeal.τ).loc Cert.InprojReferenceIdeal.main_arg0))
      (m' ((c.tc : Thread Cert.InprojReferenceIdeal.nD Cert.InprojReferenceIdeal.τ).loc Cert.InprojReferenceIdeal.main_arg1))
      (m' ((c.tc : Thread Cert.InprojReferenceIdeal.nD Cert.InprojReferenceIdeal.τ).loc Cert.InprojReferenceIdeal.main_arg2)) := by
  refine Cert.InprojIdeal.Gen.result_eq m c _ fun r f => ?_
  rw [h0, h1, h2]
  exact Cert.InprojReferenceIdeal.Value.projected_apply _ _ _ r f

end Cert.InprojMatch

end
-- ==== Proof.Rows.Blend.lean ====
/- An entry of the mixing as one formula over the extended reals: two gated branches, projected back. -/
module

public import Idealize.ShloMosaic.Lib.Pointwise

@[expose] public section

noncomputable section

namespace Cert.Rows

open Idealize.ShloMosaic

/-- A channel of the short convolution: three taps over the last three steps, times its gate. -/
def conved (b w0 u0 w1 u1 w2 u2 : EReal) : EReal := b * (w0 * u0 + w1 * u1 + w2 * u2)

/-- The products of a channel's two columns at row `n - 2`, and zero at the two rows ahead of the first. -/
def back (g h : Fin 16384 → EReal) (n : ℕ) (hn : n < 16386) : EReal := if hb : 2 ≤ n then g ⟨n - 2, by omega⟩ * h ⟨n - 2, by omega⟩ else 0

/-- The two branches of a row, each under the logistic of its gate's entries, times a column of the way back. -/
def blended {n k : ℕ} (gc : Fin n → EReal) (p : Fin k → EReal) (u : Fin k → Fin n → EReal) (ga : Fin n → EReal) (q : Fin k → EReal)
    (v : Fin k → Fin n → EReal) (w : Fin n → EReal) : EReal :=
  ∑ e, (Ideal.logistic (gc e) * (∑ c, p c * u c e) + Ideal.logistic (ga e) * ∑ c, q c * v c e) * w e

end Cert.Rows

end
-- ==== Proof.Rows.MixCases.lean ====
/- What the body of the mixing leaves behind. Its scratch takes the sixteen products ahead of the tile and then the tile's own; the
   three taps read it at the rows 14, 15 and 16. -/
module

public import proofs.«01_k».proof.Proof.Gen.MixIdeal.Frame
public import proofs.«01_k».proof.Proof.Rows.Blend
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

namespace Cert.MixIdeal.Gen

open Idealize.ShloMosaic Idealize.ShloMosaic.TcCoe Idealize.ShloMosaic.Tactic Idealize.SL.Sem
open Facts₀ Facts
open Cert.Rows

theorem at_start : (![0, 0] : Fin 2 → Nat) = fun _ => 0 := by decide

/-- The scratch: sixteen rows of products ahead of the tile, then the tile's. -/
def ext (i : grid0.Coords) (x4 x5 : Vec Ideal S256x1024 .bf16) (x6 x7 : Vec Ideal S16x1024 .bf16) : Vec Ideal S272x1024 .f32 :=
  View.canon [⟨Rect.unit ![16, 0] ![256, 1024] inb_S272x1024_S256x1024_16_0, k0_pay3 x4 x5⟩,
    ⟨Rect.unit ![0, 0] ![16, 1024] inb_S272x1024_S16x1024_0_0, k0_pay2 i x6 x7⟩]

theorem left (c : Dev nD) (i : grid0.Coords) (a1 : Memref sig .tc .vmem S256x2048 .f32) (h1 : a1.IsWhole) (a2 : Memref sig .tc .vmem S256x2048 .bf16) (h2 : a2.IsWhole) (a3 : Memref sig
    .tc .vmem S256x2048 .bf16) (h3 : a3.IsWhole) (a4 : Memref sig .tc .vmem S256x1024 .bf16) (h4 : a4.IsWhole) (a5 : Memref sig .tc .vmem
    S256x1024 .bf16) (h5 : a5.IsWhole) (a6 : Memref sig .tc .vmem S256x1024 .bf16) (h6 : a6.IsWhole) (a7 : Memref sig .tc .vmem S16x1024 .bf16)
    (h7 : a7.IsWhole) (a8 : Memref sig .tc .vmem S16x1024 .bf16) (h8 : a8.IsWhole) (a9 : Memref sig .tc .vmem S256x1024 .bf16) (h9 : a9.IsWhole)
    (a10 : Memref sig .tc .vmem S3x1024 .f32) (h10 : a10.IsWhole) (a11 : Memref sig .tc .vmem S1x4096 .f32) (h11 : a11.IsWhole) (a12 : Memref
    sig .tc .vmem S1024x2048 .bf16) (h12 : a12.IsWhole) (a13 : Memref sig .tc .vmem S1024x2048 .bf16) (h13 : a13.IsWhole) (a14 : Memref sig .tc
    .vmem S2048x2048 .bf16) (h14 : a14.IsWhole) (a15 : Memref sig .tc .vmem S256x2048 .f32) (h15 : a15.IsWhole) (a16 : Memref sig .tc .vmem
    S272x1024 .f32) (h16 : a16.IsWhole)
    (x0 : Vec Ideal S256x2048 .f32) (x1 : Vec Ideal S256x2048 .bf16) (x2 : Vec Ideal S256x2048 .bf16) (x3 : Vec Ideal S256x1024 .bf16) (x4 : Vec
    Ideal S256x1024 .bf16) (x5 : Vec Ideal S256x1024 .bf16) (x6 : Vec Ideal S16x1024 .bf16) (x7 : Vec Ideal S16x1024 .bf16) (x8 : Vec Ideal
    S256x1024 .bf16) (x9 : Vec Ideal S3x1024 .f32) (x10 : Vec Ideal S1x4096 .f32) (x11 : Vec Ideal S1024x2048 .bf16) (x12 : Vec Ideal S1024x2048
    .bf16) (x13 : Vec Ideal S2048x2048 .bf16) :
    out0_A_14 c i a1 h1 a2 h2 a3 h3 a4 h4 a5 h5 a6 h6 a7 h7 a8 h8 a9 h9 a10 h10 a11 h11 a12 h12 a13 h13 a14 h14 a15 h15 a16 h16
      x0 x1 x2 x3 x4 x5 x6 x7 x8 x9 x10 x11 x12 x13 =
      k0_pay1 (k0_pay4 (View.ld (ext i x4 x5 x6 x7) (Rect.unit ![14, 0] ![256, 1024] inb_S272x1024_S256x1024_14_0))
          (View.ld x9 (Rect.unit ![0, 0] ![1, 1024] inb_S3x1024_S1x1024_0_0))
          (View.ld (ext i x4 x5 x6 x7) (Rect.unit ![15, 0] ![256, 1024] inb_S272x1024_S256x1024_15_0))
          (View.ld x9 (Rect.unit ![1, 0] ![1, 1024] inb_S3x1024_S1x1024_1_0)))
        (View.ld (ext i x4 x5 x6 x7) (Rect.unit ![16, 0] ![256, 1024] inb_S272x1024_S256x1024_16_0))
        (k0_pay5 (View.ld x9 (Rect.unit ![2, 0] ![1, 1024] inb_S3x1024_S1x1024_2_0))) x3 x11 x8 x12 x1
        (View.ld x10 (Rect.unit ![0, 0] ![1, 2048] inb_S1x4096_S1x2048_0_0)) x2
        (View.ld x10 (Rect.unit ![0, 2048] ![1, 2048] inb_S1x4096_S1x2048_0_2048)) x0 x13 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16
    x0 x1 x2 x3 x4 x5 x6 x7 x8 x9 x10 x11 x12 x13)]
  unfold kernelRun0_A; dsimp only
  sl_unfold_words
  rw [View.canon_unit_zero at_start]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1024x2048) at_start, View.ld_unit_zero (S := S16x1024) at_start, View.ld_unit_zero (S := S1x4096) at_start, View.ld_unit_zero (S := S2048x2048) at_start, View.ld_unit_zero (S := S256x1024) at_start, View.ld_unit_zero (S := S256x2048) at_start, View.ld_unit_zero (S := S3x1024) at_start]
  rw [View.readCov_eq_canon', View.readCov_eq_canon', View.readCov_eq_canon']
  rfl

/-- A row of the tile's own products. -/
theorem ext_own (i : grid0.Coords) (x4 x5 : Vec Ideal S256x1024 .bf16) (x6 x7 : Vec Ideal S16x1024 .bf16) (k : Fin 272) (a : Fin 256)
    (h : k.val = 16 + a.val) (c : Fin 1024) : ext i x4 x5 x6 x7 (ix2 k c) = (x4 (ix2 a c) * x5 (ix2 a c) : EReal) := by
  have e : (ix2 k c : S272x1024.Idx) = (Rect.unit ![16, 0] ![256, 1024] inb_S272x1024_S256x1024_16_0 : Rect S272x1024).emb (ix2 a c) := by
    funext b
    refine Fin.cases (Fin.ext ?_) (fun b => Fin.cases (Fin.ext ?_) (fun b => b.elim0) b) b
    · show k.val = 16 + 1 * a.val
      omega
    · show c.val = 0 + 1 * c.val
      omega
  unfold ext
  rw [e, View.canon_cons_emb]
  unfold k0_pay3
  pointwise

theorem pick_eq {α : Type} (k q : BitVec 32) (a b : α) :
    Scalar.select (Scalar.cmpi .eq k q) a b = if k = q then a else b := by
  show (if BitVec.ofBool (k == q) = 1#1 then a else b) = _
  by_cases h : k = q
  · simp [h]
  · rw [show (k == q) = false by simpa using h, if_neg h]
    rfl

/-- A row of the products ahead of the tile: zeros ahead of the first tile. -/
theorem ext_ahead (i : grid0.Coords) (x4 x5 : Vec Ideal S256x1024 .bf16) (x6 x7 : Vec Ideal S16x1024 .bf16) (k : Fin 272) (a : Fin 16)
    (h : k.val = a.val) (c : Fin 1024) :
    ext i x4 x5 x6 x7 (ix2 k c) = (if (i 0).val = 0 then 0 else x6 (ix2 a c) * x7 (ix2 a c) : EReal) := by
  have e : (ix2 k c : S272x1024.Idx) = (Rect.unit ![0, 0] ![16, 1024] inb_S272x1024_S16x1024_0_0 : Rect S272x1024).emb (ix2 a c) := by
    funext b
    refine Fin.cases (Fin.ext ?_) (fun b => Fin.cases (Fin.ext ?_) (fun b => b.elim0) b) b
    · show k.val = 0 + 1 * a.val
      omega
    · show c.val = 0 + 1 * c.val
      omega
  unfold ext
  rw [View.canon_cons_of_not_mem]
  · rw [e, View.canon_cons_emb]
    unfold k0_pay2
    pointwise
    rw [pick_eq]
    have hi : (i 0).val < 64 := (i 0).isLt
    refine if_congr ?_ rfl rfl
    constructor
    · intro hz
      have hv := congrArg BitVec.toNat hz
      rw [BitVec.toNat_ofNat] at hv
      change (i 0).val % 2 ^ 32 = 0 at hv
      omega
    · intro hz
      rw [hz]
  · intro hm
    have := (Rect.mem_set_unit (inb := inb_S272x1024_S256x1024_16_0).mp hm (0 : Fin 2)).1
    have : 16 ≤ k.val := this
    omega

/-- An entry of the body's result over its operands and the scratch. -/
theorem body_apply (E : Vec Ideal S272x1024 .f32)
    (x0 : Vec Ideal S256x2048 .f32) (x1 x2 : Vec Ideal S256x2048 .bf16) (x3 x8 : Vec Ideal S256x1024 .bf16) (x9 : Vec Ideal S3x1024 .f32)
    (x10 : Vec Ideal S1x4096 .f32) (x11 x12 : Vec Ideal S1024x2048 .bf16) (x13 : Vec Ideal S2048x2048 .bf16) (a : Fin 256) (d : Fin 2048) :
    k0_pay1 (k0_pay4 (View.ld E (Rect.unit ![14, 0] ![256, 1024] inb_S272x1024_S256x1024_14_0))
          (View.ld x9 (Rect.unit ![0, 0] ![1, 1024] inb_S3x1024_S1x1024_0_0))
          (View.ld E (Rect.unit ![15, 0] ![256, 1024] inb_S272x1024_S256x1024_15_0))
          (View.ld x9 (Rect.unit ![1, 0] ![1, 1024] inb_S3x1024_S1x1024_1_0)))
        (View.ld E (Rect.unit ![16, 0] ![256, 1024] inb_S272x1024_S256x1024_16_0))
        (k0_pay5 (View.ld x9 (Rect.unit ![2, 0] ![1, 1024] inb_S3x1024_S1x1024_2_0))) x3 x11 x8 x12 x1
        (View.ld x10 (Rect.unit ![0, 0] ![1, 2048] inb_S1x4096_S1x2048_0_0)) x2
        (View.ld x10 (Rect.unit ![0, 2048] ![1, 2048] inb_S1x4096_S1x2048_0_2048)) x0 x13 (ix2 a d)
      = x0 (ix2 a d) + blended (fun e : Fin 2048 => x1 (ix2 a e) + x10 (ix2 0 ⟨e.val, by omega⟩))
        (fun c : Fin 1024 => conved (x3 (ix2 a c)) (x9 (ix2 0 c)) (E (ix2 ⟨14 + a.val, by omega⟩ c)) (x9 (ix2 1 c)) (E (ix2 ⟨15 + a.val, by omega⟩ c))
          (x9 (ix2 2 c)) (E (ix2 ⟨16 + a.val, by omega⟩ c))) (fun c e => x11 (ix2 c e))
        (fun e : Fin 2048 => x2 (ix2 a e) + x10 (ix2 0 ⟨2048 + e.val, by omega⟩)) (fun c => x8 (ix2 a c)) (fun c e => x12 (ix2 c e))
        (fun e => x13 (ix2 e d)) := by
  unfold k0_pay1 k0_pay4 k0_pay5 blended conved
  pointwise

end Cert.MixIdeal.Gen

end
-- ==== Proof.Rows.MixTile.lean ====
/- The result of the mixing as one array: a grid point works at one tile of rows, with the sixteen rows ahead of it at hand. -/
module

public import proofs.«01_k».proof.Proof.Rows.MixCases
public import Idealize.ShloMosaic.Lib.Pipeline.ValueKit

@[expose] public section

set_option maxRecDepth 16384

noncomputable section

namespace Cert.MixIdeal.Gen

open Idealize.ShloMosaic Idealize.ShloMosaic.TcCoe Idealize.ShloMosaic.Tactic Idealize.SL.Sem
open Idealize.ShloMosaic.Pipeline (Dat Cfg Window)
open Cert.Rows

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 1] := (by decide +kernel : ∀ t : Fin grid0.N, _)
theorem at3 : ∀ t : Fin cfg0.N, win0_3.index t = ![t.val, 4] := (by decide +kernel : ∀ t : Fin grid0.N, _)
theorem at4 : ∀ t : Fin cfg0.N, win0_4.index t = ![t.val, 5] := (by decide +kernel : ∀ t : Fin grid0.N, _)
theorem at5 : ∀ t : Fin cfg0.N, win0_5.index t = ![t.val, 6] := (by decide +kernel : ∀ t : Fin grid0.N, _)
theorem at6 : ∀ t : Fin cfg0.N, win0_6.index t = ![16 * t.val - 1, 5] := (by decide +kernel : ∀ t : Fin grid0.N, _)
theorem at7 : ∀ t : Fin cfg0.N, win0_7.index t = ![16 * t.val - 1, 6] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)
theorem at12 : ∀ t : Fin cfg0.N, win0_12.index t = ![0, 0] := (by decide +kernel : ∀ t : Fin grid0.N, _)
theorem at13 : ∀ t : Fin cfg0.N, win0_13.index t = ![0, 0] := (by decide +kernel : ∀ t : Fin grid0.N, _)
theorem at14 : ∀ t : Fin cfg0.N, win0_14.index t = ![t.val, 0] := (by decide +kernel : ∀ t : Fin grid0.N, _)
theorem coord : ∀ t : Fin cfg0.N, (grid0.coords t 0).val = t.val := (by decide +kernel : ∀ t : Fin grid0.N, _)

theorem points (t : Fin cfg0.N) : t.val < 64 := t.isLt

/-- The row of the argument that a tile's row is. -/
def row (n : ℕ) (hn : n < 64) (a : Fin 256) : Fin 16384 := ⟨256 * n + a.val, by omega⟩

/-- The row of the argument that one of the sixteen ahead of a later tile is. -/
def halo (n : ℕ) (hn : n < 64) (a : Fin 16) : Fin 16384 := ⟨16 * (16 * n - 1) + a.val, by omega⟩

theorem rows_at (t : Fin cfg0.N) (a : Fin 256) (d : Fin 2048) :
    (iblk m c 0 t : Vec Ideal S256x2048 .f32) (ix2 a d) = m ((c : Thread nD τ).loc main_arg0) (ix2 (row t.val (points t) a) d) := by
  blk_simp [iblk]
  refine congrArg (m ((c : Thread nD τ).loc main_arg0)) ?_
  blk_ext [at0]
  show t.val * 256 + a.val = 256 * t.val + a.val
  omega

theorem gateC_at (t : Fin cfg0.N) (a : Fin 256) (e : Fin 2048) :
    (X0_1 m c t : Vec Ideal S256x2048 .bf16) (ix2 a e) = m ((c : Thread nD τ).loc main_arg1) (ix2 (row t.val (points t) a) ⟨e.val, by omega⟩) := by
  unfold X0_1 Window.fill
  rw [dif_pos (moved0_1 t (ix2 a e))]
  blk_simp [iblk]
  refine congrArg (m ((c : Thread nD τ).loc main_arg1)) ?_
  blk_ext [at1]
  show t.val * 256 + a.val = 256 * t.val + a.val
  omega

theorem gateA_at (t : Fin cfg0.N) (a : Fin 256) (e : Fin 2048) :
    (X0_2 m c t : Vec Ideal S256x2048 .bf16) (ix2 a e) = m ((c : Thread nD τ).loc main_arg1) (ix2 (row t.val (points t) a) ⟨2048 + e.val, by omega⟩) := by
  unfold X0_2 Window.fill
  rw [dif_pos (moved0_2 t (ix2 a e))]
  blk_simp [iblk]
  refine congrArg (m ((c : Thread nD τ).loc main_arg1)) ?_
  blk_ext [at2]
  · show t.val * 256 + a.val = 256 * t.val + a.val
    omega

theorem cb_at (t : Fin cfg0.N) (a : Fin 256) (e : Fin 1024) :
    (iblk m c 3 t : Vec Ideal S256x1024 .bf16) (ix2 a e) = m ((c : Thread nD τ).loc main_arg1) (ix2 (row t.val (points t) a) ⟨4096 + e.val, by omega⟩) := by
  blk_simp [iblk]
  refine congrArg (m ((c : Thread nD τ).loc main_arg1)) ?_
  blk_ext [at3]
  · show t.val * 256 + a.val = 256 * t.val + a.val
    omega

theorem cc_at (t : Fin cfg0.N) (a : Fin 256) (e : Fin 1024) :
    (iblk m c 4 t : Vec Ideal S256x1024 .bf16) (ix2 a e) = m ((c : Thread nD τ).loc main_arg1) (ix2 (row t.val (points t) a) ⟨5120 + e.val, by omega⟩) := by
  blk_simp [iblk]
  refine congrArg (m ((c : Thread nD τ).loc main_arg1)) ?_
  blk_ext [at4]
  · show t.val * 256 + a.val = 256 * t.val + a.val
    omega

theorem cv_at (t : Fin cfg0.N) (a : Fin 256) (e : Fin 1024) :
    (iblk m c 5 t : Vec Ideal S256x1024 .bf16) (ix2 a e) = m ((c : Thread nD τ).loc main_arg1) (ix2 (row t.val (points t) a) ⟨6144 + e.val, by omega⟩) := by
  blk_simp [iblk]
  refine congrArg (m ((c : Thread nD τ).loc main_arg1)) ?_
  blk_ext [at5]
  · show t.val * 256 + a.val = 256 * t.val + a.val
    omega

theorem ccp_at (t : Fin cfg0.N) (a : Fin 16) (e : Fin 1024) :
    (iblk m c 6 t : Vec Ideal S16x1024 .bf16) (ix2 a e) = m ((c : Thread nD τ).loc main_arg1) (ix2 (halo t.val (points t) a) ⟨5120 + e.val, by omega⟩) := by
  blk_simp [iblk]
  refine congrArg (m ((c : Thread nD τ).loc main_arg1)) ?_
  blk_ext [at6]
  · show (16 * t.val - 1) * 16 + a.val = 16 * (16 * t.val - 1) + a.val
    omega

theorem cvp_at (t : Fin cfg0.N) (a : Fin 16) (e : Fin 1024) :
    (iblk m c 7 t : Vec Ideal S16x1024 .bf16) (ix2 a e) = m ((c : Thread nD τ).loc main_arg1) (ix2 (halo t.val (points t) a) ⟨6144 + e.val, by omega⟩) := by
  blk_simp [iblk]
  refine congrArg (m ((c : Thread nD τ).loc main_arg1)) ?_
  blk_ext [at7]
  · show (16 * t.val - 1) * 16 + a.val = 16 * (16 * t.val - 1) + a.val
    omega

theorem attn_at (t : Fin cfg0.N) (a : Fin 256) (e : Fin 1024) :
    (iblk m c 8 t : Vec Ideal S256x1024 .bf16) (ix2 a e) = m ((c : Thread nD τ).loc main_arg2) (ix2 (row t.val (points t) a) e) := by
  blk_simp [iblk]
  refine congrArg (m ((c : Thread nD τ).loc main_arg2)) ?_
  blk_ext [at8]
  show t.val * 256 + a.val = 256 * t.val + a.val
  omega

theorem taps_at (t : Fin cfg0.N) (k : Fin 3) (e : Fin 1024) :
    (iblk m c 9 t : Vec Ideal S3x1024 .f32) (ix2 k e) = m ((c : Thread nD τ).loc main_arg3) (ix2 k e) := by
  blk_simp [iblk]
  refine congrArg (m ((c : Thread nD τ).loc main_arg3)) ?_
  blk_ext [at9]

theorem bias_at (t : Fin cfg0.N) (e : Fin 4096) :
    (iblk m c 10 t : Vec Ideal S1x4096 .f32) (ix2 0 e) = m ((c : Thread nD τ).loc main_arg4) (ix2 0 e) := by
  blk_simp [iblk]
  refine congrArg (m ((c : Thread nD τ).loc main_arg4)) ?_
  blk_ext [at10]

theorem wco_at (t : Fin cfg0.N) (a : Fin 1024) (e : Fin 2048) :
    (iblk m c 11 t : Vec Ideal S1024x2048 .bf16) (ix2 a e) = m ((c : Thread nD τ).loc main_arg5) (ix2 a e) := by
  blk_simp [iblk]
  refine congrArg (m ((c : Thread nD τ).loc main_arg5)) ?_
  blk_ext [at11]

theorem wao_at (t : Fin cfg0.N) (a : Fin 1024) (e : Fin 2048) :
    (iblk m c 12 t : Vec Ideal S1024x2048 .bf16) (ix2 a e) = m ((c : Thread nD τ).loc main_arg6) (ix2 a e) := by
  blk_simp [iblk]
  refine congrArg (m ((c : Thread nD τ).loc main_arg6)) ?_
  blk_ext [at12]

theorem wmo_at (t : Fin cfg0.N) (a : Fin 2048) (e : Fin 2048) :
    (iblk m c 13 t : Vec Ideal S2048x2048 .bf16) (ix2 a e) = m ((c : Thread nD τ).loc main_arg7) (ix2 a e) := by
  blk_simp [iblk]
  refine congrArg (m ((c : Thread nD τ).loc main_arg7)) ?_
  blk_ext [at13]

/-- A row of a tile's scratch is the row of products two back, zero ahead of the first row. -/
theorem ext_at (t : Fin cfg0.N) (e : Fin 1024) (p : Fin 272) (n : ℕ) (hn : n < 16386) (h14 : 14 ≤ p.val) (hp : n + 14 = 256 * t.val + p.val) :
    ext (grid0.coords t) (iblk m c 4 t) (iblk m c 5 t) (iblk m c 6 t) (iblk m c 7 t) (ix2 p e)
      = back (fun s => m ((c : Thread nD τ).loc main_arg1) (ix2 s ⟨5120 + e.val, by omega⟩))
        (fun s => m ((c : Thread nD τ).loc main_arg1) (ix2 s ⟨6144 + e.val, by omega⟩)) n hn := by
  have ht := points t
  unfold back
  by_cases h : 16 ≤ p.val
  · rw [ext_own _ _ _ _ _ p ⟨p.val - 16, by omega⟩ (by show p.val = 16 + (p.val - 16); omega) e, cc_at, cv_at, dif_pos (by omega)]
    have hr : row t.val (points t) ⟨p.val - 16, by omega⟩ = ⟨n - 2, by omega⟩ := by
      refine Fin.ext ?_
      show 256 * t.val + (p.val - 16) = n - 2
      omega
    rw [hr]
  · rw [ext_ahead _ _ _ _ _ p ⟨p.val, by omega⟩ rfl e, coord t]
    by_cases h0 : t.val = 0
    · rw [if_pos h0, dif_neg (by omega)]
    · rw [if_neg h0, ccp_at, cvp_at, dif_pos (by omega)]
      have hr : halo t.val (points t) ⟨p.val, by omega⟩ = ⟨n - 2, by omega⟩ := by
        refine Fin.ext ?_
        show 16 * (16 * t.val - 1) + p.val = n - 2
        omega
      rw [hr]

/-- An entry of the mixing. -/
def mixed (x : FVec Ideal S16384x2048 .f32) (z : FVec Ideal S16384x7168 .bf16) (t : FVec Ideal S16384x1024 .bf16) (w : FVec Ideal S3x1024 .f32)
    (b : FVec Ideal S1x4096 .f32) (u v : FVec Ideal S1024x2048 .bf16) (o : FVec Ideal S2048x2048 .bf16) (r : Fin 16384) (d : Fin 2048) : EReal :=
  x (ix2 r d) + blended (fun e : Fin 2048 => z (ix2 r ⟨e.val, by omega⟩) + b (ix2 0 ⟨e.val, by omega⟩))
    (fun c : Fin 1024 => conved (z (ix2 r ⟨4096 + c.val, by omega⟩))
      (w (ix2 0 c)) (back (fun s => z (ix2 s ⟨5120 + c.val, by omega⟩)) (fun s => z (ix2 s ⟨6144 + c.val, by omega⟩)) r.val (by omega))
      (w (ix2 1 c)) (back (fun s => z (ix2 s ⟨5120 + c.val, by omega⟩)) (fun s => z (ix2 s ⟨6144 + c.val, by omega⟩)) (1 + r.val) (by omega))
      (w (ix2 2 c)) (back (fun s => z (ix2 s ⟨5120 + c.val, by omega⟩)) (fun s => z (ix2 s ⟨6144 + c.val, by omega⟩)) (2 + r.val) (by omega)))
    (fun c e => u (ix2 c e))
    (fun e : Fin 2048 => z (ix2 r ⟨2048 + e.val, by omega⟩) + b (ix2 0 ⟨2048 + e.val, by omega⟩)) (fun c => t (ix2 r c)) (fun c e => v (ix2 c e))
    (fun e => o (ix2 e d))

/-- What a grid point leaves of its tile. -/
theorem tile (t : Fin cfg0.N) (a : Fin 256) (d : Fin 2048) :
    outsAt0 m c t (ix2 a d) = mixed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (row t.val (points t) a) d := by
  unfold outsAt0
  rw [left]
  refine (body_apply _ _ _ _ _ _ _ _ _ _ _ a d).trans ?_
  have h0 := fun e => ext_at m c t e ⟨14 + a.val, by omega⟩ (row t.val (points t) a).val (by omega) (by show 14 ≤ 14 + a.val; omega)
    (by show 256 * t.val + a.val + 14 = 256 * t.val + (14 + a.val); omega)
  have h1 := fun e => ext_at m c t e ⟨15 + a.val, by omega⟩ (1 + (row t.val (points t) a).val) (by omega) (by show 14 ≤ 15 + a.val; omega)
    (by show 1 + (256 * t.val + a.val) + 14 = 256 * t.val + (15 + a.val); omega)
  have h2 := fun e => ext_at m c t e ⟨16 + a.val, by omega⟩ (2 + (row t.val (points t) a).val) (by omega) (by show 14 ≤ 16 + a.val; omega)
    (by show 2 + (256 * t.val + a.val) + 14 = 256 * t.val + (16 + a.val); omega)
  simp only [h0, h1, h2, rows_at, gateC_at, gateA_at, cb_at, attn_at, taps_at, bias_at, wco_at, wao_at, wmo_at]
  rfl

/-- What the call leaves in its result. -/
theorem result_eq (W : FVec Ideal S16384x2048 .f32)
    (hW : ∀ (r : Fin 16384) (d : Fin 2048), W (ix2 r d) = mixed (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) r d) :
    (dats m 0 c).arrAt 14 cfg0.N = W := by
  refine (dats m 0 c).arrAt_eq_of_covers 14 _ (by decide +kernel) fun t hf y => ?_
  blk_simp
  rw [after0_14]
  obtain ⟨a, d, rfl⟩ : ∃ (a : Fin 256) (d : Fin 2048), y = ix2 a d := ⟨y 0, y 1, eq_ix2 y⟩
  have e : ((cfg0.win 14).blk t).view.emb (ix2 a d) = ix2 (row t.val (points t) a) d := by
    blk_ext [at14]
    show t.val * 256 + a.val = 256 * t.val + a.val
    omega
  rw [e, hW]
  exact tile m c t a d

end Cert.MixIdeal.Gen

end
-- ==== Proof.Rows.MixReference.lean ====
/- The reference of the mixing entry by entry: the short convolution over the padded products, the two gates, the two branches and
   the way back. -/
module

public import proofs.«01_k».proof.Proof.Gen.MixReferenceIdeal.Run
public import proofs.«01_k».proof.Proof.Rows.Blend

@[expose] public section

set_option maxRecDepth 16384

noncomputable section

namespace Cert.MixReferenceIdeal.Value

open Idealize.ShloMosaic Idealize.ShloMosaic.TcCoe Idealize.SL.Sem
open Facts₀ Facts
open Cert.Rows

/-- The products that the convolution runs over. -/
def pairs (z : FVec Ideal S16384x7168 .bf16) : FVec Ideal S16384x1024 .f32 :=
  mulf (extractStridedSlice S16384x1024 ![0, 5120] (extf .f32 z bitsLt_bf16_f32) slices_S16384x7168_S16384x1024_0_5120)
    (extractStridedSlice S16384x1024 ![0, 6144] (extf .f32 z bitsLt_bf16_f32) slices_S16384x7168_S16384x1024_0_6144)

/-- The same after two rows of zeros. -/
def padded (u : FVec Ideal S16384x1024 .f32) : FVec Ideal S16386x1024 .f32 :=
  pad S16386x1024 ![2, 0] ![0, 0] ![0, 0] u (sitofp .f32 (constantI S_ 32 0#32)) pads_S16384x1024_S16386x1024_200_000 h_S_

/-- The convolution under its gate. -/
def conv (z : FVec Ideal S16384x7168 .bf16) (w : FVec Ideal S3x1024 .f32) (P : FVec Ideal S16386x1024 .f32) : FVec Ideal S16384x1024 .f32 :=
  mulf (extractStridedSlice S16384x1024 ![0, 4096] (extf .f32 z bitsLt_bf16_f32) slices_S16384x7168_S16384x1024_0_4096)
    (addf (addf
      (mulf (broadcastInDim S16384x1024 ![0, 1] bcast_S1x1024_S16384x1024_0_1 (broadcastInDim S1x1024 ![1] bcast_S1024_S1x1024_1
          (shapeCast _ (extractStridedSlice S1x1024 ![0, 0] w slices_S3x1024_S1x1024_0_0) shapeCasts_S1x1024_S1024)))
        (extractStridedSlice S16384x1024 ![0, 0] P slices_S16386x1024_S16384x1024_0_0))
      (mulf (broadcastInDim S16384x1024 ![0, 1] bcast_S1x1024_S16384x1024_0_1 (broadcastInDim S1x1024 ![1] bcast_S1024_S1x1024_1
          (shapeCast _ (extractStridedSlice S1x1024 ![1, 0] w slices_S3x1024_S1x1024_1_0) shapeCasts_S1x1024_S1024)))
        (extractStridedSlice S16384x1024 ![1, 0] P slices_S16386x1024_S16384x1024_1_0)))
      (mulf (broadcastInDim S16384x1024 ![0, 1] bcast_S1x1024_S16384x1024_0_1 (broadcastInDim S1x1024 ![1] bcast_S1024_S1x1024_1
          (shapeCast _ (extractStridedSlice S1x1024 ![2, 0] w slices_S3x1024_S1x1024_2_0) shapeCasts_S1x1024_S1024)))
        (extractStridedSlice S16384x1024 ![2, 0] P slices_S16386x1024_S16384x1024_2_0)))

/-- The convolution's gate before its logistic. -/
def gateC (z : FVec Ideal S16384x7168 .bf16) (b : FVec Ideal S1x4096 .f32) : FVec Ideal S16384x2048 .f32 :=
  addf (extractStridedSlice S16384x2048 ![0, 0] (extf .f32 z bitsLt_bf16_f32) slices_S16384x7168_S16384x2048_0_0)
    (broadcastInDim S16384x2048 ![0, 1] bcast_S1x2048_S16384x2048_0_1 (extractStridedSlice S1x2048 ![0, 0] b slices_S1x4096_S1x2048_0_0))

/-- The attention's gate before its logistic. -/
def gateA (z : FVec Ideal S16384x7168 .bf16) (b : FVec Ideal S1x4096 .f32) : FVec Ideal S16384x2048 .f32 :=
  addf (extractStridedSlice S16384x2048 ![0, 2048] (extf .f32 z bitsLt_bf16_f32) slices_S16384x7168_S16384x2048_0_2048)
    (broadcastInDim S16384x2048 ![0, 1] bcast_S1x2048_S16384x2048_0_1 (extractStridedSlice S1x2048 ![0, 2048] b slices_S1x4096_S1x2048_0_2048))

/-- The logistic, written out. -/
def squash (x : FVec Ideal S16384x2048 .f32) : FVec Ideal S16384x2048 .f32 :=
  Host.divf (broadcastInDim S16384x2048 ![] bcast_S_S16384x2048 (constant S_ .f32 0x3F800000#32))
    (addf (broadcastInDim S16384x2048 ![] bcast_S_S16384x2048 (constant S_ .f32 0x3F800000#32)) (Host.exp (Host.negf x)))

/-- A branch's projection. -/
def branch (p : FVec Ideal S16384x1024 .f32) (u : FVec Ideal S1024x2048 .bf16) : FVec Ideal S16384x2048 .f32 :=
  Host.dotGeneral dot_S16384x1024_S1024x2048_S16384x2048_1_0_0_1_n_n none p (extf .f32 u bitsLt_bf16_f32)

/-- The branches merged, projected back and added to the rows. -/
def merge (x gc p ga q : FVec Ideal S16384x2048 .f32) (w : FVec Ideal S2048x2048 .bf16) : FVec Ideal S16384x2048 .f32 :=
  addf x (Host.dotGeneral dot_S16384x2048_S2048x2048_S16384x2048_1_0_0_1_n_n none (addf (mulf gc p) (mulf ga q)) (extf .f32 w bitsLt_bf16_f32))

/-- The whole mixing. -/
def mixing (x : FVec Ideal S16384x2048 .f32) (z : FVec Ideal S16384x7168 .bf16) (t : FVec Ideal S16384x1024 .bf16) (w : FVec Ideal S3x1024 .f32)
    (b : FVec Ideal S1x4096 .f32) (u v : FVec Ideal S1024x2048 .bf16) (o : FVec Ideal S2048x2048 .bf16) : FVec Ideal S16384x2048 .f32 :=
  merge x (squash (gateC z b)) (branch (conv z w (padded (pairs z))) u) (squash (gateA z b)) (branch (extf .f32 t bitsLt_bf16_f32) v) o

theorem result_eq (m : (ℓ : Loc nD τ sig) → Buf (Elt Ideal) ℓ) (c : Dev nD) :
    res_main_v57 m c = mixing (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

theorem pairs_apply (z : FVec Ideal S16384x7168 .bf16) (r : Fin 16384) (c : Fin 1024) :
    pairs z (ix2 r c) = (z (ix2 r ⟨5120 + c.val, by omega⟩) * z (ix2 r ⟨6144 + c.val, by omega⟩) : EReal) := by
  unfold pairs
  pointwise

theorem word_zero : (FloatOps.sitofp .f32 (0#32 : BitVec 32) : Ideal .f32) = 0 := by
  show (((0#32 : BitVec 32).toInt : ℝ) : EReal) = 0
  simp

theorem padded_apply (u : FVec Ideal S16384x1024 .f32) (r : Fin 16386) (c : Fin 1024) :
    padded u (ix2 r c) = if h : 2 ≤ r.val then u (ix2 ⟨r.val - 2, by omega⟩ c) else (0 : EReal) := by
  unfold padded pad
  by_cases h : 2 ≤ r.val
  · rw [dif_pos h, dif_pos]
    · refine congrArg u ?_
      funext a
      refine Fin.cases ?_ (fun a => Fin.cases ?_ (fun a => a.elim0) a) a
      · refine Fin.ext ?_
        show (r.val - 2) / 1 = r.val - 2
        omega
      · refine Fin.ext ?_
        show (c.val - 0) / 1 = c.val
        omega
    · intro a
      refine Fin.cases ?_ (fun a => Fin.cases ?_ (fun a => a.elim0) a) a
      · show 2 ≤ r.val ∧ (r.val - 2) % 1 = 0 ∧ (r.val - 2) / 1 < 16384
        omega
      · show 0 ≤ c.val ∧ (c.val - 0) % 1 = 0 ∧ (c.val - 0) / 1 < 1024
        omega
  · rw [dif_neg h, dif_neg]
    · pointwise
      rw [word_zero]
    · intro hh
      exact h (hh 0).1

theorem conv_apply (z : FVec Ideal S16384x7168 .bf16) (w : FVec Ideal S3x1024 .f32) (P : FVec Ideal S16386x1024 .f32) (r : Fin 16384) (c : Fin 1024) :
    conv z w P (ix2 r c) = conved (z (ix2 r ⟨4096 + c.val, by omega⟩)) (w (ix2 0 c)) (P (ix2 ⟨r.val, by omega⟩ c))
      (w (ix2 1 c)) (P (ix2 ⟨1 + r.val, by omega⟩ c)) (w (ix2 2 c)) (P (ix2 ⟨2 + r.val, by omega⟩ c)) := by
  unfold conv conved
  pointwise

theorem gateC_apply (z : FVec Ideal S16384x7168 .bf16) (b : FVec Ideal S1x4096 .f32) (r : Fin 16384) (e : Fin 2048) :
    gateC z b (ix2 r e) = (z (ix2 r ⟨e.val, by omega⟩) + b (ix2 0 ⟨e.val, by omega⟩) : EReal) := by
  unfold gateC
  pointwise

theorem gateA_apply (z : FVec Ideal S16384x7168 .bf16) (b : FVec Ideal S1x4096 .f32) (r : Fin 16384) (e : Fin 2048) :
    gateA z b (ix2 r e) = (z (ix2 r ⟨2048 + e.val, by omega⟩) + b (ix2 0 ⟨2048 + e.val, by omega⟩) : EReal) := by
  unfold gateA
  pointwise

theorem squash_apply (x : FVec Ideal S16384x2048 .f32) (r : Fin 16384) (e : Fin 2048) : squash x (ix2 r e) = Ideal.logistic (x (ix2 r e)) := by
  unfold squash Ideal.logistic
  pointwise

theorem branch_apply (p : FVec Ideal S16384x1024 .f32) (u : FVec Ideal S1024x2048 .bf16) (r : Fin 16384) (e : Fin 2048) :
    branch p u (ix2 r e) = ∑ c : Fin 1024, (p (ix2 r c) * u (ix2 c e) : EReal) := by
  unfold branch
  pointwise

theorem merge_apply (x gc p ga q : FVec Ideal S16384x2048 .f32) (w : FVec Ideal S2048x2048 .bf16) (r : Fin 16384) (d : Fin 2048) :
    merge x gc p ga q w (ix2 r d) = x (ix2 r d)
      + ∑ e : Fin 2048, ((gc (ix2 r e) * p (ix2 r e) + ga (ix2 r e) * q (ix2 r e)) * w (ix2 e d) : EReal) := by
  unfold merge
  pointwise

theorem mixing_apply (x : FVec Ideal S16384x2048 .f32) (z : FVec Ideal S16384x7168 .bf16) (t : FVec Ideal S16384x1024 .bf16) (w : FVec Ideal S3x1024 .f32)
    (b : FVec Ideal S1x4096 .f32) (u v : FVec Ideal S1024x2048 .bf16) (o : FVec Ideal S2048x2048 .bf16) (r : Fin 16384) (d : Fin 2048) :
    mixing x z t w b u v o (ix2 r d) = x (ix2 r d) + blended (fun e : Fin 2048 => z (ix2 r ⟨e.val, by omega⟩) + b (ix2 0 ⟨e.val, by omega⟩))
      (fun c : Fin 1024 => conved (z (ix2 r ⟨4096 + c.val, by omega⟩)) (w (ix2 0 c)) (back (fun s => z (ix2 s ⟨5120 + c.val, by omega⟩)) (fun s => z (ix2 s ⟨6144 + c.val, by omega⟩)) r.val (by omega))
        (w (ix2 1 c)) (back (fun s => z (ix2 s ⟨5120 + c.val, by omega⟩)) (fun s => z (ix2 s ⟨6144 + c.val, by omega⟩)) (1 + r.val) (by omega)) (w (ix2 2 c)) (back (fun s => z (ix2 s ⟨5120 + c.val, by omega⟩)) (fun s => z (ix2 s ⟨6144 + c.val, by omega⟩)) (2 + r.val) (by omega))) (fun c e => u (ix2 c e))
      (fun e : Fin 2048 => z (ix2 r ⟨2048 + e.val, by omega⟩) + b (ix2 0 ⟨2048 + e.val, by omega⟩)) (fun c => t (ix2 r c)) (fun c e => v (ix2 c e))
      (fun e => o (ix2 e d)) := by
  have ht : ∀ c : Fin 1024, (extf .f32 t bitsLt_bf16_f32 : FVec Ideal S16384x1024 .f32) (ix2 r c) = t (ix2 r c) := fun _ => rfl
  unfold mixing blended back
  simp only [merge_apply, squash_apply, gateC_apply, gateA_apply, branch_apply, conv_apply, padded_apply, pairs_apply, ht]

end Cert.MixReferenceIdeal.Value

end
-- ==== Proof.Rows.MixMatch.lean ====
/- From agreeing operands the mixing's call and its reference compute one array. -/
module

public import proofs.«01_k».proof.Defs
public import proofs.«01_k».proof.Proof.Rows.MixTile
public import proofs.«01_k».proof.Proof.Rows.MixReference

@[expose] public section

set_option maxRecDepth 16384

noncomputable section

namespace Cert.MixMatch

open Idealize.ShloMosaic Idealize.ShloMosaic.TcCoe Idealize.SL.Sem
open Cert.MixIdeal Cert.MixIdeal.Gen
open Cert.Rows

variable (m : (ℓ : Loc nD τ sig) → Buf (Elt Ideal) ℓ)
  (m' : (ℓ : Loc Cert.MixReferenceIdeal.nD Cert.MixReferenceIdeal.τ Cert.MixReferenceIdeal.sig) → Buf (Elt Ideal) ℓ) (c : Dev nD)

theorem call_eq (h0 : m' ((c.tc : Thread Cert.MixReferenceIdeal.nD Cert.MixReferenceIdeal.τ).loc Cert.MixReferenceIdeal.main_arg0) = m ((c.tc : Thread nD τ).loc main_arg0))
    (h1 : m' ((c.tc : Thread Cert.MixReferenceIdeal.nD Cert.MixReferenceIdeal.τ).loc Cert.MixReferenceIdeal.main_arg1) = m ((c.tc : Thread nD τ).loc main_arg1))
    (h2 : m' ((c.tc : Thread Cert.MixReferenceIdeal.nD Cert.MixReferenceIdeal.τ).loc Cert.MixReferenceIdeal.main_arg2) = m ((c.tc : Thread nD τ).loc main_arg2))
    (h3 : m' ((c.tc : Thread Cert.MixReferenceIdeal.nD Cert.MixReferenceIdeal.τ).loc Cert.MixReferenceIdeal.main_arg3) = m ((c.tc : Thread nD τ).loc main_arg3))
    (h4 : m' ((c.tc : Thread Cert.MixReferenceIdeal.nD Cert.MixReferenceIdeal.τ).loc Cert.MixReferenceIdeal.main_arg4) = m ((c.tc : Thread nD τ).loc main_arg4))
    (h5 : m' ((c.tc : Thread Cert.MixReferenceIdeal.nD Cert.MixReferenceIdeal.τ).loc Cert.MixReferenceIdeal.main_arg5) = m ((c.tc : Thread nD τ).loc main_arg5))
    (h6 : m' ((c.tc : Thread Cert.MixReferenceIdeal.nD Cert.MixReferenceIdeal.τ).loc Cert.MixReferenceIdeal.main_arg6) = m ((c.tc : Thread nD τ).loc main_arg6))
    (h7 : m' ((c.tc : Thread Cert.MixReferenceIdeal.nD Cert.MixReferenceIdeal.τ).loc Cert.MixReferenceIdeal.main_arg7) = m ((c.tc : Thread nD τ).loc main_arg7)) :
    (dats m 0 c).arrAt 14 cfg0.N = Cert.MixReferenceIdeal.Value.mixing
        (m' ((c.tc : Thread Cert.MixReferenceIdeal.nD Cert.MixReferenceIdeal.τ).loc Cert.MixReferenceIdeal.main_arg0))
        (m' ((c.tc : Thread Cert.MixReferenceIdeal.nD Cert.MixReferenceIdeal.τ).loc Cert.MixReferenceIdeal.main_arg1))
        (m' ((c.tc : Thread Cert.MixReferenceIdeal.nD Cert.MixReferenceIdeal.τ).loc Cert.MixReferenceIdeal.main_arg2))
        (m' ((c.tc : Thread Cert.MixReferenceIdeal.nD Cert.MixReferenceIdeal.τ).loc Cert.MixReferenceIdeal.main_arg3))
        (m' ((c.tc : Thread Cert.MixReferenceIdeal.nD Cert.MixReferenceIdeal.τ).loc Cert.MixReferenceIdeal.main_arg4))
        (m' ((c.tc : Thread Cert.MixReferenceIdeal.nD Cert.MixReferenceIdeal.τ).loc Cert.MixReferenceIdeal.main_arg5))
        (m' ((c.tc : Thread Cert.MixReferenceIdeal.nD Cert.MixReferenceIdeal.τ).loc Cert.MixReferenceIdeal.main_arg6))
        (m' ((c.tc : Thread Cert.MixReferenceIdeal.nD Cert.MixReferenceIdeal.τ).loc Cert.MixReferenceIdeal.main_arg7)) := by
  refine Cert.MixIdeal.Gen.result_eq m c _ fun r d => ?_
  rw [h0, h1, h2, h3, h4, h5, h6, h7]
  exact Cert.MixReferenceIdeal.Value.mixing_apply _ _ _ _ _ _ _ _ r d

end Cert.MixMatch

end
-- ==== Proof.Rows.PrepCases.lean ====
/- What the body of the preparation leaves in its queries and its values: each head's rows of the product of the weights with the
   normed rows, the queries over their selector rows and the values over a row of ones. -/
module

public import proofs.«01_k».proof.Proof.Gen.PrepIdeal.Frame
public import proofs.«01_k».proof.Proof.Rows.Norm
public import Idealize.ShloMosaic.Lib.Pipeline.Value
public import Idealize.ShloMosaic.Lib.Pipeline.ValueKit
public import Idealize.ShloMosaic.Lib.Tactic

@[expose] public section

set_option maxRecDepth 16384

noncomputable section

namespace Cert.PrepIdeal.Gen

open Idealize.ShloMosaic Idealize.ShloMosaic.TcCoe Idealize.ShloMosaic.Tactic Idealize.SL.Sem
open Facts₀ Facts
open Cert.Rows

theorem at_start : (![0, 0] : Fin 2 → Nat) = fun _ => 0 := by decide

/-- A row of the weights against a normed row. -/
def against (x : Vec Ideal S512x2048 .f32) (g : Vec Ideal S1x2048 .f32) (w : Vec Ideal S2048x2048 .bf16) (f : Fin 2048) (s : Fin 512) : EReal :=
  ∑ d : Fin 2048, w (ix2 f d) * normed (fun e => x (ix2 s e)) (fun e => g (ix2 0 e)) d

/-- One where a lane is one of a head's three. -/
def mark (h l : ℕ) : EReal := if l = h ∨ l = 8 + h ∨ l = 16 + h then 1 else 0

theorem normed_apply (x : Vec Ideal S512x2048 .f32) (g : Vec Ideal S1x2048 .f32) (a : Fin 512) (d : Fin 2048) :
    k0_pay4 x g (ix2 a d) = normed (fun e => x (ix2 a e)) (fun e => g (ix2 0 e)) d := by
  unfold k0_pay4 normed
  pointwise

theorem against_apply (x : Vec Ideal S512x2048 .f32) (g : Vec Ideal S1x2048 .f32) (w : Vec Ideal S2048x2048 .bf16) (f : Fin 2048) (s : Fin 512) :
    k0_pay5 x g w (ix2 f s) = against x g w f s := by
  unfold k0_pay5 against
  pointwise
  simp only [normed_apply]

/-- The queries of a block: the first 1024 rows of the products, scaled, over the selector rows. -/
def queries (x : Vec Ideal S512x2048 .f32) (g : Vec Ideal S1x2048 .f32) (w : Vec Ideal S2048x2048 .bf16) (h : Fin 8) (r : Fin 256) (s : Fin 512) : EReal :=
  if r.val < 128 then against x g w ⟨(128 * h.val + r.val) % 2048, by omega⟩ s * Ideal.ofBits .f32 0x3E0293EE#32 else mark h.val (r.val - 128)

/-- The values of a block: the other 1024 rows of the products, over a row of ones and rows of zeros. -/
def values (x : Vec Ideal S512x2048 .f32) (g : Vec Ideal S1x2048 .f32) (w : Vec Ideal S2048x2048 .bf16) (h : Fin 8) (r : Fin 144) (s : Fin 512) : EReal :=
  if r.val < 128 then against x g w ⟨(1024 + 128 * h.val + r.val) % 2048, by omega⟩ s else if r.val = 128 then 1 else 0

theorem bits_of_marks : ∀ (n : Fin 8) (v : Fin 128),
    BitVec.setWidth 32 (IntOp.ori (IntOp.ori (IntOp.cmpi .eq (BitVec.ofNat 32 v.val) (BitVec.ofNat 32 n.val)) (IntOp.cmpi .eq (BitVec.ofNat 32 v.val) (BitVec.ofNat 32 (n.val + 8))))
        (IntOp.cmpi .eq (BitVec.ofNat 32 v.val) (BitVec.ofNat 32 (n.val + 16))))
      = if v.val = n.val ∨ v.val = 8 + n.val ∨ v.val = 16 + n.val then 1#32 else 0#32 := by
  decide +kernel

theorem one_of_bits : FloatOps.sitofp (F := Ideal) .f32 1#32 = (1 : EReal) := by
  show (((1#32 : BitVec 32).toInt : ℝ) : EReal) = 1
  simp

theorem zero_of_bits : FloatOps.sitofp (F := Ideal) .f32 0#32 = (0 : EReal) := by
  show (((0#32 : BitVec 32).toInt : ℝ) : EReal) = 0
  simp

theorem queries_marks (x : Vec Ideal S512x2048 .f32) (g : Vec Ideal S1x2048 .f32) (w : Vec Ideal S2048x2048 .bf16) (h : Fin 8) (r : Fin 256) (s : Fin 512)
    (n : ℕ) (u : Fin 1) (v : Fin 128) (h0 : h.val = n + u.val) (h1 : r.val = 128 + v.val) :
    FloatOps.sitofp (F := Ideal) .f32 (BitVec.setWidth 32
        (IntOp.ori (IntOp.ori (IntOp.cmpi .eq (BitVec.ofNat 32 v.val) (BitVec.ofNat 32 n)) (IntOp.cmpi .eq (BitVec.ofNat 32 v.val) (BitVec.ofNat 32 (n + 8))))
          (IntOp.cmpi .eq (BitVec.ofNat 32 v.val) (BitVec.ofNat 32 (n + 16)))))
      = queries x g w h r s := by
  obtain rfl : n = h.val := by omega
  rw [bits_of_marks h v]
  unfold queries mark
  rw [if_neg (by omega : ¬r.val < 128), show r.val - 128 = v.val by omega]
  split_ifs
  · exact one_of_bits
  · exact zero_of_bits

theorem queries_products (x : Vec Ideal S512x2048 .f32) (g : Vec Ideal S1x2048 .f32) (w : Vec Ideal S2048x2048 .bf16) (h : Fin 8) (r : Fin 256) (s : Fin 512)
    (n : ℕ) (u : Fin 1) (v : Fin 128) (t : Fin 512) (h0 : h.val = n + u.val) (h1 : r.val = v.val) (h2 : s.val = t.val) (f : Fin 2048) (hf : f.val = 128 * n + v.val) :
    against x g w f t * Ideal.ofBits .f32 0x3E0293EE#32 = queries x g w h r s := by
  unfold queries
  rw [if_pos (by omega : r.val < 128), show s = t from Fin.ext h2]
  refine congrArg (fun f => against x g w f t * _) (Fin.ext ?_)
  show f.val = (128 * h.val + r.val) % 2048
  omega

theorem values_products (x : Vec Ideal S512x2048 .f32) (g : Vec Ideal S1x2048 .f32) (w : Vec Ideal S2048x2048 .bf16) (h : Fin 8) (r : Fin 144) (s : Fin 512)
    (n : ℕ) (u : Fin 1) (v : Fin 128) (t : Fin 512) (h0 : h.val = n + u.val) (h1 : r.val = v.val) (h2 : s.val = t.val) (f : Fin 2048) (hf : f.val = 1024 + 128 * n + v.val) :
    against x g w f t = values x g w h r s := by
  unfold values
  rw [if_pos (by omega : r.val < 128), show s = t from Fin.ext h2]
  refine congrArg (fun f => against x g w f t) (Fin.ext ?_)
  show f.val = (1024 + 128 * h.val + r.val) % 2048
  omega

theorem bit_of_first : ∀ o : Fin 16, BitVec.setWidth 32 (IntOp.cmpi .eq (BitVec.ofNat 32 o.val) 0#32) = if o.val = 0 then 1#32 else 0#32 := by
  decide +kernel

theorem values_ones (x : Vec Ideal S512x2048 .f32) (g : Vec Ideal S1x2048 .f32) (w : Vec Ideal S2048x2048 .bf16) (h : Fin 8) (r : Fin 144) (s : Fin 512)
    (o : Fin 16) (h1 : r.val = 128 + o.val) :
    FloatOps.sitofp (F := Ideal) .f32 (BitVec.setWidth 32 (IntOp.cmpi .eq (BitVec.ofNat 32 o.val) 0#32)) = values x g w h r s := by
  rw [bit_of_first]
  unfold values
  rw [if_neg (by omega : ¬r.val < 128)]
  by_cases h0 : o.val = 0
  · rw [if_pos h0, if_pos (by omega)]
    exact one_of_bits
  · rw [if_neg h0, if_neg (by omega)]
    exact zero_of_bits

theorem queries_A (c : Dev nD) (i : grid0.Coords) (a1 : Memref sig .tc .vmem S512x2048 .f32) (h1 : a1.IsWhole) (a2 : Memref sig .tc .vmem S1x2048 .f32) (h2 : a2.IsWhole)
    (a3 : Memref sig .tc .vmem S2048x2048 .bf16) (h3 : a3.IsWhole) (a4 : Memref sig .tc .vmem S2048x1152 .bf16) (h4 : a4.IsWhole) (a5 : Memref sig .tc .vmem S1x128 .f32) (h5 : a5.IsWhole)
    (a6 : Memref sig .tc .vmem S8x256x512 .bf16) (h6 : a6.IsWhole) (a7 : Memref sig .tc .vmem S8x1x512x256 .bf16) (h7 : a7.IsWhole)
    (a8 : Memref sig .tc .vmem S8x1x144x512 .bf16) (h8 : a8.IsWhole) (a9 : Memref sig .tc .vmem S1x8x128 .f32) (h9 : a9.IsWhole)
    (a10 : Memref sig .tc .vmem S8x128 .f32) (h10 : a10.IsWhole) (hc : cond0_0 i)
    (x : Vec Ideal S512x2048 .f32) (g : Vec Ideal S1x2048 .f32) (w : Vec Ideal S2048x2048 .bf16) (k : Vec Ideal S2048x1152 .bf16) (b : Vec Ideal S1x128 .f32) (y : S8x256x512.Idx) :
    out0_A_5 c i a1 h1 a2 h2 a3 h3 a4 h4 a5 h5 a6 h6 a7 h7 a8 h8 a9 h9 a10 h10 hc x g w k b y = queries x g w (y 0) (y 1) (y 2) := by
  unfold out0_A_5
  rw [View.read_writes_eq_canon _ _ _ (cover0_A_5 c i a1 h1 a2 h2 a3 h3 a4 h4 a5 h5 a6 h6 a7 h7 a8 h8 a9 h9 a10 h10 hc x g w k b)]
  unfold kernelRun0_A; dsimp only
  sl_unfold_words
  simp only [View.readAt_eq_ld, h1.read_unread, h2.read_unread, h3.read_unread, View.ld_unit_zero (S := S512x2048) at_start,
    View.ld_unit_zero (S := S1x2048) at_start, View.ld_unit_zero (S := S2048x2048) at_start]
  canon_tiles z hz
  all_goals
    open_payloads
    obtain ⟨u, v, t, rfl⟩ : ∃ (u : Fin 1) (v : Fin 128) (t : Fin 512), z = ix3 u v t := ⟨z 0, z 1, z 2, eq_ix3 z⟩
    pointwise
    first
      | exact queries_marks x g w (y 0) (y 1) (y 2) _ u v hz0 hz1
      | exact queries_marks x g w (y 0) (y 1) (y 2) 0 u v (hz0.trans (Nat.zero_add _).symm) hz1
      | exact queries_products x g w (y 0) (y 1) (y 2) _ u v t hz0 hz1 hz2 _ rfl
      | exact queries_products x g w (y 0) (y 1) (y 2) 0 u v t (hz0.trans (Nat.zero_add _).symm) hz1 hz2 ⟨v.val, by omega⟩ (Nat.zero_add _).symm

theorem queries_B (c : Dev nD) (i : grid0.Coords) (a1 : Memref sig .tc .vmem S512x2048 .f32) (h1 : a1.IsWhole) (a2 : Memref sig .tc .vmem S1x2048 .f32) (h2 : a2.IsWhole)
    (a3 : Memref sig .tc .vmem S2048x2048 .bf16) (h3 : a3.IsWhole) (a4 : Memref sig .tc .vmem S2048x1152 .bf16) (h4 : a4.IsWhole) (a5 : Memref sig .tc .vmem S1x128 .f32) (h5 : a5.IsWhole)
    (a6 : Memref sig .tc .vmem S8x256x512 .bf16) (h6 : a6.IsWhole) (a7 : Memref sig .tc .vmem S8x1x512x256 .bf16) (h7 : a7.IsWhole)
    (a8 : Memref sig .tc .vmem S8x1x144x512 .bf16) (h8 : a8.IsWhole) (a9 : Memref sig .tc .vmem S1x8x128 .f32) (h9 : a9.IsWhole)
    (a10 : Memref sig .tc .vmem S8x128 .f32) (h10 : a10.IsWhole) (hc : ¬cond0_0 i)
    (x : Vec Ideal S512x2048 .f32) (g : Vec Ideal S1x2048 .f32) (w : Vec Ideal S2048x2048 .bf16) (k : Vec Ideal S2048x1152 .bf16) (b : Vec Ideal S1x128 .f32) (q : Vec Ideal S8x128 .f32) (y : S8x256x512.Idx) :
    out0_B_5 c i a1 h1 a2 h2 a3 h3 a4 h4 a5 h5 a6 h6 a7 h7 a8 h8 a9 h9 a10 h10 hc x g w k b q y = queries x g w (y 0) (y 1) (y 2) := by
  unfold out0_B_5
  rw [View.read_writes_eq_canon _ _ _ (cover0_B_5 c i a1 h1 a2 h2 a3 h3 a4 h4 a5 h5 a6 h6 a7 h7 a8 h8 a9 h9 a10 h10 hc x g w k b q)]
  unfold kernelRun0_B; dsimp only
  sl_unfold_words
  simp only [View.readAt_eq_ld, h1.read_unread, h2.read_unread, h3.read_unread, View.ld_unit_zero (S := S512x2048) at_start,
    View.ld_unit_zero (S := S1x2048) at_start, View.ld_unit_zero (S := S2048x2048) at_start]
  canon_tiles z hz
  all_goals
    open_payloads
    obtain ⟨u, v, t, rfl⟩ : ∃ (u : Fin 1) (v : Fin 128) (t : Fin 512), z = ix3 u v t := ⟨z 0, z 1, z 2, eq_ix3 z⟩
    pointwise
    first
      | exact queries_marks x g w (y 0) (y 1) (y 2) _ u v hz0 hz1
      | exact queries_marks x g w (y 0) (y 1) (y 2) 0 u v (hz0.trans (Nat.zero_add _).symm) hz1
      | exact queries_products x g w (y 0) (y 1) (y 2) _ u v t hz0 hz1 hz2 _ rfl
      | exact queries_products x g w (y 0) (y 1) (y 2) 0 u v t (hz0.trans (Nat.zero_add _).symm) hz1 hz2 ⟨v.val, by omega⟩ (Nat.zero_add _).symm

theorem values_A (c : Dev nD) (i : grid0.Coords) (a1 : Memref sig .tc .vmem S512x2048 .f32) (h1 : a1.IsWhole) (a2 : Memref sig .tc .vmem S1x2048 .f32) (h2 : a2.IsWhole)
    (a3 : Memref sig .tc .vmem S2048x2048 .bf16) (h3 : a3.IsWhole) (a4 : Memref sig .tc .vmem S2048x1152 .bf16) (h4 : a4.IsWhole) (a5 : Memref sig .tc .vmem S1x128 .f32) (h5 : a5.IsWhole)
    (a6 : Memref sig .tc .vmem S8x256x512 .bf16) (h6 : a6.IsWhole) (a7 : Memref sig .tc .vmem S8x1x512x256 .bf16) (h7 : a7.IsWhole)
    (a8 : Memref sig .tc .vmem S8x1x144x512 .bf16) (h8 : a8.IsWhole) (a9 : Memref sig .tc .vmem S1x8x128 .f32) (h9 : a9.IsWhole)
    (a10 : Memref sig .tc .vmem S8x128 .f32) (h10 : a10.IsWhole) (hc : cond0_0 i)
    (x : Vec Ideal S512x2048 .f32) (g : Vec Ideal S1x2048 .f32) (w : Vec Ideal S2048x2048 .bf16) (k : Vec Ideal S2048x1152 .bf16) (b : Vec Ideal S1x128 .f32) (y : S8x1x144x512.Idx) :
    out0_A_7 c i a1 h1 a2 h2 a3 h3 a4 h4 a5 h5 a6 h6 a7 h7 a8 h8 a9 h9 a10 h10 hc x g w k b y = values x g w (y 0) (y 2) (y 3) := by
  unfold out0_A_7
  rw [View.read_writes_eq_canon _ _ _ (cover0_A_7 c i a1 h1 a2 h2 a3 h3 a4 h4 a5 h5 a6 h6 a7 h7 a8 h8 a9 h9 a10 h10 hc x g w k b)]
  have hcov := cover0_A_7 c i a1 h1 a2 h2 a3 h3 a4 h4 a5 h5 a6 h6 a7 h7 a8 h8 a9 h9 a10 h10 hc x g w k b y
  revert hcov
  unfold kernelRun0_A; dsimp only
  sl_unfold_words
  simp only [View.readAt_eq_ld, h1.read_unread, h2.read_unread, h3.read_unread, View.ld_unit_zero (S := S512x2048) at_start,
    View.ld_unit_zero (S := S1x2048) at_start, View.ld_unit_zero (S := S2048x2048) at_start]
  intro hcov
  canon_tiles z hz using hcov
  all_goals
    open_payloads
    first
      | obtain ⟨u, o, v, t, rfl⟩ : ∃ (u : Fin 1) (o : Fin 1) (v : Fin 16) (t : Fin 512), z = ix4 u o v t := ⟨z 0, z 1, z 2, z 3, eq_ix4 z⟩
        pointwise
        exact values_ones x g w (y 0) (y 2) (y 3) v hz2
      | obtain ⟨u, o, v, t, rfl⟩ : ∃ (u : Fin 1) (o : Fin 1) (v : Fin 128) (t : Fin 512), z = ix4 u o v t := ⟨z 0, z 1, z 2, z 3, eq_ix4 z⟩
        pointwise
        first
          | exact values_products x g w (y 0) (y 2) (y 3) _ u v t hz0 hz2 hz3 _ (Nat.add_assoc 1024 _ _).symm
          | exact values_products x g w (y 0) (y 2) (y 3) 0 u v t (hz0.trans (Nat.zero_add _).symm) hz2 hz3 ⟨1024 + v.val, by omega⟩ rfl

theorem values_B (c : Dev nD) (i : grid0.Coords) (a1 : Memref sig .tc .vmem S512x2048 .f32) (h1 : a1.IsWhole) (a2 : Memref sig .tc .vmem S1x2048 .f32) (h2 : a2.IsWhole)
    (a3 : Memref sig .tc .vmem S2048x2048 .bf16) (h3 : a3.IsWhole) (a4 : Memref sig .tc .vmem S2048x1152 .bf16) (h4 : a4.IsWhole) (a5 : Memref sig .tc .vmem S1x128 .f32) (h5 : a5.IsWhole)
    (a6 : Memref sig .tc .vmem S8x256x512 .bf16) (h6 : a6.IsWhole) (a7 : Memref sig .tc .vmem S8x1x512x256 .bf16) (h7 : a7.IsWhole)
    (a8 : Memref sig .tc .vmem S8x1x144x512 .bf16) (h8 : a8.IsWhole) (a9 : Memref sig .tc .vmem S1x8x128 .f32) (h9 : a9.IsWhole)
    (a10 : Memref sig .tc .vmem S8x128 .f32) (h10 : a10.IsWhole) (hc : ¬cond0_0 i)
    (x : Vec Ideal S512x2048 .f32) (g : Vec Ideal S1x2048 .f32) (w : Vec Ideal S2048x2048 .bf16) (k : Vec Ideal S2048x1152 .bf16) (b : Vec Ideal S1x128 .f32) (q : Vec Ideal S8x128 .f32) (y : S8x1x144x512.Idx) :
    out0_B_7 c i a1 h1 a2 h2 a3 h3 a4 h4 a5 h5 a6 h6 a7 h7 a8 h8 a9 h9 a10 h10 hc x g w k b q y = values x g w (y 0) (y 2) (y 3) := by
  unfold out0_B_7
  rw [View.read_writes_eq_canon _ _ _ (cover0_B_7 c i a1 h1 a2 h2 a3 h3 a4 h4 a5 h5 a6 h6 a7 h7 a8 h8 a9 h9 a10 h10 hc x g w k b q)]
  have hcov := cover0_B_7 c i a1 h1 a2 h2 a3 h3 a4 h4 a5 h5 a6 h6 a7 h7 a8 h8 a9 h9 a10 h10 hc x g w k b q y
  revert hcov
  unfold kernelRun0_B; dsimp only
  sl_unfold_words
  simp only [View.readAt_eq_ld, h1.read_unread, h2.read_unread, h3.read_unread, View.ld_unit_zero (S := S512x2048) at_start,
    View.ld_unit_zero (S := S1x2048) at_start, View.ld_unit_zero (S := S2048x2048) at_start]
  intro hcov
  canon_tiles z hz using hcov
  all_goals
    open_payloads
    first
      | obtain ⟨u, o, v, t, rfl⟩ : ∃ (u : Fin 1) (o : Fin 1) (v : Fin 16) (t : Fin 512), z = ix4 u o v t := ⟨z 0, z 1, z 2, z 3, eq_ix4 z⟩
        pointwise
        exact values_ones x g w (y 0) (y 2) (y 3) v hz2
      | obtain ⟨u, o, v, t, rfl⟩ : ∃ (u : Fin 1) (o : Fin 1) (v : Fin 128) (t : Fin 512), z = ix4 u o v t := ⟨z 0, z 1, z 2, z 3, eq_ix4 z⟩
        pointwise
        first
          | exact values_products x g w (y 0) (y 2) (y 3) _ u v t hz0 hz2 hz3 _ (Nat.add_assoc 1024 _ _).symm
          | exact values_products x g w (y 0) (y 2) (y 3) 0 u v t (hz0.trans (Nat.zero_add _).symm) hz2 hz3 ⟨1024 + v.val, by omega⟩ rfl

end Cert.PrepIdeal.Gen

end
-- ==== Proof.Rows.PrepTile.lean ====
/- The preparation's queries and values as arrays: each grid point writes the 512 rows of its block. -/
module

public import proofs.«01_k».proof.Proof.Rows.PrepCases
public import Idealize.ShloMosaic.Lib.Pipeline.ValueKit

@[expose] public section

set_option maxRecDepth 16384

noncomputable section

namespace Cert.PrepIdeal.Gen

open Idealize.ShloMosaic Idealize.ShloMosaic.TcCoe Idealize.ShloMosaic.Tactic Idealize.SL.Sem
open Idealize.ShloMosaic.Pipeline (Dat Cfg Window)
open Cert.Rows

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at5 : ∀ t : Fin cfg0.N, win0_5.index t = ![0, 0, t.val] := (by decide +kernel : ∀ t : Fin grid0.N, _)
theorem at7 : ∀ t : Fin cfg0.N, win0_7.index t = ![0, t.val, 0, 0] := (by decide +kernel : ∀ t : Fin grid0.N, _)

theorem points (t : Fin cfg0.N) : t.val < 32 := t.isLt

/-- The row of the argument that a block's row is. -/
def row (n : ℕ) (hn : n < 32) (s : Fin 512) : Fin 16384 := ⟨512 * n + s.val, by omega⟩

theorem rows_at (t : Fin cfg0.N) (a : Fin 512) (d : Fin 2048) :
    (iblk m c 0 t : Vec Ideal S512x2048 .f32) (ix2 a d) = m ((c : Thread nD τ).loc main_arg0) (ix2 (row t.val (points t) a) d) := by
  blk_simp [iblk]
  refine congrArg (m ((c : Thread nD τ).loc main_arg0)) ?_
  blk_ext [at0]
  show t.val * 512 + a.val = 512 * t.val + a.val
  omega

theorem gains_at (t : Fin cfg0.N) (d : Fin 2048) :
    (iblk m c 1 t : Vec Ideal S1x2048 .f32) (ix2 0 d) = m ((c : Thread nD τ).loc main_arg1) (ix2 0 d) := by
  blk_simp [iblk]
  refine congrArg (m ((c : Thread nD τ).loc main_arg1)) ?_
  blk_ext [at1]

theorem weights_at (t : Fin cfg0.N) (f d : Fin 2048) :
    (iblk m c 2 t : Vec Ideal S2048x2048 .bf16) (ix2 f d) = m ((c : Thread nD τ).loc main_arg2) (ix2 f d) := by
  blk_simp [iblk]
  refine congrArg (m ((c : Thread nD τ).loc main_arg2)) ?_
  blk_ext [at2]

/-- A row of the weights against a normed row. -/
def rowProduct (x : FVec Ideal S16384x2048 .f32) (g : FVec Ideal S1x2048 .f32) (w : FVec Ideal S2048x2048 .bf16) (f : Fin 2048) (r : Fin 16384) : EReal :=
  ∑ d : Fin 2048, w (ix2 f d) * normed (fun e => x (ix2 r e)) (fun e => g (ix2 0 e)) d

/-- The same of the arguments. -/
def product (f : Fin 2048) (r : Fin 16384) : EReal :=
  rowProduct (m ((c : Thread nD τ).loc main_arg0)) (m ((c : Thread nD τ).loc main_arg1)) (m ((c : Thread nD τ).loc main_arg2)) f r

theorem against_at (t : Fin cfg0.N) (f : Fin 2048) (s : Fin 512) :
    against (iblk m c 0 t) (iblk m c 1 t) (iblk m c 2 t) f s = product m c f (row t.val (points t) s) := by
  unfold against product rowProduct
  simp only [rows_at, gains_at, weights_at]

/-- An entry of the queries. -/
def queryAt (h : Fin 8) (l : Fin 256) (r : Fin 16384) : EReal :=
  if l.val < 128 then product m c ⟨(128 * h.val + l.val) % 2048, by omega⟩ r * Ideal.ofBits .f32 0x3E0293EE#32 else mark h.val (l.val - 128)

/-- An entry of the values. -/
def valueAt (h : Fin 8) (l : Fin 144) (r : Fin 16384) : EReal :=
  if l.val < 128 then product m c ⟨(1024 + 128 * h.val + l.val) % 2048, by omega⟩ r else if l.val = 128 then 1 else 0

/-- The queries a point writes. -/
theorem queries_written (t : Fin cfg0.N) (h : Fin 8) (l : Fin 256) (s : Fin 512) :
    (outsAt0 m c t.val t.isLt).1 (ix3 h l s) = queryAt m c h l (row t.val (points t) s) := by
  have e : queries (iblk m c 0 t) (iblk m c 1 t) (iblk m c 2 t) h l s = queryAt m c h l (row t.val (points t) s) := by
    unfold queries queryAt
    rw [against_at]
  by_cases h0 : t.val % 32 = 0
  · rw [outsAt0_A m c t h0]
    dsimp only
    exact (queries_A ..).trans e
  · rw [outsAt0_B m c t h0]
    dsimp only
    exact (queries_B ..).trans e

/-- The values a point writes. -/
theorem values_written (t : Fin cfg0.N) (h : Fin 8) (l : Fin 144) (s : Fin 512) :
    (outsAt0 m c t.val t.isLt).2.2.1 (ix4 h 0 l s) = valueAt m c h l (row t.val (points t) s) := by
  have e : values (iblk m c 0 t) (iblk m c 1 t) (iblk m c 2 t) h l s = valueAt m c h l (row t.val (points t) s) := by
    unfold values valueAt
    rw [against_at]
  by_cases h0 : t.val % 32 = 0
  · rw [outsAt0_A m c t h0]
    dsimp only
    exact (values_A ..).trans e
  · rw [outsAt0_B m c t h0]
    dsimp only
    exact (values_B ..).trans e

/-- The queries the call leaves. -/
theorem queries_eq (W : FVec Ideal S8x256x16384 .bf16) (hW : ∀ (h : Fin 8) (l : Fin 256) (r : Fin 16384), W (ix3 h l r) = queryAt m c h l r) :
    (dats m 0 c).arrAt 5 cfg0.N = W := by
  refine (dats m 0 c).arrAt_eq_of_covers 5 _ (by decide +kernel) fun t hf y => ?_
  blk_simp
  rw [after0_5]
  obtain ⟨h, l, s, rfl⟩ : ∃ (h : Fin 8) (l : Fin 256) (s : Fin 512), y = ix3 h l s := ⟨y 0, y 1, y 2, eq_ix3 y⟩
  have e : ((cfg0.win 5).blk t).view.emb (ix3 h l s) = ix3 h l (row t.val (points t) s) := by
    blk_ext [at5]
    show t.val * 512 + s.val = 512 * t.val + s.val
    omega
  rw [e, hW]
  exact queries_written m c t h l s

/-- The values the call leaves. -/
theorem values_eq (W : FVec Ideal S8x32x144x512 .bf16)
    (hW : ∀ (h : Fin 8) (n : Fin 32) (l : Fin 144) (s : Fin 512), W (ix4 h n l s) = valueAt m c h l (row n.val n.isLt s)) :
    (dats m 0 c).arrAt 7 cfg0.N = W := by
  refine (dats m 0 c).arrAt_eq_of_covers 7 _ (by decide +kernel) fun t hf y => ?_
  blk_simp
  rw [after0_7]
  obtain ⟨h, u, l, s, rfl⟩ : ∃ (h : Fin 8) (u : Fin 1) (l : Fin 144) (s : Fin 512), y = ix4 h u l s := ⟨y 0, y 1, y 2, y 3, eq_ix4 y⟩
  obtain rfl : u = 0 := Subsingleton.elim _ _
  have e : ((cfg0.win 7).blk t).view.emb (ix4 h 0 l s) = ix4 h ⟨t.val, points t⟩ l s := by
    blk_ext [at7]
  rw [e, hW]
  exact values_written m c t h l s

end Cert.PrepIdeal.Gen

end
-- ==== Proof.Rows.PrepReference.lean ====
/- The reference of the preparation's queries and values entry by entry. -/
module

public import proofs.«01_k».proof.Proof.Gen.PrepReferenceIdeal.Run
public import proofs.«01_k».proof.Proof.Rows.Norm

@[expose] public section

set_option maxRecDepth 16384

noncomputable section

namespace Cert.PrepReferenceIdeal.Value

open Idealize.ShloMosaic Idealize.ShloMosaic.TcCoe Idealize.SL.Sem
open Facts₀ Facts
open Cert.Rows

/-- The rows normed. -/
def norms (x : FVec Ideal S16384x2048 .f32) (g : FVec Ideal S1x2048 .f32) : FVec Ideal S16384x2048 .f32 :=
  mulf (mulf x (broadcastInDim S16384x2048 ![0, 1] bcast_S16384x1_S16384x2048_0_1
      (Host.rsqrt (addf (Host.divf (broadcastInDim S16384x1 ![0] bcast_S16384_S16384x1_0
          (Host.reduceAdd (mulf x x) (constant S_ .f32 0x00000000#32) reducesTo_S16384x2048_S16384_d1 h_S_))
        (broadcastInDim S16384x1 ![] bcast_S_S16384x1 (constant S_ .f32 0x45000000#32)))
        (broadcastInDim S16384x1 ![] bcast_S_S16384x1 (constant S_ .f32 0x358637BD#32))))))
    (broadcastInDim S16384x2048 ![0, 1] bcast_S1x2048_S16384x2048_0_1 g)

/-- The weights against them. -/
def products (x : FVec Ideal S16384x2048 .f32) (g : FVec Ideal S1x2048 .f32) (w : FVec Ideal S2048x2048 .bf16) : FVec Ideal S2048x16384 .f32 :=
  Host.dotGeneral dot_S2048x2048_S16384x2048_S2048x16384_1_1_0_0_n_n none (extf .f32 w bitsLt_bf16_f32) (norms x g)

/-- The scaled rows of the queries, split into heads. -/
def scaled (x : FVec Ideal S16384x2048 .f32) (g : FVec Ideal S1x2048 .f32) (w : FVec Ideal S2048x2048 .bf16) : FVec Ideal S8x128x16384 .f32 :=
  shapeCast _ (mulf (extractStridedSlice S1024x16384 ![0, 0] (products x g w) slices_S2048x16384_S1024x16384_0_0) (broadcastInDim S1024x16384 ![] bcast_S_S1024x16384 (constant S_ .f32 0x3E0293EE#32))) shapeCasts_S1024x16384_S8x128x16384

/-- The selector rows. -/
def marks : FVec Ideal S8x128x16384 .f32 :=
  broadcastInDim S8x128x16384 ![0, 1, 2] bcast_S8x128x1_S8x128x16384_0_1_2 (broadcastInDim S8x128x1 ![0, 1] bcast_S8x128_S8x128x1_0_1 (uitofp .f32 (ori (ori (cmpi .eq
        (broadcastInDim S8x128 ![0, 1] bcast_S1x128_S8x128_0_1 (broadcastInDim S1x128 ![1] bcast_S128_S1x128_1 (iotaInDim S128 32 0))) (broadcastInDim S8x128 ![0, 1] bcast_S8x1_S8x128_0_1 (broadcastInDim S8x1 ![0] bcast_S8_S8x1_0 (iotaInDim S8 32 0)))) (cmpi .eq
        (broadcastInDim S8x128 ![0, 1] bcast_S1x128_S8x128_0_1 (broadcastInDim S1x128 ![1] bcast_S128_S1x128_1 (iotaInDim S128 32 0))) (broadcastInDim S8x128 ![0, 1] bcast_S8x1_S8x128_0_1 (addi (broadcastInDim S8x1 ![] bcast_S_S8x1 (constantI S_ 32 8#32)) (broadcastInDim S8x1 ![0] bcast_S8_S8x1_0 (iotaInDim S8 32 0)))))) (cmpi .eq
        (broadcastInDim S8x128 ![0, 1] bcast_S1x128_S8x128_0_1 (broadcastInDim S1x128 ![1] bcast_S128_S1x128_1 (iotaInDim S128 32 0))) (broadcastInDim S8x128 ![0, 1] bcast_S8x1_S8x128_0_1 (addi (broadcastInDim S8x1 ![] bcast_S_S8x1 (constantI S_ 32 16#32)) (broadcastInDim S8x1 ![0] bcast_S8_S8x1_0 (iotaInDim S8 32 0))))))))

/-- The queries. -/
def queries (x : FVec Ideal S16384x2048 .f32) (g : FVec Ideal S1x2048 .f32) (w : FVec Ideal S2048x2048 .bf16) : FVec Ideal S8x256x16384 .bf16 :=
  truncf .bf16 (concatenate S8x256x16384 1 [⟨S8x128x16384, (scaled x g w)⟩, ⟨S8x128x16384, marks⟩] concatenates_S8x128x16384_S8x128x16384_S8x256x16384_d1) bitsLt_bf16_f32

/-- The rows of the values, split into heads and blocks. -/
def blocks (x : FVec Ideal S16384x2048 .f32) (g : FVec Ideal S1x2048 .f32) (w : FVec Ideal S2048x2048 .bf16) : FVec Ideal S8x32x128x512 .f32 :=
  transpose S8x32x128x512 [0, 2, 1, 3] (shapeCast _ (extractStridedSlice S1024x16384 ![1024, 0] (products x g w) slices_S2048x16384_S1024x16384_1024_0) shapeCasts_S1024x16384_S8x128x32x512) transposes_S8x128x32x512_S8x32x128x512_0_2_1_3

/-- A row of ones over rows of zeros. -/
def ones : FVec Ideal S8x32x16x512 .f32 :=
  broadcastInDim S8x32x16x512 ![2, 3] bcast_S16x1_S8x32x16x512_2_3 (broadcastInDim S16x1 ![0] bcast_S16_S16x1_0 (uitofp .f32 (cmpi .eq (iotaInDim S16 32 0) (broadcastInDim S16 ![] bcast_S_S16 (constantI S_ 32 0#32)))))

/-- The values. -/
def values (x : FVec Ideal S16384x2048 .f32) (g : FVec Ideal S1x2048 .f32) (w : FVec Ideal S2048x2048 .bf16) : FVec Ideal S8x32x144x512 .bf16 :=
  truncf .bf16 (concatenate S8x32x144x512 2 [⟨S8x32x128x512, (blocks x g w)⟩, ⟨S8x32x16x512, ones⟩] concatenates_S8x32x128x512_S8x32x16x512_S8x32x144x512_d2) bitsLt_bf16_f32

theorem norms_apply (x : FVec Ideal S16384x2048 .f32) (g : FVec Ideal S1x2048 .f32) (r : Fin 16384) (d : Fin 2048) :
    norms x g (ix2 r d) = normed (fun e => x (ix2 r e)) (fun e => g (ix2 0 e)) d := by
  unfold norms normed
  pointwise

theorem products_apply (x : FVec Ideal S16384x2048 .f32) (g : FVec Ideal S1x2048 .f32) (w : FVec Ideal S2048x2048 .bf16) (f : Fin 2048) (r : Fin 16384) :
    products x g w (ix2 f r) = ∑ d : Fin 2048, w (ix2 f d) * normed (fun e => x (ix2 r e)) (fun e => g (ix2 0 e)) d := by
  unfold products
  pointwise
  simp only [norms_apply]

theorem bits_of_marks : ∀ (l : Fin 128) (h : Fin 8),
    IntOp.ori (IntOp.ori (IntOp.cmpi .eq (BitVec.ofNat 32 l.val) (BitVec.ofNat 32 h.val)) (IntOp.cmpi .eq (BitVec.ofNat 32 l.val) (IntOp.addi (8#32) (BitVec.ofNat 32 h.val))))
        (IntOp.cmpi .eq (BitVec.ofNat 32 l.val) (IntOp.addi (16#32) (BitVec.ofNat 32 h.val)))
      = if l.val = h.val ∨ l.val = 8 + h.val ∨ l.val = 16 + h.val then 1#1 else 0#1 := by
  decide +kernel

theorem bit_of_first : ∀ o : Fin 16, IntOp.cmpi .eq (BitVec.ofNat 32 o.val) 0#32 = if o.val = 0 then 1#1 else 0#1 := by
  decide +kernel

theorem one_of_bit : FloatOps.uitofp (F := Ideal) .f32 1#1 = (1 : EReal) := by
  show (((1#1 : BitVec 1).toNat : ℝ) : EReal) = 1
  simp

theorem zero_of_bit : FloatOps.uitofp (F := Ideal) .f32 0#1 = (0 : EReal) := by
  show (((0#1 : BitVec 1).toNat : ℝ) : EReal) = 0
  simp

theorem scaled_apply (x : FVec Ideal S16384x2048 .f32) (g : FVec Ideal S1x2048 .f32) (w : FVec Ideal S2048x2048 .bf16) (h : Fin 8) (l : Fin 128) (r : Fin 16384) :
    scaled x g w (ix3 h l r) = products x g w (ix2 ⟨128 * h.val + l.val, by omega⟩ r) * Ideal.ofBits .f32 0x3E0293EE#32 := by
  unfold scaled
  pointwise
  refine congrArg (fun f => products x g w (ix2 f r) * _) (Fin.ext ?_)
  show h.val * 128 + l.val = 128 * h.val + l.val
  omega

theorem marks_apply (h : Fin 8) (l : Fin 128) (r : Fin 16384) :
    marks (ix3 h l r) = if l.val = h.val ∨ l.val = 8 + h.val ∨ l.val = 16 + h.val then 1 else 0 := by
  unfold marks
  pointwise
  rw [bits_of_marks l h]
  split_ifs
  · exact one_of_bit
  · exact zero_of_bit

theorem blocks_apply (x : FVec Ideal S16384x2048 .f32) (g : FVec Ideal S1x2048 .f32) (w : FVec Ideal S2048x2048 .bf16) (h : Fin 8) (n : Fin 32) (l : Fin 128) (s : Fin 512) :
    blocks x g w (ix4 h n l s) = products x g w (ix2 ⟨1024 + 128 * h.val + l.val, by omega⟩ ⟨512 * n.val + s.val, by omega⟩) := by
  unfold blocks
  pointwise
  refine congrArg₂ (fun f r => products x g w (ix2 f r)) (Fin.ext ?_) (Fin.ext ?_)
  · show 1024 + (h.val * 128 + l.val) = 1024 + 128 * h.val + l.val
    omega
  · show n.val * 512 + s.val = 512 * n.val + s.val
    omega

theorem ones_apply (h : Fin 8) (n : Fin 32) (o : Fin 16) (s : Fin 512) :
    ones (ix4 h n o s) = if o.val = 0 then 1 else 0 := by
  unfold ones
  pointwise
  rw [bit_of_first]
  split_ifs
  · exact one_of_bit
  · exact zero_of_bit

theorem queries_apply (x : FVec Ideal S16384x2048 .f32) (g : FVec Ideal S1x2048 .f32) (w : FVec Ideal S2048x2048 .bf16) (h : Fin 8) (l : Fin 256) (r : Fin 16384) :
    queries x g w (ix3 h l r)
      = if hl : l.val < 128 then scaled x g w (ix3 h ⟨l.val, hl⟩ r) else marks (ix3 h ⟨l.val - 128, by omega⟩ r) := by
  unfold queries
  pointwise

theorem values_apply (x : FVec Ideal S16384x2048 .f32) (g : FVec Ideal S1x2048 .f32) (w : FVec Ideal S2048x2048 .bf16) (h : Fin 8) (n : Fin 32) (l : Fin 144) (s : Fin 512) :
    values x g w (ix4 h n l s)
      = if hl : l.val < 128 then blocks x g w (ix4 h n ⟨l.val, hl⟩ s) else ones (ix4 h n ⟨l.val - 128, by omega⟩ s) := by
  unfold values
  pointwise

end Cert.PrepReferenceIdeal.Value

end
-- ==== Proof.Rows.PrepMatch.lean ====
/- From agreeing operands the preparation's call and its reference compute the same queries and the same values. -/
module

public import proofs.«01_k».proof.Defs
public import proofs.«01_k».proof.Proof.Rows.PrepTile
public import proofs.«01_k».proof.Proof.Rows.PrepReference

@[expose] public section

set_option maxRecDepth 16384

noncomputable section

namespace Cert.PrepMatch

open Idealize.ShloMosaic Idealize.ShloMosaic.TcCoe Idealize.SL.Sem
open Cert.PrepIdeal Cert.PrepIdeal.Gen
open Cert.Rows

variable (m : (ℓ : Loc nD τ sig) → Buf (Elt Ideal) ℓ)
  (m' : (ℓ : Loc Cert.PrepReferenceIdeal.nD Cert.PrepReferenceIdeal.τ Cert.PrepReferenceIdeal.sig) → Buf (Elt Ideal) ℓ) (c : Dev nD)

theorem queries_same (h0 : m' ((c.tc : Thread Cert.PrepReferenceIdeal.nD Cert.PrepReferenceIdeal.τ).loc Cert.PrepReferenceIdeal.main_arg0) = m ((c.tc : Thread nD τ).loc main_arg0))
    (h1 : m' ((c.tc : Thread Cert.PrepReferenceIdeal.nD Cert.PrepReferenceIdeal.τ).loc Cert.PrepReferenceIdeal.main_arg1) = m ((c.tc : Thread nD τ).loc main_arg1))
    (h2 : m' ((c.tc : Thread Cert.PrepReferenceIdeal.nD Cert.PrepReferenceIdeal.τ).loc Cert.PrepReferenceIdeal.main_arg2) = m ((c.tc : Thread nD τ).loc main_arg2)) :
    (dats m 0 c).arrAt 5 cfg0.N = Cert.PrepReferenceIdeal.Value.queries (m' ((c.tc : Thread Cert.PrepReferenceIdeal.nD Cert.PrepReferenceIdeal.τ).loc Cert.PrepReferenceIdeal.main_arg0))
      (m' ((c.tc : Thread Cert.PrepReferenceIdeal.nD Cert.PrepReferenceIdeal.τ).loc Cert.PrepReferenceIdeal.main_arg1))
      (m' ((c.tc : Thread Cert.PrepReferenceIdeal.nD Cert.PrepReferenceIdeal.τ).loc Cert.PrepReferenceIdeal.main_arg2)) := by
  refine Cert.PrepIdeal.Gen.queries_eq m c _ fun h l r => ?_
  rw [h0, h1, h2]
  refine (Cert.PrepReferenceIdeal.Value.queries_apply _ _ _ h l r).trans ?_
  unfold queryAt
  split_ifs with hl
  · refine (Cert.PrepReferenceIdeal.Value.scaled_apply _ _ _ h ⟨l.val, hl⟩ r).trans (congrArg (fun e : EReal => e * Ideal.ofBits .f32 0x3E0293EE#32) ?_)
    refine (Cert.PrepReferenceIdeal.Value.products_apply _ _ _ _ r).trans ?_
    exact congrArg (fun f => product m c f r) (Fin.ext (Nat.mod_eq_of_lt (by omega)).symm)
  · exact Cert.PrepReferenceIdeal.Value.marks_apply h ⟨l.val - 128, by omega⟩ r

theorem values_same (h0 : m' ((c.tc : Thread Cert.PrepReferenceIdeal.nD Cert.PrepReferenceIdeal.τ).loc Cert.PrepReferenceIdeal.main_arg0) = m ((c.tc : Thread nD τ).loc main_arg0))
    (h1 : m' ((c.tc : Thread Cert.PrepReferenceIdeal.nD Cert.PrepReferenceIdeal.τ).loc Cert.PrepReferenceIdeal.main_arg1) = m ((c.tc : Thread nD τ).loc main_arg1))
    (h2 : m' ((c.tc : Thread Cert.PrepReferenceIdeal.nD Cert.PrepReferenceIdeal.τ).loc Cert.PrepReferenceIdeal.main_arg2) = m ((c.tc : Thread nD τ).loc main_arg2)) :
    (dats m 0 c).arrAt 7 cfg0.N = Cert.PrepReferenceIdeal.Value.values (m' ((c.tc : Thread Cert.PrepReferenceIdeal.nD Cert.PrepReferenceIdeal.τ).loc Cert.PrepReferenceIdeal.main_arg0))
      (m' ((c.tc : Thread Cert.PrepReferenceIdeal.nD Cert.PrepReferenceIdeal.τ).loc Cert.PrepReferenceIdeal.main_arg1))
      (m' ((c.tc : Thread Cert.PrepReferenceIdeal.nD Cert.PrepReferenceIdeal.τ).loc Cert.PrepReferenceIdeal.main_arg2)) := by
  refine Cert.PrepIdeal.Gen.values_eq m c _ fun h n l s => ?_
  rw [h0, h1, h2]
  refine (Cert.PrepReferenceIdeal.Value.values_apply _ _ _ h n l s).trans ?_
  unfold valueAt
  split_ifs with hl ho
  · refine (Cert.PrepReferenceIdeal.Value.blocks_apply _ _ _ h n ⟨l.val, hl⟩ s).trans ?_
    refine (Cert.PrepReferenceIdeal.Value.products_apply _ _ _ _ _).trans ?_
    exact congrArg (fun f => product m c f (row n.val n.isLt s)) (Fin.ext (Nat.mod_eq_of_lt (by omega)).symm)
  · exact (Cert.PrepReferenceIdeal.Value.ones_apply h n ⟨l.val - 128, by omega⟩ s).trans (if_pos (show l.val - 128 = 0 by omega))
  · exact (Cert.PrepReferenceIdeal.Value.ones_apply h n ⟨l.val - 128, by omega⟩ s).trans (if_neg (show ¬l.val - 128 = 0 by omega))

end Cert.PrepMatch

end
-- ==== Proof.lean ====
module

public import proofs.«01_k».proof.Defs
public import proofs.«01_k».proof.Proof.Launch.Ideal
public import proofs.«01_k».proof.Proof.Launch.Word
public import proofs.«01_k».proof.Proof.Value.Match
public import proofs.«01_k».proof.Proof.Gen.ReferenceIdeal.Run
public import proofs.«01_k».proof.Proof.Gen.Ff.Frame
public import proofs.«01_k».proof.Proof.Gen.Inproj.Frame
public import proofs.«01_k».proof.Proof.Gen.Inner.Frame
public import proofs.«01_k».proof.Proof.Gen.Mix.Frame
public import proofs.«01_k».proof.Proof.Gen.MixIdeal.Frame
public import proofs.«01_k».proof.Proof.Gen.MixReferenceIdeal.Run
public import proofs.«01_k».proof.Proof.Gen.Prep.Frame
public import proofs.«01_k».proof.Proof.Gen.PrepIdeal.Frame
public import proofs.«01_k».proof.Proof.Gen.PrepReferenceIdeal.Run
public import proofs.«01_k».proof.Proof.Rows.FfMatch
public import proofs.«01_k».proof.Proof.Rows.InnerMatch
public import proofs.«01_k».proof.Proof.Rows.InprojMatch
public import proofs.«01_k».proof.Proof.Rows.MixMatch
public import proofs.«01_k».proof.Proof.Rows.PrepMatch
public import Idealize.ShloMosaic.Adequacy
public import Idealize.ShloMosaic.Init

@[expose] public section

noncomputable section

namespace Cert.Proof

open Idealize.ShloMosaic Idealize.SL.Sem

/-- The call at the machine's words. -/
theorem frame_p : Cert.quiescent_Kernel := fun m ρ _ => Cert.Kernel.Attend.frame m ρ

/-- The idealized call. -/
theorem frame_pi : Cert.quiescent_KernelIdeal := fun m ρ _ => Cert.KernelIdeal.Attend.frame m ρ

/-- The reference: its run, read at the arguments; it has no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The mask constant is named, and the name's value is `-∞`. -/
theorem preserves : Cert.preserves_Kernel_KernelIdeal :=
  IdealRules.named_const.statement Cert.KernelIdeal.κ "mask" .f32 0xF149F2CA#32 ⊥ rfl

instance : Cert.Pre_well_formed.Facts := Cert.Pre_well_formed.facts

/-- From agreeing, well-formed operands the idealized call and the reference leave one array. -/
theorem algebraic : Cert.algebraic_KernelIdeal_ReferenceIdeal_pre_well_formed := fun m ρ m' ρ' hp h =>
  ⟨fun c => Cert.ReferenceIdeal.Value.res_main_v32 m' c,
    (θ_run Cert.KernelIdeal.defs _ _).mono
      (fun _ hr c =>
        ⟨((hr.1 c).1 4).trans ((Cert.Match.call_eq m c hp).trans
            (Cert.Match.reference_eq m m' c (h c).1 (h c).2.1 (h c).2.2.1 (h c).2.2.2).symm),
          ((hr.1 c).1 0).trans (((Cert.KernelIdeal.Attend.dats m 0 c).arrAt_in 0 rfl _).trans ((Cert.KernelIdeal.Attend.A_eq m c 0).trans rfl)),
          ((hr.1 c).1 1).trans (((Cert.KernelIdeal.Attend.dats m 0 c).arrAt_in 1 rfl _).trans ((Cert.KernelIdeal.Attend.A_eq m c 1).trans rfl)),
          ((hr.1 c).1 2).trans (((Cert.KernelIdeal.Attend.dats m 0 c).arrAt_in 2 rfl _).trans ((Cert.KernelIdeal.Attend.A_eq m c 2).trans rfl)),
          ((hr.1 c).1 3).trans (((Cert.KernelIdeal.Attend.dats m 0 c).arrAt_in 3 rfl _).trans ((Cert.KernelIdeal.Attend.A_eq m c 3).trans rfl))⟩)
      (Cert.KernelIdeal.Attend.run_main_quiescent m ρ),
    Cert.ReferenceIdeal.Value.run (F := Ideal) m' ρ'⟩

/-- The last layer's feed-forward, at the machine's words and idealized. -/
theorem frame_ff : Cert.quiescent_Ff := fun m ρ _ => Cert.Ff.Gen.frame m ρ

theorem frame_ff_ideal : Cert.quiescent_FfIdeal := fun m ρ _ => Cert.FfIdeal.Gen.frame m ρ

theorem frame_ff_reference : Cert.quiescent_FfReferenceIdeal := fun m ρ _ =>
  (θ_run Cert.FfReferenceIdeal.defs _ _).mono
    (fun r h => ⟨fun c => (h c).2, Idealize.ShloMosaic.sem_eq_zero_of_no_sems (by decide) r.2⟩)
    (Cert.FfReferenceIdeal.Value.run (F := Ideal) m ρ)

/-- The input projection, at the machine's words and idealized. -/
theorem frame_inproj : Cert.quiescent_Inproj := fun m ρ _ => Cert.Inproj.Gen.frame m ρ

theorem frame_inproj_ideal : Cert.quiescent_InprojIdeal := fun m ρ _ => Cert.InprojIdeal.Gen.frame m ρ

theorem frame_inproj_reference : Cert.quiescent_InprojReferenceIdeal := fun m ρ _ =>
  (θ_run Cert.InprojReferenceIdeal.defs _ _).mono
    (fun r h => ⟨fun c => (h c).2, Idealize.ShloMosaic.sem_eq_zero_of_no_sems (by decide) r.2⟩)
    (Cert.InprojReferenceIdeal.Value.run (F := Ideal) m ρ)

/-- From agreeing operands the idealized feed-forward and its reference leave one array. -/
theorem algebraic_ff : Cert.algebraic_FfIdeal_FfReferenceIdeal := fun m ρ m' ρ' _ h =>
  ⟨fun c => Cert.FfReferenceIdeal.Value.res_main_v30 m' c,
    (θ_run Cert.FfIdeal.defs _ _).mono
      (fun _ hr c =>
        ⟨((hr.1 c).1 5).trans (Cert.FfMatch.call_eq m m' c (h c).1 (h c).2.1 (h c).2.2.1 (h c).2.2.2.1 (h c).2.2.2.2),
          ((hr.1 c).1 0).trans (((Cert.FfIdeal.Gen.dats m 0 c).arrAt_in 0 rfl _).trans ((Cert.FfIdeal.Gen.A_eq m c 0).trans rfl)),
          ((hr.1 c).1 1).trans (((Cert.FfIdeal.Gen.dats m 0 c).arrAt_in 1 rfl _).trans ((Cert.FfIdeal.Gen.A_eq m c 1).trans rfl)),
          ((hr.1 c).1 2).trans (((Cert.FfIdeal.Gen.dats m 0 c).arrAt_in 2 rfl _).trans ((Cert.FfIdeal.Gen.A_eq m c 2).trans rfl)),
          ((hr.1 c).1 3).trans (((Cert.FfIdeal.Gen.dats m 0 c).arrAt_in 3 rfl _).trans ((Cert.FfIdeal.Gen.A_eq m c 3).trans rfl)),
          ((hr.1 c).1 4).trans (((Cert.FfIdeal.Gen.dats m 0 c).arrAt_in 4 rfl _).trans ((Cert.FfIdeal.Gen.A_eq m c 4).trans rfl))⟩)
      (Cert.FfIdeal.Gen.run_main_quiescent m ρ),
    Cert.FfReferenceIdeal.Value.run (F := Ideal) m' ρ'⟩

/-- From agreeing operands the idealized projection and its reference leave one array. -/
theorem algebraic_inproj : Cert.algebraic_InprojIdeal_InprojReferenceIdeal := fun m ρ m' ρ' _ h =>
  ⟨fun c => Cert.InprojReferenceIdeal.Value.projected (m' ((c.tc : Thread Cert.InprojReferenceIdeal.nD Cert.InprojReferenceIdeal.τ).loc Cert.InprojReferenceIdeal.main_arg0))
      (m' ((c.tc : Thread Cert.InprojReferenceIdeal.nD Cert.InprojReferenceIdeal.τ).loc Cert.InprojReferenceIdeal.main_arg1))
      (m' ((c.tc : Thread Cert.InprojReferenceIdeal.nD Cert.InprojReferenceIdeal.τ).loc Cert.InprojReferenceIdeal.main_arg2)),
    (θ_run Cert.InprojIdeal.defs _ _).mono
      (fun _ hr c =>
        ⟨((hr.1 c).1 3).trans (Cert.InprojMatch.call_eq m m' c (h c).1 (h c).2.1 (h c).2.2),
          ((hr.1 c).1 0).trans (((Cert.InprojIdeal.Gen.dats m 0 c).arrAt_in 0 rfl _).trans ((Cert.InprojIdeal.Gen.A_eq m c 0).trans rfl)),
          ((hr.1 c).1 1).trans (((Cert.InprojIdeal.Gen.dats m 0 c).arrAt_in 1 rfl _).trans ((Cert.InprojIdeal.Gen.A_eq m c 1).trans rfl)),
          ((hr.1 c).1 2).trans (((Cert.InprojIdeal.Gen.dats m 0 c).arrAt_in 2 rfl _).trans ((Cert.InprojIdeal.Gen.A_eq m c 2).trans rfl))⟩)
      (Cert.InprojIdeal.Gen.run_main_quiescent m ρ),
    Cert.InprojReferenceIdeal.Value.run (F := Ideal) m' ρ'⟩

/-- The feed-forward of a layer that is not the last, at the machine's words and idealized. -/
theorem frame_inner : Cert.quiescent_Inner := fun m ρ _ => Cert.Inner.Gen.frame m ρ

theorem frame_inner_ideal : Cert.quiescent_InnerIdeal := fun m ρ _ => Cert.InnerIdeal.Gen.frame m ρ

theorem frame_inner_reference : Cert.quiescent_InnerReferenceIdeal := fun m ρ _ =>
  (θ_run Cert.InnerReferenceIdeal.defs _ _).mono
    (fun r h => ⟨fun c => (h c).2, Idealize.ShloMosaic.sem_eq_zero_of_no_sems (by decide) r.2⟩)
    (Cert.InnerReferenceIdeal.Value.run (F := Ideal) m ρ)

/-- From agreeing operands the idealized inner feed-forward and its reference leave one array. -/
theorem algebraic_inner : Cert.algebraic_InnerIdeal_InnerReferenceIdeal := fun m ρ m' ρ' _ h =>
  ⟨fun c => Cert.InnerReferenceIdeal.Value.forward (m' ((c.tc : Thread Cert.InnerReferenceIdeal.nD Cert.InnerReferenceIdeal.τ).loc Cert.InnerReferenceIdeal.main_arg0))
      (m' ((c.tc : Thread Cert.InnerReferenceIdeal.nD Cert.InnerReferenceIdeal.τ).loc Cert.InnerReferenceIdeal.main_arg1))
      (m' ((c.tc : Thread Cert.InnerReferenceIdeal.nD Cert.InnerReferenceIdeal.τ).loc Cert.InnerReferenceIdeal.main_arg2))
      (m' ((c.tc : Thread Cert.InnerReferenceIdeal.nD Cert.InnerReferenceIdeal.τ).loc Cert.InnerReferenceIdeal.main_arg3)),
    (θ_run Cert.InnerIdeal.defs _ _).mono
      (fun _ hr c =>
        ⟨((hr.1 c).1 5).trans (Cert.InnerMatch.call_eq m m' c (h c).1 (h c).2.1 (h c).2.2.1 (h c).2.2.2.1 (h c).2.2.2.2),
          ((hr.1 c).1 0).trans (((Cert.InnerIdeal.Gen.dats m 0 c).arrAt_in 0 rfl _).trans ((Cert.InnerIdeal.Gen.A_eq m c 0).trans rfl)),
          ((hr.1 c).1 1).trans (((Cert.InnerIdeal.Gen.dats m 0 c).arrAt_in 1 rfl _).trans ((Cert.InnerIdeal.Gen.A_eq m c 1).trans rfl)),
          ((hr.1 c).1 2).trans (((Cert.InnerIdeal.Gen.dats m 0 c).arrAt_in 2 rfl _).trans ((Cert.InnerIdeal.Gen.A_eq m c 2).trans rfl)),
          ((hr.1 c).1 3).trans (((Cert.InnerIdeal.Gen.dats m 0 c).arrAt_in 3 rfl _).trans ((Cert.InnerIdeal.Gen.A_eq m c 3).trans rfl)),
          ((hr.1 c).1 4).trans (((Cert.InnerIdeal.Gen.dats m 0 c).arrAt_in 4 rfl _).trans ((Cert.InnerIdeal.Gen.A_eq m c 4).trans rfl))⟩)
      (Cert.InnerIdeal.Gen.run_main_quiescent m ρ),
    Cert.InnerReferenceIdeal.Value.run (F := Ideal) m' ρ'⟩

/-- The mixing, at the machine's words and idealized. -/
theorem frame_mix : Cert.quiescent_Mix := fun m ρ _ => Cert.Mix.Gen.frame m ρ

theorem frame_mix_ideal : Cert.quiescent_MixIdeal := fun m ρ _ => Cert.MixIdeal.Gen.frame m ρ

theorem frame_mix_reference : Cert.quiescent_MixReferenceIdeal := fun m ρ _ =>
  (θ_run Cert.MixReferenceIdeal.defs _ _).mono
    (fun r h => ⟨fun c => (h c).2, Idealize.ShloMosaic.sem_eq_zero_of_no_sems (by decide) r.2⟩)
    (Cert.MixReferenceIdeal.Value.run (F := Ideal) m ρ)

/-- From agreeing operands the idealized mixing and its reference leave one array. -/
theorem algebraic_mix : Cert.algebraic_MixIdeal_MixReferenceIdeal := fun m ρ m' ρ' _ h =>
  ⟨fun c => Cert.MixReferenceIdeal.Value.mixing (m' ((c.tc : Thread Cert.MixReferenceIdeal.nD Cert.MixReferenceIdeal.τ).loc Cert.MixReferenceIdeal.main_arg0))
      (m' ((c.tc : Thread Cert.MixReferenceIdeal.nD Cert.MixReferenceIdeal.τ).loc Cert.MixReferenceIdeal.main_arg1))
      (m' ((c.tc : Thread Cert.MixReferenceIdeal.nD Cert.MixReferenceIdeal.τ).loc Cert.MixReferenceIdeal.main_arg2))
      (m' ((c.tc : Thread Cert.MixReferenceIdeal.nD Cert.MixReferenceIdeal.τ).loc Cert.MixReferenceIdeal.main_arg3))
      (m' ((c.tc : Thread Cert.MixReferenceIdeal.nD Cert.MixReferenceIdeal.τ).loc Cert.MixReferenceIdeal.main_arg4))
      (m' ((c.tc : Thread Cert.MixReferenceIdeal.nD Cert.MixReferenceIdeal.τ).loc Cert.MixReferenceIdeal.main_arg5))
      (m' ((c.tc : Thread Cert.MixReferenceIdeal.nD Cert.MixReferenceIdeal.τ).loc Cert.MixReferenceIdeal.main_arg6))
      (m' ((c.tc : Thread Cert.MixReferenceIdeal.nD Cert.MixReferenceIdeal.τ).loc Cert.MixReferenceIdeal.main_arg7)),
    (θ_run Cert.MixIdeal.defs _ _).mono
      (fun _ hr c =>
        ⟨((hr.1 c).1 14).trans (Cert.MixMatch.call_eq m m' c (h c).1 (h c).2.1 (h c).2.2.1 (h c).2.2.2.1 (h c).2.2.2.2.1 (h c).2.2.2.2.2.1 (h c).2.2.2.2.2.2.1 (h c).2.2.2.2.2.2.2),
          ((hr.1 c).1 0).trans (((Cert.MixIdeal.Gen.dats m 0 c).arrAt_in 0 rfl _).trans ((Cert.MixIdeal.Gen.A_eq m c 0).trans rfl)),
          ((hr.1 c).1 1).trans (((Cert.MixIdeal.Gen.dats m 0 c).arrAt_in 1 rfl _).trans ((Cert.MixIdeal.Gen.A_eq m c 1).trans rfl)),
          ((hr.1 c).1 8).trans (((Cert.MixIdeal.Gen.dats m 0 c).arrAt_in 8 rfl _).trans ((Cert.MixIdeal.Gen.A_eq m c 8).trans rfl)),
          ((hr.1 c).1 9).trans (((Cert.MixIdeal.Gen.dats m 0 c).arrAt_in 9 rfl _).trans ((Cert.MixIdeal.Gen.A_eq m c 9).trans rfl)),
          ((hr.1 c).1 10).trans (((Cert.MixIdeal.Gen.dats m 0 c).arrAt_in 10 rfl _).trans ((Cert.MixIdeal.Gen.A_eq m c 10).trans rfl)),
          ((hr.1 c).1 11).trans (((Cert.MixIdeal.Gen.dats m 0 c).arrAt_in 11 rfl _).trans ((Cert.MixIdeal.Gen.A_eq m c 11).trans rfl)),
          ((hr.1 c).1 12).trans (((Cert.MixIdeal.Gen.dats m 0 c).arrAt_in 12 rfl _).trans ((Cert.MixIdeal.Gen.A_eq m c 12).trans rfl)),
          ((hr.1 c).1 13).trans (((Cert.MixIdeal.Gen.dats m 0 c).arrAt_in 13 rfl _).trans ((Cert.MixIdeal.Gen.A_eq m c 13).trans rfl))⟩)
      (Cert.MixIdeal.Gen.run_main_quiescent m ρ),
    Cert.MixReferenceIdeal.Value.run (F := Ideal) m' ρ'⟩

/-- The preparation's queries and values, at the machine's words and idealized. -/
theorem frame_prep : Cert.quiescent_Prep := fun m ρ _ => Cert.Prep.Gen.frame m ρ

theorem frame_prep_ideal : Cert.quiescent_PrepIdeal := fun m ρ _ => Cert.PrepIdeal.Gen.frame m ρ

theorem frame_prep_reference : Cert.quiescent_PrepReferenceIdeal := fun m ρ _ =>
  (θ_run Cert.PrepReferenceIdeal.defs _ _).mono
    (fun r h => ⟨fun c => (h c).2.2, Idealize.ShloMosaic.sem_eq_zero_of_no_sems (by decide) r.2⟩)
    (Cert.PrepReferenceIdeal.Value.run (F := Ideal) m ρ)

/-- From agreeing operands the idealized preparation and its reference leave the same queries and the same values. -/
theorem algebraic_prep : Cert.algebraic_PrepIdeal_PrepReferenceIdeal := fun m ρ m' ρ' _ h =>
  ⟨fun c => Cert.PrepReferenceIdeal.Value.queries (m' ((c.tc : Thread Cert.PrepReferenceIdeal.nD Cert.PrepReferenceIdeal.τ).loc Cert.PrepReferenceIdeal.main_arg0))
      (m' ((c.tc : Thread Cert.PrepReferenceIdeal.nD Cert.PrepReferenceIdeal.τ).loc Cert.PrepReferenceIdeal.main_arg1))
      (m' ((c.tc : Thread Cert.PrepReferenceIdeal.nD Cert.PrepReferenceIdeal.τ).loc Cert.PrepReferenceIdeal.main_arg2)),
    fun c => Cert.PrepReferenceIdeal.Value.values (m' ((c.tc : Thread Cert.PrepReferenceIdeal.nD Cert.PrepReferenceIdeal.τ).loc Cert.PrepReferenceIdeal.main_arg0))
      (m' ((c.tc : Thread Cert.PrepReferenceIdeal.nD Cert.PrepReferenceIdeal.τ).loc Cert.PrepReferenceIdeal.main_arg1))
      (m' ((c.tc : Thread Cert.PrepReferenceIdeal.nD Cert.PrepReferenceIdeal.τ).loc Cert.PrepReferenceIdeal.main_arg2)),
    (θ_run Cert.PrepIdeal.defs _ _).mono
      (fun _ hr c =>
        ⟨((hr.1 c).1 5).trans (Cert.PrepMatch.queries_same m m' c (h c).1 (h c).2.1 (h c).2.2.1),
          ((hr.1 c).1 7).trans (Cert.PrepMatch.values_same m m' c (h c).1 (h c).2.1 (h c).2.2.1),
          ((hr.1 c).1 0).trans (((Cert.PrepIdeal.Gen.dats m 0 c).arrAt_in 0 rfl _).trans ((Cert.PrepIdeal.Gen.A_eq m c 0).trans rfl)),
          ((hr.1 c).1 1).trans (((Cert.PrepIdeal.Gen.dats m 0 c).arrAt_in 1 rfl _).trans ((Cert.PrepIdeal.Gen.A_eq m c 1).trans rfl)),
          ((hr.1 c).1 2).trans (((Cert.PrepIdeal.Gen.dats m 0 c).arrAt_in 2 rfl _).trans ((Cert.PrepIdeal.Gen.A_eq m c 2).trans rfl)),
          ((hr.1 c).1 3).trans (((Cert.PrepIdeal.Gen.dats m 0 c).arrAt_in 3 rfl _).trans ((Cert.PrepIdeal.Gen.A_eq m c 3).trans rfl)),
          ((hr.1 c).1 4).trans (((Cert.PrepIdeal.Gen.dats m 0 c).arrAt_in 4 rfl _).trans ((Cert.PrepIdeal.Gen.A_eq m c 4).trans rfl))⟩)
      (Cert.PrepIdeal.Gen.run_main_quiescent m ρ),
    Cert.PrepReferenceIdeal.Value.run (F := Ideal) m' ρ'⟩

/-- The whole claim. -/
theorem claim : Cert.Claim := ⟨Cert.Kernel.Gen.facts, Cert.KernelIdeal.Gen.facts, Cert.ReferenceIdeal.Gen.facts,
  Cert.Ff.Gen.facts, Cert.FfIdeal.Gen.facts, Cert.FfReferenceIdeal.Gen.facts,
  Cert.Inproj.Gen.facts, Cert.InprojIdeal.Gen.facts, Cert.InprojReferenceIdeal.Gen.facts,
  Cert.Inner.Gen.facts, Cert.InnerIdeal.Gen.facts, Cert.InnerReferenceIdeal.Gen.facts,
  Cert.Mix.Gen.facts, Cert.MixIdeal.Gen.facts, Cert.MixReferenceIdeal.Gen.facts,
  Cert.Prep.Gen.facts, Cert.PrepIdeal.Gen.facts, Cert.PrepReferenceIdeal.Gen.facts, Cert.Pre_well_formed.facts,
  frame_p, frame_pi, fun m ρ _ => Cert.KernelIdeal.Attend.frame m ρ, frame_ri, fun m ρ _ => frame_ri m ρ trivial,
  frame_ff, frame_ff_ideal, frame_ff_reference, frame_inproj, frame_inproj_ideal, frame_inproj_reference,
  frame_inner, frame_inner_ideal, frame_inner_reference, frame_mix, frame_mix_ideal, frame_mix_reference,
  frame_prep, frame_prep_ideal, frame_prep_reference,
  preserves, algebraic, trivial, algebraic_ff, trivial, algebraic_inproj, trivial, algebraic_inner, trivial, algebraic_mix,
  trivial, algebraic_prep⟩

end Cert.Proof

end
